-- ==== Defs.lean ====
def Pre_Kernel [hPre_launched : Cert.Pre_launched.Facts] (m : (ℓ : Loc Cert.Kernel.nD Cert.Kernel.τ Cert.Kernel.sig) → Buf (Elt Bits) ℓ) : Prop :=
  ∀ c : Dev Cert.Kernel.nD,
    (Cert.Pre_launched.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_launched : Cert.Pre_launched.Facts] (m : (ℓ : Loc Cert.KernelIdeal.nD Cert.KernelIdeal.τ Cert.KernelIdeal.sig) → Buf (Elt Ideal) ℓ) : Prop :=
  ∀ c : Dev Cert.KernelIdeal.nD,
    (Cert.Pre_launched.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_launched : Cert.Pre_launched.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_launched.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] [hPre_launched : Cert.Pre_launched.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_launched : Cert.Pre_launched.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_launched : Cert.Pre_launched.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.bf16_pair.BufferStatement Cert.KernelIdeal.S38912x2x1024 Cert.KernelIdeal.S38912x1x1024
  ∧ IdealRules.bf16_pair.BufferStatement Cert.KernelIdeal.S256x2x1024 Cert.KernelIdeal.S256x1x1024
  ∧ IdealRules.bf16_pair.PackStatement Cert.KernelIdeal.S256x1024
  ∧ IdealRules.bf16_pair.Statement Cert.KernelIdeal.S256x2x1024 Cert.KernelIdeal.S256x1x1024
  ∧ IdealRules.bf16_pair.SelectZeroStatement Cert.KernelIdeal.S256x1024
  ∧ IdealRules.bf16_pair.Statement Cert.KernelIdeal.S512x1024 Cert.KernelIdeal.S256x1024

def algebraic_KernelIdeal_ReferenceIdeal [hKernelIdeal : Cert.KernelIdeal.Facts] [hReferenceIdeal : Cert.ReferenceIdeal.Facts] [hPre_launched : Cert.Pre_launched.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_v44) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  IdealRules.bf16_pair.BufferStatement Cert.Kernel6Ideal.S32768x2x1024 Cert.Kernel6Ideal.S32768x1x1024
  ∧ IdealRules.bf16_pair.BufferStatement Cert.Kernel6Ideal.S512x2x1024 Cert.Kernel6Ideal.S512x1x1024
  ∧ IdealRules.bf16_pair.PackStatement Cert.Kernel6Ideal.S256x1024
  ∧ IdealRules.bf16_pair.Statement Cert.Kernel6Ideal.S256x2x1024 Cert.Kernel6Ideal.S256x1x1024

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  IdealRules.bf16_pair.BufferStatement Cert.Kernel7Ideal.S32768x2x1024 Cert.Kernel7Ideal.S32768x1x1024
  ∧ IdealRules.bf16_pair.BufferStatement Cert.Kernel7Ideal.S512x2x1024 Cert.Kernel7Ideal.S512x1x1024
  ∧ IdealRules.bf16_pair.PackStatement Cert.Kernel7Ideal.S256x1024
  ∧ IdealRules.bf16_pair.Statement Cert.Kernel7Ideal.S256x2x1024 Cert.Kernel7Ideal.S256x1x1024

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v3_0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v144) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel4 : Cert.Kernel4.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_launched : Cert.Pre_launched.Facts),
    quiescent_Kernel (hKernel := hKernel) (hPre_launched := hPre_launched)
    ∧ quiescent_KernelIdeal (hKernelIdeal := hKernelIdeal) (hPre_launched := hPre_launched)
    ∧ quiescent_ReferenceIdeal (hReferenceIdeal := hReferenceIdeal) (hPre_launched := hPre_launched)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel4 (hKernel4 := hKernel4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal) (hPre_launched := hPre_launched)
    ∧ preserves_Kernel2_Kernel2Ideal
    ∧ algebraic_Kernel2Ideal_Reference2Ideal (hKernel2Ideal := hKernel2Ideal) (hReference2Ideal := hReference2Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_launched.lean ====
abbrev S152 : Shape := ⟨1, ![152]⟩
abbrev S1 : Shape := ⟨1, ![1]⟩
abbrev S38912x1152 : Shape := ⟨2, ![38912, 1152]⟩
abbrev S32x2048x512 : Shape := ⟨3, ![32, 2048, 512]⟩
abbrev S32x512x2048 : Shape := ⟨3, ![32, 512, 2048]⟩
abbrev S_ : Shape := ⟨0, ![]⟩

class Facts : Prop where
  bcast_S_S152 : S_.BroadcastsInDim S152 (![] : Fin 0 → Fin S152.rank)
  reducesTo_S152_S_d0 : S152.ReducesTo [0] S_
  h_S_ : 0 < S_.numel
  shapeCasts_S1_S_ : S1.ShapeCasts S_

variable [Facts]

def fn {F : FTy → Type} [FloatOps F] (main_arg0 : IVec S152 32) (main_arg1 : IVec S152 32) (main_arg2 : IVec S1 32) (main_arg3 : IVec S38912x1152 32) (main_arg4 : FVec F S32x2048x512 .bf16) (main_arg5 : FVec F S32x2048x512 .bf16) (main_arg6 : FVec F S32x512x2048 .bf16) : IVec S_ 1 :=
  let main_c : IVec S_ 32 := constantI S_ 32 0#32
  let main_v0 : IVec S152 32 := broadcastInDim S152 ![] bcast_S_S152 main_c
  let main_v1 : IVec S152 1 := cmpi .sge main_arg0 main_v0
  let main_v2 : IVec S152 1 := cmpi .slt main_arg0 main_arg1
  let main_v3 : IVec S152 1 := andi main_v1 main_v2
  let main_c_0 : IVec S_ 32 := constantI S_ 32 32#32
  let main_v4 : IVec S152 32 := broadcastInDim S152 ![] bcast_S_S152 main_c_0
  let main_v5 : IVec S152 1 := cmpi .slt main_arg1 main_v4
  let main_v6 : IVec S152 1 := andi main_v3 main_v5
  let main_c_1 : IVec S_ 1 := constantI S_ 1 1#1
  let main_v7 : IVec S_ 1 := (fun x v => Host.reduce IntOp.andi x v reducesTo_S152_S_d0 h_S_) main_v6 main_c_1
  let main_v8 : IVec S_ 32 := shapeCast S_ main_arg2 shapeCasts_S1_S_
  let main_c_2 : IVec S_ 32 := constantI S_ 32 1#32
  let main_v9 : IVec S_ 1 := cmpi .sge main_v8 main_c_2
  let main_v10 : IVec S_ 1 := andi main_v7 main_v9
  let main_v11 : IVec S_ 32 := shapeCast S_ main_arg2 shapeCasts_S1_S_
  let main_c_3 : IVec S_ 32 := constantI S_ 32 152#32
  let main_v12 : IVec S_ 1 := cmpi .sle main_v11 main_c_3
  let main_v13 : IVec S_ 1 := andi main_v10 main_v12
  main_v13
-- ==== Kernel.lean ====
abbrev S152 : Shape := ⟨1, ![152]⟩
abbrev S1 : Shape := ⟨1, ![1]⟩
abbrev S38912x1152 : Shape := ⟨2, ![38912, 1152]⟩
abbrev S32x2048x512 : Shape := ⟨3, ![32, 2048, 512]⟩
abbrev S32x512x2048 : Shape := ⟨3, ![32, 512, 2048]⟩
abbrev S38912x1024 : Shape := ⟨2, ![38912, 1024]⟩
abbrev S256x1152 : Shape := ⟨2, ![256, 1152]⟩
abbrev S1x2048x512 : Shape := ⟨3, ![1, 2048, 512]⟩
abbrev S1x512x2048 : Shape := ⟨3, ![1, 512, 2048]⟩
abbrev S256x1024 : Shape := ⟨2, ![256, 1024]⟩
abbrev S256x2048 : Shape := ⟨2, ![256, 2048]⟩
abbrev S2048x512 : Shape := ⟨2, ![2048, 512]⟩
abbrev S256x512 : Shape := ⟨2, ![256, 512]⟩
abbrev S256x1 : Shape := ⟨2, ![256, 1]⟩
abbrev S512x2048 : Shape := ⟨2, ![512, 2048]⟩
abbrev S38912x2048 : Shape := ⟨2, ![38912, 2048]⟩

abbrev nBuf : Space → Nat
  | .hbm => 6
  | .vmem => 20
  | .smem => 3
  | _ => 0

abbrev bufTy : (tb : Table) → Fin (tcTables nBuf tb) → BufTy
  | .hbm, ⟨0, _⟩ => ⟨S38912x1152, .i32⟩
  | .hbm, ⟨1, _⟩ => ⟨S32x2048x512, .bf16⟩
  | .hbm, ⟨2, _⟩ => ⟨S32x2048x512, .bf16⟩
  | .hbm, ⟨3, _⟩ => ⟨S32x512x2048, .bf16⟩
  | .hbm, ⟨4, _⟩ => ⟨S38912x1024, .i32⟩
  | .hbm, ⟨5, _⟩ => ⟨S38912x2048, .f32⟩
  | .local _ .vmem, ⟨0, _⟩ => ⟨S256x1152, .i32⟩
  | .local _ .vmem, ⟨1, _⟩ => ⟨S256x1152, .i32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x512x2048, .bf16⟩
  | .local _ .vmem, ⟨13, _⟩ => ⟨S1x512x2048, .bf16⟩
  | .local _ .vmem, ⟨14, _⟩ => ⟨S256x1024, .i32⟩
  | .local _ .vmem, ⟨15, _⟩ => ⟨S256x1024, .i32⟩
  | .local _ .vmem, ⟨16, _⟩ => ⟨S256x1024, .i32⟩
  | .local _ .vmem, ⟨17, _⟩ => ⟨S256x1024, .i32⟩
  | .local _ .vmem, ⟨18, _⟩ => ⟨S256x2048, .f32⟩
  | .local _ .vmem, ⟨19, _⟩ => ⟨S256x2048, .f32⟩
  | .local _ .smem, ⟨0, _⟩ => ⟨S152, .i32⟩
  | .local _ .smem, ⟨1, _⟩ => ⟨S152, .i32⟩
  | .local _ .smem, ⟨2, _⟩ => ⟨S1, .i32⟩
  | _, _ => ⟨S38912x1152, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19

abbrev nD : Nat := 1
abbrev τ : Topo := Topo.v7x

variable {F : FTy → Type} [BitOps F]

abbrev grid0 : Pipeline.Grid := ⟨1, ![152], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![152], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== KernelIdeal.lean ====
abbrev S152 : Shape := ⟨1, ![152]⟩
abbrev S1 : Shape := ⟨1, ![1]⟩
abbrev S38912x1152 : Shape := ⟨2, ![38912, 1152]⟩
abbrev S32x2048x512 : Shape := ⟨3, ![32, 2048, 512]⟩
abbrev S32x512x2048 : Shape := ⟨3, ![32, 512, 2048]⟩
abbrev S38912x2x1024 : Shape := ⟨3, ![38912, 2, 1024]⟩
abbrev S38912x1x1024 : Shape := ⟨3, ![38912, 1, 1024]⟩
abbrev S38912x1024 : Shape := ⟨2, ![38912, 1024]⟩
abbrev S256x1152 : Shape := ⟨2, ![256, 1152]⟩
abbrev S1x2048x512 : Shape := ⟨3, ![1, 2048, 512]⟩
abbrev S1x512x2048 : Shape := ⟨3, ![1, 512, 2048]⟩
abbrev S256x1024 : Shape := ⟨2, ![256, 1024]⟩
abbrev S256x2x1024 : Shape := ⟨3, ![256, 2, 1024]⟩
abbrev S256x1x1024 : Shape := ⟨3, ![256, 1, 1024]⟩
abbrev S256x2048 : Shape := ⟨2, ![256, 2048]⟩
abbrev S2048x512 : Shape := ⟨2, ![2048, 512]⟩
abbrev S256x512 : Shape := ⟨2, ![256, 512]⟩
abbrev S256x1 : Shape := ⟨2, ![256, 1]⟩
abbrev S512x2048 : Shape := ⟨2, ![512, 2048]⟩
abbrev S38912x2048 : Shape := ⟨2, ![38912, 2048]⟩
abbrev S512x1024 : Shape := ⟨2, ![512, 1024]⟩

abbrev nBuf : Space → Nat
  | .hbm => 6
  | .vmem => 20
  | .smem => 3
  | _ => 0

abbrev bufTy : (tb : Table) → Fin (tcTables nBuf tb) → BufTy
  | .hbm, ⟨0, _⟩ => ⟨S38912x1152, .i32⟩
  | .hbm, ⟨1, _⟩ => ⟨S32x2048x512, .bf16⟩
  | .hbm, ⟨2, _⟩ => ⟨S32x2048x512, .bf16⟩
  | .hbm, ⟨3, _⟩ => ⟨S32x512x2048, .bf16⟩
  | .hbm, ⟨4, _⟩ => ⟨S38912x2x1024, .bf16⟩
  | .hbm, ⟨5, _⟩ => ⟨S38912x2048, .f32⟩
  | .local _ .vmem, ⟨0, _⟩ => ⟨S256x1152, .i32⟩
  | .local _ .vmem, ⟨1, _⟩ => ⟨S256x1152, .i32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x512x2048, .bf16⟩
  | .local _ .vmem, ⟨13, _⟩ => ⟨S1x512x2048, .bf16⟩
  | .local _ .vmem, ⟨14, _⟩ => ⟨S256x2x1024, .bf16⟩
  | .local _ .vmem, ⟨15, _⟩ => ⟨S256x2x1024, .bf16⟩
  | .local _ .vmem, ⟨16, _⟩ => ⟨S256x2x1024, .bf16⟩
  | .local _ .vmem, ⟨17, _⟩ => ⟨S256x2x1024, .bf16⟩
  | .local _ .vmem, ⟨18, _⟩ => ⟨S256x2048, .f32⟩
  | .local _ .vmem, ⟨19, _⟩ => ⟨S256x2048, .f32⟩
  | .local _ .smem, ⟨0, _⟩ => ⟨S152, .i32⟩
  | .local _ .smem, ⟨1, _⟩ => ⟨S152, .i32⟩
  | .local _ .smem, ⟨2, _⟩ => ⟨S1, .i32⟩
  | _, _ => ⟨S38912x1152, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19

abbrev nD : Nat := 1
abbrev τ : Topo := Topo.v7x

variable {F : FTy → Type} [FloatOps F]

abbrev grid0 : Pipeline.Grid := ⟨1, ![152], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S256x1152 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![152], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S152 : Shape := ⟨1, ![152]⟩
abbrev S1 : Shape := ⟨1, ![1]⟩
abbrev S38912x1152 : Shape := ⟨2, ![38912, 1152]⟩
abbrev S32x2048x512 : Shape := ⟨3, ![32, 2048, 512]⟩
abbrev S32x512x2048 : Shape := ⟨3, ![32, 512, 2048]⟩
abbrev S38912x1024 : Shape := ⟨2, ![38912, 1024]⟩
abbrev S_ : Shape := ⟨0, ![]⟩
abbrev S38912x2048 : Shape := ⟨2, ![38912, 2048]⟩
abbrev S38912x2 : Shape := ⟨2, ![38912, 2]⟩
abbrev S152x1 : Shape := ⟨2, ![152, 1]⟩
abbrev S152x2 : Shape := ⟨2, ![152, 2]⟩
abbrev S152x256x2 : Shape := ⟨3, ![152, 256, 2]⟩
abbrev S38912x2x1 : Shape := ⟨3, ![38912, 2, 1]⟩
abbrev S1x1x32 : Shape := ⟨3, ![1, 1, 32]⟩
abbrev S38912x2x32 : Shape := ⟨3, ![38912, 2, 32]⟩
abbrev S38912x32 : Shape := ⟨2, ![38912, 32]⟩
abbrev S38912x32x512 : Shape := ⟨3, ![38912, 32, 512]⟩
abbrev S38912x32x1 : Shape := ⟨3, ![38912, 32, 1]⟩
abbrev S38912 : Shape := ⟨1, ![38912]⟩
abbrev S38912x1 : Shape := ⟨2, ![38912, 1]⟩

abbrev nBuf : Space → Nat
  | .hbm => 66
  | .vmem => 0
  | .smem => 0
  | _ => 0

abbrev bufTy : (tb : Table) → Fin (tcTables nBuf tb) → BufTy
  | .hbm, ⟨0, _⟩ => ⟨S152, .i32⟩
  | .hbm, ⟨1, _⟩ => ⟨S152, .i32⟩
  | .hbm, ⟨2, _⟩ => ⟨S1, .i32⟩
  | .hbm, ⟨3, _⟩ => ⟨S38912x1152, .i32⟩
  | .hbm, ⟨4, _⟩ => ⟨S32x2048x512, .bf16⟩
  | .hbm, ⟨5, _⟩ => ⟨S32x2048x512, .bf16⟩
  | .hbm, ⟨6, _⟩ => ⟨S32x512x2048, .bf16⟩
  | .hbm, ⟨7, _⟩ => ⟨S38912x1024, .i32⟩
  | .hbm, ⟨8, _⟩ => ⟨S_, .i32⟩
  | .hbm, ⟨9, _⟩ => ⟨S38912x1024, .i32⟩
  | .hbm, ⟨10, _⟩ => ⟨S38912x1024, .i32⟩
  | .hbm, ⟨11, _⟩ => ⟨S38912x1024, .f32⟩
  | .hbm, ⟨12, _⟩ => ⟨S_, .i32⟩
  | .hbm, ⟨13, _⟩ => ⟨S38912x1024, .i32⟩
  | .hbm, ⟨14, _⟩ => ⟨S38912x1024, .i32⟩
  | .hbm, ⟨15, _⟩ => ⟨S38912x1024, .f32⟩
  | .hbm, ⟨16, _⟩ => ⟨S38912x2048, .f32⟩
  | .hbm, ⟨17, _⟩ => ⟨S38912x2, .i32⟩
  | .hbm, ⟨18, _⟩ => ⟨S38912x2, .f32⟩
  | .hbm, ⟨19, _⟩ => ⟨S152x1, .i32⟩
  | .hbm, ⟨20, _⟩ => ⟨S152x1, .i32⟩
  | .hbm, ⟨21, _⟩ => ⟨S152x2, .i32⟩
  | .hbm, ⟨22, _⟩ => ⟨S152x256x2, .i32⟩
  | .hbm, ⟨23, _⟩ => ⟨S38912x2, .i32⟩
  | .hbm, ⟨24, _⟩ => ⟨S38912x2x1, .i32⟩
  | .hbm, ⟨25, _⟩ => ⟨S1x1x32, .i32⟩
  | .hbm, ⟨26, _⟩ => ⟨S38912x2x32, .i32⟩
  | .hbm, ⟨27, _⟩ => ⟨S38912x2x32, .i32⟩
  | .hbm, ⟨28, _⟩ => ⟨S38912x2x32, .i1⟩
  | .hbm, ⟨29, _⟩ => ⟨S38912x2x32, .f32⟩
  | .hbm, ⟨30, _⟩ => ⟨S38912x2x1, .f32⟩
  | .hbm, ⟨31, _⟩ => ⟨S38912x2x32, .f32⟩
  | .hbm, ⟨32, _⟩ => ⟨S38912x2x32, .f32⟩
  | .hbm, ⟨33, _⟩ => ⟨S_, .f32⟩
  | .hbm, ⟨34, _⟩ => ⟨S38912x32, .f32⟩
  | .hbm, ⟨35, _⟩ => ⟨S32x2048x512, .f32⟩
  | .hbm, ⟨36, _⟩ => ⟨S38912x32x512, .f32⟩
  | .hbm, ⟨37, _⟩ => ⟨S38912x32x512, .f32⟩
  | .hbm, ⟨38, _⟩ => ⟨S38912x32x512, .f32⟩
  | .hbm, ⟨39, _⟩ => ⟨S_, .f32⟩
  | .hbm, ⟨40, _⟩ => ⟨S38912x32x512, .f32⟩
  | .hbm, ⟨41, _⟩ => ⟨S38912x32x512, .f32⟩
  | .hbm, ⟨42, _⟩ => ⟨S_, .f32⟩
  | .hbm, ⟨43, _⟩ => ⟨S38912x32x512, .f32⟩
  | .hbm, ⟨44, _⟩ => ⟨S38912x32x512, .f32⟩
  | .hbm, ⟨45, _⟩ => ⟨S38912x32x512, .f32⟩
  | .hbm, ⟨46, _⟩ => ⟨S32x2048x512, .f32⟩
  | .hbm, ⟨47, _⟩ => ⟨S38912x32x512, .f32⟩
  | .hbm, ⟨48, _⟩ => ⟨S38912x32x512, .f32⟩
  | .hbm, ⟨49, _⟩ => ⟨S38912x32x1, .f32⟩
  | .hbm, ⟨50, _⟩ => ⟨S38912x32x512, .f32⟩
  | .hbm, ⟨51, _⟩ => ⟨S38912x32x512, .f32⟩
  | .hbm, ⟨52, _⟩ => ⟨S32x512x2048, .f32⟩
  | .hbm, ⟨53, _⟩ => ⟨S38912x2048, .f32⟩
  | .hbm, ⟨54, _⟩ => ⟨S38912, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S38912, .i32⟩
  | .hbm, ⟨59, _⟩ => ⟨S38912, .i1⟩
  | .hbm, ⟨60, _⟩ => ⟨S38912x1, .i1⟩
  | .hbm, ⟨61, _⟩ => ⟨S_, .f32⟩
  | .hbm, ⟨62, _⟩ => ⟨S_, .f32⟩
  | .hbm, ⟨63, _⟩ => ⟨S38912x2048, .i1⟩
  | .hbm, ⟨64, _⟩ => ⟨S38912x2048, .f32⟩
  | .hbm, ⟨65, _⟩ => ⟨S38912x2048, .f32⟩
  | _, _ => ⟨S152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_1 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_2 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v37 : Ref sig .tc := ⟨.hbm, 65, rfl⟩

abbrev nD : Nat := 1
abbrev τ : Topo := Topo.v7x

variable {F : FTy → Type} [FloatOps F]
-- ==== Kernel2.lean ====
abbrev S32768x2048 : Shape := ⟨2, ![32768, 2048]⟩
abbrev S2048 : Shape := ⟨1, ![2048]⟩
abbrev S2048x6144 : Shape := ⟨2, ![2048, 6144]⟩
abbrev S128 : Shape := ⟨1, ![128]⟩
abbrev S_ : Shape := ⟨0, ![]⟩
abbrev S1x128 : Shape := ⟨2, ![1, 128]⟩
abbrev S16x128 : Shape := ⟨2, ![16, 128]⟩
abbrev S6144 : Shape := ⟨1, ![6144]⟩
abbrev S1x2048 : Shape := ⟨2, ![1, 2048]⟩
abbrev S1x6144 : Shape := ⟨2, ![1, 6144]⟩
abbrev S32768x6144 : Shape := ⟨2, ![32768, 6144]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩
abbrev S1024x128 : Shape := ⟨2, ![1024, 128]⟩

abbrev nBuf : Space → Nat
  | .hbm => 22
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S2048x6144, .bf16⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S16x128, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S1x128, .f32⟩
  | .hbm, ⟨15, _⟩ => ⟨S16x128, .f32⟩
  | .hbm, ⟨16, _⟩ => ⟨S2048, .f32⟩
  | .hbm, ⟨17, _⟩ => ⟨S6144, .f32⟩
  | .hbm, ⟨18, _⟩ => ⟨S1x2048, .f32⟩
  | .hbm, ⟨19, _⟩ => ⟨S1x2048, .f32⟩
  | .hbm, ⟨20, _⟩ => ⟨S1x6144, .f32⟩
  | .hbm, ⟨21, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x2048, .bf16⟩
  | .local _ .vmem, ⟨11, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 6], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .sge arg1 c2_i32_2
  let c4_i32 : BitVec 32 := 4#32
  let v7 : BitVec 1 := Scalar.cmpi .slt arg1 c4_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c4_i32_4 : BitVec 32 := 4#32
  let v11 : BitVec 1 := Scalar.cmpi .sge arg1 c4_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S32768x2048 : Shape := ⟨2, ![32768, 2048]⟩
abbrev S2048 : Shape := ⟨1, ![2048]⟩
abbrev S2048x6144 : Shape := ⟨2, ![2048, 6144]⟩
abbrev S128 : Shape := ⟨1, ![128]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S2048x4096 : Shape := ⟨2, ![2048, 4096]⟩
abbrev S32768x4096 : Shape := ⟨2, ![32768, 4096]⟩
abbrev S32768x16x128 : Shape := ⟨3, ![32768, 16, 128]⟩
abbrev S32768x16 : Shape := ⟨2, ![32768, 16]⟩
abbrev S32768x16x1 : Shape := ⟨3, ![32768, 16, 1]⟩
abbrev S1x1x128 : Shape := ⟨3, ![1, 1, 128]⟩
abbrev S2048x2048 : Shape := ⟨2, ![2048, 2048]⟩
abbrev S32768x6144 : Shape := ⟨2, ![32768, 6144]⟩

abbrev nBuf : Space → Nat
  | .hbm => 86
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S2048x6144, .bf16⟩
  | .hbm, ⟨4, _⟩ => ⟨S128, .f32⟩
  | .hbm, ⟨5, _⟩ => ⟨S128, .f32⟩
  | .hbm, ⟨6, _⟩ => ⟨S2048x6144, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S2048x4096, .f32⟩
  | .hbm, ⟨24, _⟩ => ⟨S32768x4096, .f32⟩
  | .hbm, ⟨25, _⟩ => ⟨S32768x2048, .f32⟩
  | .hbm, ⟨26, _⟩ => ⟨S32768x16x128, .f32⟩
  | .hbm, ⟨27, _⟩ => ⟨S32768x16x128, .f32⟩
  | .hbm, ⟨28, _⟩ => ⟨S_, .f32⟩
  | .hbm, ⟨29, _⟩ => ⟨S32768x16, .f32⟩
  | .hbm, ⟨30, _⟩ => ⟨S32768x16x1, .f32⟩
  | .hbm, ⟨31, _⟩ => ⟨S_, .f32⟩
  | .hbm, ⟨32, _⟩ => ⟨S32768x16x1, .f32⟩
  | .hbm, ⟨33, _⟩ => ⟨S32768x16x1, .f32⟩
  | .hbm, ⟨34, _⟩ => ⟨S_, .f32⟩
  | .hbm, ⟨35, _⟩ => ⟨S32768x16x1, .f32⟩
  | .hbm, ⟨36, _⟩ => ⟨S32768x16x1, .f32⟩
  | .hbm, ⟨37, _⟩ => ⟨S32768x16x1, .f32⟩
  | .hbm, ⟨38, _⟩ => ⟨S32768x16x128, .f32⟩
  | .hbm, ⟨39, _⟩ => ⟨S32768x16x128, .f32⟩
  | .hbm, ⟨40, _⟩ => ⟨S1x1x128, .f32⟩
  | .hbm, ⟨41, _⟩ => ⟨S32768x16x128, .f32⟩
  | .hbm, ⟨42, _⟩ => ⟨S32768x16x128, .f32⟩
  | .hbm, ⟨43, _⟩ => ⟨S32768x2048, .f32⟩
  | .hbm, ⟨44, _⟩ => ⟨S32768x2048, .f32⟩
  | .hbm, ⟨45, _⟩ => ⟨S32768x2048, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x2048, .f32⟩
  | .hbm, ⟨57, _⟩ => ⟨S32768x2048, .f32⟩
  | .hbm, ⟨58, _⟩ => ⟨S1x2048, .f32⟩
  | .hbm, ⟨59, _⟩ => ⟨S32768x2048, .f32⟩
  | .hbm, ⟨60, _⟩ => ⟨S32768x2048, .f32⟩
  | .hbm, ⟨61, _⟩ => ⟨S2048x2048, .f32⟩
  | .hbm, ⟨62, _⟩ => ⟨S32768x2048, .f32⟩
  | .hbm, ⟨63, _⟩ => ⟨S32768x16x128, .f32⟩
  | .hbm, ⟨64, _⟩ => ⟨S32768x16x128, .f32⟩
  | .hbm, ⟨65, _⟩ => ⟨S_, .f32⟩
  | .hbm, ⟨66, _⟩ => ⟨S32768x16, .f32⟩
  | .hbm, ⟨67, _⟩ => ⟨S32768x16x1, .f32⟩
  | .hbm, ⟨68, _⟩ => ⟨S_, .f32⟩
  | .hbm, ⟨69, _⟩ => ⟨S32768x16x1, .f32⟩
  | .hbm, ⟨70, _⟩ => ⟨S32768x16x1, .f32⟩
  | .hbm, ⟨71, _⟩ => ⟨S_, .f32⟩
  | .hbm, ⟨72, _⟩ => ⟨S32768x16x1, .f32⟩
  | .hbm, ⟨73, _⟩ => ⟨S32768x16x1, .f32⟩
  | .hbm, ⟨74, _⟩ => ⟨S32768x16x1, .f32⟩
  | .hbm, ⟨75, _⟩ => ⟨S32768x16x128, .f32⟩
  | .hbm, ⟨76, _⟩ => ⟨S32768x16x128, .f32⟩
  | .hbm, ⟨77, _⟩ => ⟨S1x1x128, .f32⟩
  | .hbm, ⟨78, _⟩ => ⟨S32768x16x128, .f32⟩
  | .hbm, ⟨79, _⟩ => ⟨S32768x16x128, .f32⟩
  | .hbm, ⟨80, _⟩ => ⟨S32768x2048, .f32⟩
  | .hbm, ⟨81, _⟩ => ⟨S_, .f32⟩
  | .hbm, ⟨82, _⟩ => ⟨S32768x2048, .f32⟩
  | .hbm, ⟨83, _⟩ => ⟨S32768x2048, .f32⟩
  | .hbm, ⟨84, _⟩ => ⟨S32768x6144, .f32⟩
  | .hbm, ⟨85, _⟩ => ⟨S32768x6144, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== Kernel3.lean ====
abbrev S32768x2048 : Shape := ⟨2, ![32768, 2048]⟩
abbrev S2048x2048 : Shape := ⟨2, ![2048, 2048]⟩
abbrev S1x2048 : Shape := ⟨2, ![1, 2048]⟩
abbrev S2048x128 : Shape := ⟨2, ![2048, 128]⟩
abbrev S1x128 : Shape := ⟨2, ![1, 128]⟩
abbrev S32768x1152 : Shape := ⟨2, ![32768, 1152]⟩
abbrev S128x8x256 : Shape := ⟨3, ![128, 8, 256]⟩
abbrev S512x2048 : Shape := ⟨2, ![512, 2048]⟩
abbrev S512x1152 : Shape := ⟨2, ![512, 1152]⟩
abbrev S2x8x256 : Shape := ⟨3, ![2, 8, 256]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩
abbrev S128x256 : Shape := ⟨2, ![128, 256]⟩
abbrev S1x256 : Shape := ⟨2, ![1, 256]⟩
abbrev S8x256 : Shape := ⟨2, ![8, 256]⟩
abbrev S1x8x256 : Shape := ⟨3, ![1, 8, 256]⟩

abbrev nBuf : Space → Nat
  | .hbm => 9
  | .vmem => 14
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S1x2048, .f32⟩
  | .hbm, ⟨4, _⟩ => ⟨S2048x128, .bf16⟩
  | .hbm, ⟨5, _⟩ => ⟨S1x128, .f32⟩
  | .hbm, ⟨6, _⟩ => ⟨S32768x2048, .f32⟩
  | .hbm, ⟨7, _⟩ => ⟨S32768x1152, .i32⟩
  | .hbm, ⟨8, _⟩ => ⟨S128x8x256, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S2048x128, .bf16⟩
  | .local _ .vmem, ⟨7, _⟩ => ⟨S1x128, .f32⟩
  | .local _ .vmem, ⟨8, _⟩ => ⟨S512x2048, .f32⟩
  | .local _ .vmem, ⟨9, _⟩ => ⟨S512x2048, .f32⟩
  | .local _ .vmem, ⟨10, _⟩ => ⟨S512x1152, .i32⟩
  | .local _ .vmem, ⟨11, _⟩ => ⟨S512x1152, .i32⟩
  | .local _ .vmem, ⟨12, _⟩ => ⟨S2x8x256, .f32⟩
  | .local _ .vmem, ⟨13, _⟩ => ⟨S2x8x256, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1152 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel4.lean ====
abbrev S32768x2048 : Shape := ⟨2, ![32768, 2048]⟩
abbrev S2048 : Shape := ⟨1, ![2048]⟩
abbrev S4x512x512 : Shape := ⟨3, ![4, 512, 512]⟩
abbrev S2048x128 : Shape := ⟨2, ![2048, 128]⟩
abbrev S1x128 : Shape := ⟨2, ![1, 128]⟩
abbrev S1x2048 : Shape := ⟨2, ![1, 2048]⟩
abbrev S32768x1152 : Shape := ⟨2, ![32768, 1152]⟩
abbrev S128x8x256 : Shape := ⟨3, ![128, 8, 256]⟩
abbrev S512x2048 : Shape := ⟨2, ![512, 2048]⟩
abbrev S512x1152 : Shape := ⟨2, ![512, 1152]⟩
abbrev S2x8x256 : Shape := ⟨3, ![2, 8, 256]⟩
abbrev S16x2048 : Shape := ⟨2, ![16, 2048]⟩
abbrev S256x2048 : Shape := ⟨2, ![256, 2048]⟩
abbrev S256 : Shape := ⟨1, ![256]⟩
abbrev S256x1 : Shape := ⟨2, ![256, 1]⟩
abbrev S272x2048 : Shape := ⟨2, ![272, 2048]⟩
abbrev S256x128 : Shape := ⟨2, ![256, 128]⟩
abbrev S272x512 : Shape := ⟨2, ![272, 512]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩
abbrev S256x1024 : Shape := ⟨2, ![256, 1024]⟩
abbrev S128x256 : Shape := ⟨2, ![128, 256]⟩
abbrev S1x256 : Shape := ⟨2, ![1, 256]⟩
abbrev S8x256 : Shape := ⟨2, ![8, 256]⟩
abbrev S1x8x256 : Shape := ⟨3, ![1, 8, 256]⟩

abbrev nBuf : Space → Nat
  | .hbm => 13
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x512x512, .bf16⟩
  | .hbm, ⟨3, _⟩ => ⟨S2048, .f32⟩
  | .hbm, ⟨4, _⟩ => ⟨S2048, .f32⟩
  | .hbm, ⟨5, _⟩ => ⟨S2048x128, .bf16⟩
  | .hbm, ⟨6, _⟩ => ⟨S1x128, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S32768x2048, .f32⟩
  | .hbm, ⟨11, _⟩ => ⟨S32768x1152, .i32⟩
  | .hbm, ⟨12, _⟩ => ⟨S128x8x256, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S4x512x512, .bf16⟩
  | .local _ .vmem, ⟨4, _⟩ => ⟨S1x2048, .f32⟩
  | .local _ .vmem, ⟨5, _⟩ => ⟨S1x2048, .f32⟩
  | .local _ .vmem, ⟨6, _⟩ => ⟨S2048x128, .bf16⟩
  | .local _ .vmem, ⟨7, _⟩ => ⟨S1x128, .f32⟩
  | .local _ .vmem, ⟨8, _⟩ => ⟨S512x2048, .f32⟩
  | .local _ .vmem, ⟨9, _⟩ => ⟨S512x2048, .f32⟩
  | .local _ .vmem, ⟨10, _⟩ => ⟨S512x1152, .i32⟩
  | .local _ .vmem, ⟨11, _⟩ => ⟨S512x1152, .i32⟩
  | .local _ .vmem, ⟨12, _⟩ => ⟨S2x8x256, .f32⟩
  | .local _ .vmem, ⟨13, _⟩ => ⟨S2x8x256, .f32⟩
  | .local _ .vmem, ⟨14, _⟩ => ⟨S16x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [BitOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1152 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel5.lean ====
abbrev S128x8x256 : Shape := ⟨3, ![128, 8, 256]⟩
abbrev S128x1x256 : Shape := ⟨3, ![128, 1, 256]⟩
abbrev S32x128 : Shape := ⟨2, ![32, 128]⟩
abbrev S32x256 : Shape := ⟨2, ![32, 256]⟩
abbrev S1x1x256 : Shape := ⟨3, ![1, 1, 256]⟩
abbrev S1x256 : Shape := ⟨2, ![1, 256]⟩
abbrev S32 : Shape := ⟨1, ![32]⟩
abbrev S32x1 : Shape := ⟨2, ![32, 1]⟩
abbrev S32x32 : Shape := ⟨2, ![32, 32]⟩
abbrev S256x256 : Shape := ⟨2, ![256, 256]⟩
abbrev S256 : Shape := ⟨1, ![256]⟩

abbrev nBuf : Space → Nat
  | .hbm => 3
  | .vmem => 3
  | .smem => 0
  | _ => 0

abbrev bufTy : (tb : Table) → Fin (tcTables nBuf tb) → BufTy
  | .hbm, ⟨0, _⟩ => ⟨S128x8x256, .f32⟩
  | .hbm, ⟨1, _⟩ => ⟨S128x1x256, .i32⟩
  | .hbm, ⟨2, _⟩ => ⟨S32x128, .f32⟩
  | .local _ .vmem, ⟨0, _⟩ => ⟨S128x8x256, .f32⟩
  | .local _ .vmem, ⟨1, _⟩ => ⟨S128x1x256, .i32⟩
  | .local _ .vmem, ⟨2, _⟩ => ⟨S32x128, .f32⟩
  | _, _ => ⟨S128x8x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v3 : BitVec 32 := Scalar.addi c0_i32 c128_i32
  let c1_i32 : BitVec 32 := 1#32
  ⟨c0_i32, v3, c1_i32⟩
def k0_off1 (k0_t1 : Fin k0_t1_loop.trips) : Fin 3 → Nat :=
  let c0_i32 : BitVec 32 := 0#32
  let c1_i32 : BitVec 32 := 1#32
  let arg3 : BitVec 32 := Scf.iv c0_i32 c1_i32 k0_t1
  let v34 : Index := Scalar.indexCast arg3
  let c0_11 : Index := 0#32
  let c0_12 : Index := 0#32
  ![v34.toNat, 0, 0]
@[reducible] def k0_t2_loop : Scf.Loop 32 :=
  let c0_i32_7 : BitVec 32 := 0#32
  let c128_i32_8 : BitVec 32 := 128#32
  let v32 : BitVec 32 := Scalar.addi c0_i32_7 c128_i32_8
  let c1_i32_9 : BitVec 32 := 1#32
  ⟨c0_i32_7, v32, c1_i32_9⟩
def k0_off2 (k0_t2 : Fin k0_t2_loop.trips) : Fin 3 → Nat :=
  let c0_i32_7 : BitVec 32 := 0#32
  let c1_i32_9 : BitVec 32 := 1#32
  let arg3 : BitVec 32 := Scf.iv c0_i32_7 c1_i32_9 k0_t2
  let v34 : Index := Scalar.indexCast arg3
  let c0_11 : Index := 0#32
  let c0_12 : Index := 0#32
  ![v34.toNat, 0, 0]
def k0_off3 (k0_t2 : Fin k0_t2_loop.trips) : Fin 3 → Nat :=
  let c0_i32_7 : BitVec 32 := 0#32
  let c1_i32_9 : BitVec 32 := 1#32
  let arg3 : BitVec 32 := Scf.iv c0_i32_7 c1_i32_9 k0_t2
  let v49 : Index := Scalar.indexCast arg3
  let c0_15 : Index := 0#32
  let c0_16 : Index := 0#32
  ![v49.toNat, 0, 0]
abbrev stage0_0 : Fin 1 → Memref sig .tc .vmem S128x8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference5Ideal.lean ====
abbrev S128x8x256 : Shape := ⟨3, ![128, 8, 256]⟩
abbrev S128x1x256 : Shape := ⟨3, ![128, 1, 256]⟩
abbrev S128x256 : Shape := ⟨2, ![128, 256]⟩
abbrev S32768 : Shape := ⟨1, ![32768]⟩
abbrev S32768x1 : Shape := ⟨2, ![32768, 1]⟩
abbrev S32 : Shape := ⟨1, ![32]⟩
abbrev S1x32 : Shape := ⟨2, ![1, 32]⟩
abbrev S32768x32 : Shape := ⟨2, ![32768, 32]⟩
abbrev S_ : Shape := ⟨0, ![]⟩
abbrev S32x1 : Shape := ⟨2, ![32, 1]⟩
abbrev S32x32 : Shape := ⟨2, ![32, 32]⟩
abbrev S1x32768 : Shape := ⟨2, ![1, 32768]⟩
abbrev S32768x32768 : Shape := ⟨2, ![32768, 32768]⟩
abbrev S32768x32768x1 : Shape := ⟨3, ![32768, 32768, 1]⟩
abbrev S1x32768x32 : Shape := ⟨3, ![1, 32768, 32]⟩
abbrev S32768x32768x32 : Shape := ⟨3, ![32768, 32768, 32]⟩
abbrev S32x128 : Shape := ⟨2, ![32, 128]⟩

abbrev nBuf : Space → Nat
  | .hbm => 61
  | .vmem => 0
  | .smem => 0
  | _ => 0

abbrev bufTy : (tb : Table) → Fin (tcTables nBuf tb) → BufTy
  | .hbm, ⟨0, _⟩ => ⟨S128x8x256, .f32⟩
  | .hbm, ⟨1, _⟩ => ⟨S128x1x256, .f32⟩
  | .hbm, ⟨2, _⟩ => ⟨S128x256, .f32⟩
  | .hbm, ⟨3, _⟩ => ⟨S32768, .f32⟩
  | .hbm, ⟨4, _⟩ => ⟨S32768, .i32⟩
  | .hbm, ⟨5, _⟩ => ⟨S32768x1, .f32⟩
  | .hbm, ⟨6, _⟩ => ⟨S32, .i32⟩
  | .hbm, ⟨7, _⟩ => ⟨S32, .f32⟩
  | .hbm, ⟨8, _⟩ => ⟨S1x32, .f32⟩
  | .hbm, ⟨9, _⟩ => ⟨S32768x32, .f32⟩
  | .hbm, ⟨10, _⟩ => ⟨S32768x32, .f32⟩
  | .hbm, ⟨11, _⟩ => ⟨S32768x32, .i1⟩
  | .hbm, ⟨12, _⟩ => ⟨S32768x32, .f32⟩
  | .hbm, ⟨13, _⟩ => ⟨S_, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S32, .i32⟩
  | .hbm, ⟨20, _⟩ => ⟨S1x32, .i32⟩
  | .hbm, ⟨21, _⟩ => ⟨S32x1, .i32⟩
  | .hbm, ⟨22, _⟩ => ⟨S32x32, .i32⟩
  | .hbm, ⟨23, _⟩ => ⟨S32x32, .i32⟩
  | .hbm, ⟨24, _⟩ => ⟨S32x32, .i1⟩
  | .hbm, ⟨25, _⟩ => ⟨S1x32, .f32⟩
  | .hbm, ⟨26, _⟩ => ⟨S_, .f32⟩
  | .hbm, ⟨27, _⟩ => ⟨S_, .f32⟩
  | .hbm, ⟨28, _⟩ => ⟨S32x32, .f32⟩
  | .hbm, ⟨29, _⟩ => ⟨S32x32, .f32⟩
  | .hbm, ⟨30, _⟩ => ⟨S32x32, .f32⟩
  | .hbm, ⟨31, _⟩ => ⟨S_, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S1x32768, .i32⟩
  | .hbm, ⟨37, _⟩ => ⟨S32768x1, .i32⟩
  | .hbm, ⟨38, _⟩ => ⟨S32768x32768, .i32⟩
  | .hbm, ⟨39, _⟩ => ⟨S32768x32768, .i32⟩
  | .hbm, ⟨40, _⟩ => ⟨S32768x32768, .i1⟩
  | .hbm, ⟨41, _⟩ => ⟨S32768x32768x1, .i1⟩
  | .hbm, ⟨42, _⟩ => ⟨S1x32768x32, .f32⟩
  | .hbm, ⟨43, _⟩ => ⟨S_, .f32⟩
  | .hbm, ⟨44, _⟩ => ⟨S_, .f32⟩
  | .hbm, ⟨45, _⟩ => ⟨S32768x32768x32, .i1⟩
  | .hbm, ⟨46, _⟩ => ⟨S32768x32768x32, .f32⟩
  | .hbm, ⟨47, _⟩ => ⟨S32768x32768x32, .f32⟩
  | .hbm, ⟨48, _⟩ => ⟨S32768x32768x32, .f32⟩
  | .hbm, ⟨49, _⟩ => ⟨S_, .f32⟩
  | .hbm, ⟨50, _⟩ => ⟨S32768x32, .f32⟩
  | .hbm, ⟨51, _⟩ => ⟨S1x32, .f32⟩
  | .hbm, ⟨52, _⟩ => ⟨S32768x32, .f32⟩
  | .hbm, ⟨53, _⟩ => ⟨S32768x32, .f32⟩
  | .hbm, ⟨54, _⟩ => ⟨S32768x32, .f32⟩
  | .hbm, ⟨55, _⟩ => ⟨S_, .f32⟩
  | .hbm, ⟨56, _⟩ => ⟨S32768, .f32⟩
  | .hbm, ⟨57, _⟩ => ⟨S32768, .i32⟩
  | .hbm, ⟨58, _⟩ => ⟨S128x1x256, .i32⟩
  | .hbm, ⟨59, _⟩ => ⟨S32x1, .f32⟩
  | .hbm, ⟨60, _⟩ => ⟨S32x128, .f32⟩
  | _, _ => ⟨S128x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel6.lean ====
abbrev S32768x2048 : Shape := ⟨2, ![32768, 2048]⟩
abbrev S2048x2048 : Shape := ⟨2, ![2048, 2048]⟩
abbrev S1x2048 : Shape := ⟨2, ![1, 2048]⟩
abbrev S2048x128 : Shape := ⟨2, ![2048, 128]⟩
abbrev S1x128 : Shape := ⟨2, ![1, 128]⟩
abbrev S32768x1024 : Shape := ⟨2, ![32768, 1024]⟩
abbrev S128x8x256 : Shape := ⟨3, ![128, 8, 256]⟩
abbrev S32768x128 : Shape := ⟨2, ![32768, 128]⟩
abbrev S512x2048 : Shape := ⟨2, ![512, 2048]⟩
abbrev S512x1024 : Shape := ⟨2, ![512, 1024]⟩
abbrev S2x8x256 : Shape := ⟨3, ![2, 8, 256]⟩
abbrev S512x128 : Shape := ⟨2, ![512, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩
abbrev S128x256 : Shape := ⟨2, ![128, 256]⟩
abbrev S1x256 : Shape := ⟨2, ![1, 256]⟩
abbrev S8x256 : Shape := ⟨2, ![8, 256]⟩
abbrev S1x8x256 : Shape := ⟨3, ![1, 8, 256]⟩

abbrev nBuf : Space → Nat
  | .hbm => 10
  | .vmem => 16
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S1x2048, .f32⟩
  | .hbm, ⟨4, _⟩ => ⟨S2048x128, .bf16⟩
  | .hbm, ⟨5, _⟩ => ⟨S1x128, .f32⟩
  | .hbm, ⟨6, _⟩ => ⟨S32768x2048, .f32⟩
  | .hbm, ⟨7, _⟩ => ⟨S32768x1024, .i32⟩
  | .hbm, ⟨8, _⟩ => ⟨S128x8x256, .f32⟩
  | .hbm, ⟨9, _⟩ => ⟨S32768x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S2048x128, .bf16⟩
  | .local _ .vmem, ⟨7, _⟩ => ⟨S1x128, .f32⟩
  | .local _ .vmem, ⟨8, _⟩ => ⟨S512x2048, .f32⟩
  | .local _ .vmem, ⟨9, _⟩ => ⟨S512x2048, .f32⟩
  | .local _ .vmem, ⟨10, _⟩ => ⟨S512x1024, .i32⟩
  | .local _ .vmem, ⟨11, _⟩ => ⟨S512x1024, .i32⟩
  | .local _ .vmem, ⟨12, _⟩ => ⟨S2x8x256, .f32⟩
  | .local _ .vmem, ⟨13, _⟩ => ⟨S2x8x256, .f32⟩
  | .local _ .vmem, ⟨14, _⟩ => ⟨S512x128, .f32⟩
  | .local _ .vmem, ⟨15, _⟩ => ⟨S512x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel6Ideal.lean ====
abbrev S32768x2048 : Shape := ⟨2, ![32768, 2048]⟩
abbrev S2048x2048 : Shape := ⟨2, ![2048, 2048]⟩
abbrev S1x2048 : Shape := ⟨2, ![1, 2048]⟩
abbrev S2048x128 : Shape := ⟨2, ![2048, 128]⟩
abbrev S1x128 : Shape := ⟨2, ![1, 128]⟩
abbrev S32768x2x1024 : Shape := ⟨3, ![32768, 2, 1024]⟩
abbrev S128x8x256 : Shape := ⟨3, ![128, 8, 256]⟩
abbrev S32768x128 : Shape := ⟨2, ![32768, 128]⟩
abbrev S32768x1x1024 : Shape := ⟨3, ![32768, 1, 1024]⟩
abbrev S32768x1024 : Shape := ⟨2, ![32768, 1024]⟩
abbrev S512x2048 : Shape := ⟨2, ![512, 2048]⟩
abbrev S512x1024 : Shape := ⟨2, ![512, 1024]⟩
abbrev S512x2x1024 : Shape := ⟨3, ![512, 2, 1024]⟩
abbrev S512x1x1024 : Shape := ⟨3, ![512, 1, 1024]⟩
abbrev S2x8x256 : Shape := ⟨3, ![2, 8, 256]⟩
abbrev S512x128 : Shape := ⟨2, ![512, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x2x1024 : Shape := ⟨3, ![256, 2, 1024]⟩
abbrev S256x1x1024 : Shape := ⟨3, ![256, 1, 1024]⟩
abbrev S256x128 : Shape := ⟨2, ![256, 128]⟩
abbrev S128x256 : Shape := ⟨2, ![128, 256]⟩
abbrev S1x256 : Shape := ⟨2, ![1, 256]⟩
abbrev S8x256 : Shape := ⟨2, ![8, 256]⟩
abbrev S1x8x256 : Shape := ⟨3, ![1, 8, 256]⟩

abbrev nBuf : Space → Nat
  | .hbm => 10
  | .vmem => 16
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S1x2048, .f32⟩
  | .hbm, ⟨4, _⟩ => ⟨S2048x128, .bf16⟩
  | .hbm, ⟨5, _⟩ => ⟨S1x128, .f32⟩
  | .hbm, ⟨6, _⟩ => ⟨S32768x2048, .f32⟩
  | .hbm, ⟨7, _⟩ => ⟨S32768x2x1024, .bf16⟩
  | .hbm, ⟨8, _⟩ => ⟨S128x8x256, .f32⟩
  | .hbm, ⟨9, _⟩ => ⟨S32768x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S2048x128, .bf16⟩
  | .local _ .vmem, ⟨7, _⟩ => ⟨S1x128, .f32⟩
  | .local _ .vmem, ⟨8, _⟩ => ⟨S512x2048, .f32⟩
  | .local _ .vmem, ⟨9, _⟩ => ⟨S512x2048, .f32⟩
  | .local _ .vmem, ⟨10, _⟩ => ⟨S512x2x1024, .bf16⟩
  | .local _ .vmem, ⟨11, _⟩ => ⟨S512x2x1024, .bf16⟩
  | .local _ .vmem, ⟨12, _⟩ => ⟨S2x8x256, .f32⟩
  | .local _ .vmem, ⟨13, _⟩ => ⟨S2x8x256, .f32⟩
  | .local _ .vmem, ⟨14, _⟩ => ⟨S512x128, .f32⟩
  | .local _ .vmem, ⟨15, _⟩ => ⟨S512x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S32768x2048 : Shape := ⟨2, ![32768, 2048]⟩
abbrev S2048x2048 : Shape := ⟨2, ![2048, 2048]⟩
abbrev S1x2048 : Shape := ⟨2, ![1, 2048]⟩
abbrev S2048x128 : Shape := ⟨2, ![2048, 128]⟩
abbrev S1x128 : Shape := ⟨2, ![1, 128]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S1x2048, .f32⟩
  | .hbm, ⟨4, _⟩ => ⟨S2048x128, .bf16⟩
  | .hbm, ⟨5, _⟩ => ⟨S1x128, .f32⟩
  | .hbm, ⟨6, _⟩ => ⟨S32768x2048, .f32⟩
  | .hbm, ⟨7, _⟩ => ⟨S2048x2048, .f32⟩
  | .hbm, ⟨8, _⟩ => ⟨S32768x2048, .f32⟩
  | .hbm, ⟨9, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== Kernel7.lean ====
abbrev S32768x2048 : Shape := ⟨2, ![32768, 2048]⟩
abbrev S2048 : Shape := ⟨1, ![2048]⟩
abbrev S4x512x512 : Shape := ⟨3, ![4, 512, 512]⟩
abbrev S2048x128 : Shape := ⟨2, ![2048, 128]⟩
abbrev S1x128 : Shape := ⟨2, ![1, 128]⟩
abbrev S1x2048 : Shape := ⟨2, ![1, 2048]⟩
abbrev S32768x1024 : Shape := ⟨2, ![32768, 1024]⟩
abbrev S128x8x256 : Shape := ⟨3, ![128, 8, 256]⟩
abbrev S32768x128 : Shape := ⟨2, ![32768, 128]⟩
abbrev S512x2048 : Shape := ⟨2, ![512, 2048]⟩
abbrev S512x1024 : Shape := ⟨2, ![512, 1024]⟩
abbrev S2x8x256 : Shape := ⟨3, ![2, 8, 256]⟩
abbrev S512x128 : Shape := ⟨2, ![512, 128]⟩
abbrev S16x2048 : Shape := ⟨2, ![16, 2048]⟩
abbrev S256x2048 : Shape := ⟨2, ![256, 2048]⟩
abbrev S256 : Shape := ⟨1, ![256]⟩
abbrev S256x1 : Shape := ⟨2, ![256, 1]⟩
abbrev S272x2048 : Shape := ⟨2, ![272, 2048]⟩
abbrev S256x128 : Shape := ⟨2, ![256, 128]⟩
abbrev S272x512 : Shape := ⟨2, ![272, 512]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩
abbrev S256x1024 : Shape := ⟨2, ![256, 1024]⟩
abbrev S128x256 : Shape := ⟨2, ![128, 256]⟩
abbrev S1x256 : Shape := ⟨2, ![1, 256]⟩
abbrev S8x256 : Shape := ⟨2, ![8, 256]⟩
abbrev S1x8x256 : Shape := ⟨3, ![1, 8, 256]⟩

abbrev nBuf : Space → Nat
  | .hbm => 14
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x512x512, .bf16⟩
  | .hbm, ⟨3, _⟩ => ⟨S2048, .f32⟩
  | .hbm, ⟨4, _⟩ => ⟨S2048, .f32⟩
  | .hbm, ⟨5, _⟩ => ⟨S2048x128, .bf16⟩
  | .hbm, ⟨6, _⟩ => ⟨S1x128, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S32768x2048, .f32⟩
  | .hbm, ⟨11, _⟩ => ⟨S32768x1024, .i32⟩
  | .hbm, ⟨12, _⟩ => ⟨S128x8x256, .f32⟩
  | .hbm, ⟨13, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S4x512x512, .bf16⟩
  | .local _ .vmem, ⟨4, _⟩ => ⟨S1x2048, .f32⟩
  | .local _ .vmem, ⟨5, _⟩ => ⟨S1x2048, .f32⟩
  | .local _ .vmem, ⟨6, _⟩ => ⟨S2048x128, .bf16⟩
  | .local _ .vmem, ⟨7, _⟩ => ⟨S1x128, .f32⟩
  | .local _ .vmem, ⟨8, _⟩ => ⟨S512x2048, .f32⟩
  | .local _ .vmem, ⟨9, _⟩ => ⟨S512x2048, .f32⟩
  | .local _ .vmem, ⟨10, _⟩ => ⟨S512x1024, .i32⟩
  | .local _ .vmem, ⟨11, _⟩ => ⟨S512x1024, .i32⟩
  | .local _ .vmem, ⟨12, _⟩ => ⟨S2x8x256, .f32⟩
  | .local _ .vmem, ⟨13, _⟩ => ⟨S2x8x256, .f32⟩
  | .local _ .vmem, ⟨14, _⟩ => ⟨S512x128, .f32⟩
  | .local _ .vmem, ⟨15, _⟩ => ⟨S512x128, .f32⟩
  | .local _ .vmem, ⟨16, _⟩ => ⟨S16x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [BitOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel7Ideal.lean ====
abbrev S32768x2048 : Shape := ⟨2, ![32768, 2048]⟩
abbrev S2048 : Shape := ⟨1, ![2048]⟩
abbrev S4x512x512 : Shape := ⟨3, ![4, 512, 512]⟩
abbrev S2048x128 : Shape := ⟨2, ![2048, 128]⟩
abbrev S1x128 : Shape := ⟨2, ![1, 128]⟩
abbrev S1x2048 : Shape := ⟨2, ![1, 2048]⟩
abbrev S32768x2x1024 : Shape := ⟨3, ![32768, 2, 1024]⟩
abbrev S128x8x256 : Shape := ⟨3, ![128, 8, 256]⟩
abbrev S32768x128 : Shape := ⟨2, ![32768, 128]⟩
abbrev S32768x1x1024 : Shape := ⟨3, ![32768, 1, 1024]⟩
abbrev S32768x1024 : Shape := ⟨2, ![32768, 1024]⟩
abbrev S512x2048 : Shape := ⟨2, ![512, 2048]⟩
abbrev S512x1024 : Shape := ⟨2, ![512, 1024]⟩
abbrev S512x2x1024 : Shape := ⟨3, ![512, 2, 1024]⟩
abbrev S512x1x1024 : Shape := ⟨3, ![512, 1, 1024]⟩
abbrev S2x8x256 : Shape := ⟨3, ![2, 8, 256]⟩
abbrev S512x128 : Shape := ⟨2, ![512, 128]⟩
abbrev S16x2048 : Shape := ⟨2, ![16, 2048]⟩
abbrev S256x2048 : Shape := ⟨2, ![256, 2048]⟩
abbrev S256 : Shape := ⟨1, ![256]⟩
abbrev S256x1 : Shape := ⟨2, ![256, 1]⟩
abbrev S272x2048 : Shape := ⟨2, ![272, 2048]⟩
abbrev S256x128 : Shape := ⟨2, ![256, 128]⟩
abbrev S272x512 : Shape := ⟨2, ![272, 512]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩
abbrev S256x1024 : Shape := ⟨2, ![256, 1024]⟩
abbrev S256x2x1024 : Shape := ⟨3, ![256, 2, 1024]⟩
abbrev S256x1x1024 : Shape := ⟨3, ![256, 1, 1024]⟩
abbrev S128x256 : Shape := ⟨2, ![128, 256]⟩
abbrev S1x256 : Shape := ⟨2, ![1, 256]⟩
abbrev S8x256 : Shape := ⟨2, ![8, 256]⟩
abbrev S1x8x256 : Shape := ⟨3, ![1, 8, 256]⟩

abbrev nBuf : Space → Nat
  | .hbm => 14
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x512x512, .bf16⟩
  | .hbm, ⟨3, _⟩ => ⟨S2048, .f32⟩
  | .hbm, ⟨4, _⟩ => ⟨S2048, .f32⟩
  | .hbm, ⟨5, _⟩ => ⟨S2048x128, .bf16⟩
  | .hbm, ⟨6, _⟩ => ⟨S1x128, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S32768x2048, .f32⟩
  | .hbm, ⟨11, _⟩ => ⟨S32768x2x1024, .bf16⟩
  | .hbm, ⟨12, _⟩ => ⟨S128x8x256, .f32⟩
  | .hbm, ⟨13, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S4x512x512, .bf16⟩
  | .local _ .vmem, ⟨4, _⟩ => ⟨S1x2048, .f32⟩
  | .local _ .vmem, ⟨5, _⟩ => ⟨S1x2048, .f32⟩
  | .local _ .vmem, ⟨6, _⟩ => ⟨S2048x128, .bf16⟩
  | .local _ .vmem, ⟨7, _⟩ => ⟨S1x128, .f32⟩
  | .local _ .vmem, ⟨8, _⟩ => ⟨S512x2048, .f32⟩
  | .local _ .vmem, ⟨9, _⟩ => ⟨S512x2048, .f32⟩
  | .local _ .vmem, ⟨10, _⟩ => ⟨S512x2x1024, .bf16⟩
  | .local _ .vmem, ⟨11, _⟩ => ⟨S512x2x1024, .bf16⟩
  | .local _ .vmem, ⟨12, _⟩ => ⟨S2x8x256, .f32⟩
  | .local _ .vmem, ⟨13, _⟩ => ⟨S2x8x256, .f32⟩
  | .local _ .vmem, ⟨14, _⟩ => ⟨S512x128, .f32⟩
  | .local _ .vmem, ⟨15, _⟩ => ⟨S512x128, .f32⟩
  | .local _ .vmem, ⟨16, _⟩ => ⟨S16x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, 0, c0_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S32768x2048 : Shape := ⟨2, ![32768, 2048]⟩
abbrev S2048 : Shape := ⟨1, ![2048]⟩
abbrev S4x512x512 : Shape := ⟨3, ![4, 512, 512]⟩
abbrev S2048x128 : Shape := ⟨2, ![2048, 128]⟩
abbrev S1x128 : Shape := ⟨2, ![1, 128]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S16x2048x4x512 : Shape := ⟨4, ![16, 2048, 4, 512]⟩
abbrev S16x2048x1x512 : Shape := ⟨4, ![16, 2048, 1, 512]⟩
abbrev S16x2048x512 : Shape := ⟨3, ![16, 2048, 512]⟩
abbrev S2048x1 : Shape := ⟨2, ![2048, 1]⟩
abbrev S2048x2048 : Shape := ⟨2, ![2048, 2048]⟩
abbrev S16x512x2048 : Shape := ⟨3, ![16, 512, 2048]⟩
abbrev S1x2048x1 : Shape := ⟨3, ![1, 2048, 1]⟩
abbrev S1x512x512 : Shape := ⟨3, ![1, 512, 512]⟩
abbrev S512x512 : Shape := ⟨2, ![512, 512]⟩
abbrev S16x2048x2048 : Shape := ⟨3, ![16, 2048, 2048]⟩

abbrev nBuf : Space → Nat
  | .hbm => 183
  | .vmem => 0
  | .smem => 0
  | _ => 0

abbrev hbmTy0_0 (i : Nat) : BufTy := match i % 128 with
  | 0 => ⟨S32768x2048, .f32⟩
  | 1 => ⟨S2048, .f32⟩
  | 2 => ⟨S4x512x512, .bf16⟩
  | 3 => ⟨S2048, .f32⟩
  | 4 => ⟨S2048, .f32⟩
  | 5 => ⟨S2048x128, .bf16⟩
  | 6 => ⟨S1x128, .f32⟩
  | 7 => ⟨S32768x2048, .f32⟩
  | 8 => ⟨S_, .f32⟩
  | 9 => ⟨S32768, .f32⟩
  | 10 => ⟨S32768x1, .f32⟩
  | 11 => ⟨S_, .f32⟩
  | 12 => ⟨S32768x1, .f32⟩
  | 13 => ⟨S32768x1, .f32⟩
  | 14 => ⟨S_, .f32⟩
  | 15 => ⟨S32768x1, .f32⟩
  | 16 => ⟨S32768x1, .f32⟩
  | 17 => ⟨S32768x1, .f32⟩
  | 18 => ⟨S32768x2048, .f32⟩
  | 19 => ⟨S32768x2048, .f32⟩
  | 20 => ⟨S1x2048, .f32⟩
  | 21 => ⟨S32768x2048, .f32⟩
  | 22 => ⟨S32768x2048, .f32⟩
  | 23 => ⟨S16x2048x4x512, .f32⟩
  | 24 => ⟨S2048, .i32⟩
  | 25 => ⟨S16x2048x1x512, .f32⟩
  | 26 => ⟨S16x2048x512, .f32⟩
  | 27 => ⟨S1x2048, .i32⟩
  | 28 => ⟨S2048x1, .i32⟩
  | 29 => ⟨S2048x2048, .i32⟩
  | 30 => ⟨S2048x2048, .i32⟩
  | 31 => ⟨S2048x2048, .i1⟩
  | 32 => ⟨S2048x1, .i32⟩
  | 33 => ⟨S1x2048, .i32⟩
  | 34 => ⟨S_, .i32⟩
  | 35 => ⟨S1x2048, .i32⟩
  | 36 => ⟨S1x2048, .i32⟩
  | 37 => ⟨S2048x2048, .i32⟩
  | 38 => ⟨S2048x2048, .i32⟩
  | 39 => ⟨S2048x2048, .i1⟩
  | 40 => ⟨S2048x2048, .i1⟩
  | 41 => ⟨S_, .f32⟩
  | 42 => ⟨S_, .f32⟩
  | 43 => ⟨S2048x2048, .f32⟩
  | 44 => ⟨S2048x2048, .f32⟩
  | 45 => ⟨S2048x2048, .f32⟩
  | 46 => ⟨S16x512x2048, .f32⟩
  | 47 => ⟨S16x2048x512, .f32⟩
  | 48 => ⟨S_, .i32⟩
  | 49 => ⟨S2048, .i32⟩
  | 50 => ⟨S2048, .i32⟩
  | 51 => ⟨S_, .i32⟩
  | 52 => ⟨S2048, .i32⟩
  | 53 => ⟨S2048, .i32⟩
  | 54 => ⟨S2048, .f32⟩
  | 55 => ⟨S1x2048x1, .f32⟩
  | 56 => ⟨S16x2048x512, .f32⟩
  | 57 => ⟨S16x2048x512, .f32⟩
  | 58 => ⟨S16x2048x512, .f32⟩
  | 59 => ⟨S1x512x512, .bf16⟩
  | 60 => ⟨S512x512, .bf16⟩
  | 61 => ⟨S512x512, .f32⟩
  | 62 => ⟨S16x2048x512, .f32⟩
  | 63 => ⟨S16x2048x1x512, .f32⟩
  | 64 => ⟨S16x2048x512, .f32⟩
  | 65 => ⟨S1x2048, .i32⟩
  | 66 => ⟨S2048x1, .i32⟩
  | 67 => ⟨S2048x2048, .i32⟩
  | 68 => ⟨S2048x2048, .i32⟩
  | 69 => ⟨S2048x2048, .i1⟩
  | 70 => ⟨S2048x1, .i32⟩
  | 71 => ⟨S1x2048, .i32⟩
  | 72 => ⟨S_, .i32⟩
  | 73 => ⟨S1x2048, .i32⟩
  | 74 => ⟨S1x2048, .i32⟩
  | 75 => ⟨S2048x2048, .i32⟩
  | 76 => ⟨S2048x2048, .i32⟩
  | 77 => ⟨S2048x2048, .i1⟩
  | 78 => ⟨S2048x2048, .i1⟩
  | 79 => ⟨S_, .f32⟩
  | 80 => ⟨S_, .f32⟩
  | 81 => ⟨S2048x2048, .f32⟩
  | 82 => ⟨S2048x2048, .f32⟩
  | 83 => ⟨S2048x2048, .f32⟩
  | 84 => ⟨S16x512x2048, .f32⟩
  | 85 => ⟨S16x2048x512, .f32⟩
  | 86 => ⟨S_, .i32⟩
  | 87 => ⟨S2048, .i32⟩
  | 88 => ⟨S2048, .i32⟩
  | 89 => ⟨S_, .i32⟩
  | 90 => ⟨S2048, .i32⟩
  | 91 => ⟨S2048, .i32⟩
  | 92 => ⟨S2048, .f32⟩
  | 93 => ⟨S1x2048x1, .f32⟩
  | 94 => ⟨S16x2048x512, .f32⟩
  | 95 => ⟨S16x2048x512, .f32⟩
  | 96 => ⟨S16x2048x512, .f32⟩
  | 97 => ⟨S1x512x512, .bf16⟩
  | 98 => ⟨S512x512, .bf16⟩
  | 99 => ⟨S512x512, .f32⟩
  | 100 => ⟨S16x2048x512, .f32⟩
  | 101 => ⟨S16x2048x1x512, .f32⟩
  | 102 => ⟨S16x2048x512, .f32⟩
  | 103 => ⟨S1x2048, .i32⟩
  | 104 => ⟨S2048x1, .i32⟩
  | 105 => ⟨S2048x2048, .i32⟩
  | 106 => ⟨S2048x2048, .i32⟩
  | 107 => ⟨S2048x2048, .i1⟩
  | 108 => ⟨S2048x1, .i32⟩
  | 109 => ⟨S1x2048, .i32⟩
  | 110 => ⟨S_, .i32⟩
  | 111 => ⟨S1x2048, .i32⟩
  | 112 => ⟨S1x2048, .i32⟩
  | 113 => ⟨S2048x2048, .i32⟩
  | 114 => ⟨S2048x2048, .i32⟩
  | 115 => ⟨S2048x2048, .i1⟩
  | 116 => ⟨S2048x2048, .i1⟩
  | 117 => ⟨S_, .f32⟩
  | 118 => ⟨S_, .f32⟩
  | 119 => ⟨S2048x2048, .f32⟩
  | 120 => ⟨S2048x2048, .f32⟩
  | 121 => ⟨S2048x2048, .f32⟩
  | 122 => ⟨S16x512x2048, .f32⟩
  | 123 => ⟨S16x2048x512, .f32⟩
  | 124 => ⟨S_, .i32⟩
  | 125 => ⟨S2048, .i32⟩
  | 126 => ⟨S2048, .i32⟩
  | 127 => ⟨S_, .i32⟩
  | _ => ⟨S32768x2048, .f32⟩

abbrev hbmTy0_1 (i : Nat) : BufTy := match i % 128 with
  | 0 => ⟨S2048, .i32⟩
  | 1 => ⟨S2048, .i32⟩
  | 2 => ⟨S2048, .f32⟩
  | 3 => ⟨S1x2048x1, .f32⟩
  | 4 => ⟨S16x2048x512, .f32⟩
  | 5 => ⟨S16x2048x512, .f32⟩
  | 6 => ⟨S16x2048x512, .f32⟩
  | 7 => ⟨S1x512x512, .bf16⟩
  | 8 => ⟨S512x512, .bf16⟩
  | 9 => ⟨S512x512, .f32⟩
  | 10 => ⟨S16x2048x512, .f32⟩
  | 11 => ⟨S16x2048x1x512, .f32⟩
  | 12 => ⟨S16x2048x512, .f32⟩
  | 13 => ⟨S1x2048, .i32⟩
  | 14 => ⟨S2048x1, .i32⟩
  | 15 => ⟨S2048x2048, .i32⟩
  | 16 => ⟨S2048x2048, .i32⟩
  | 17 => ⟨S2048x2048, .i1⟩
  | 18 => ⟨S2048x1, .i32⟩
  | 19 => ⟨S1x2048, .i32⟩
  | 20 => ⟨S_, .i32⟩
  | 21 => ⟨S1x2048, .i32⟩
  | 22 => ⟨S1x2048, .i32⟩
  | 23 => ⟨S2048x2048, .i32⟩
  | 24 => ⟨S2048x2048, .i32⟩
  | 25 => ⟨S2048x2048, .i1⟩
  | 26 => ⟨S2048x2048, .i1⟩
  | 27 => ⟨S_, .f32⟩
  | 28 => ⟨S_, .f32⟩
  | 29 => ⟨S2048x2048, .f32⟩
  | 30 => ⟨S2048x2048, .f32⟩
  | 31 => ⟨S2048x2048, .f32⟩
  | 32 => ⟨S16x512x2048, .f32⟩
  | 33 => ⟨S16x2048x512, .f32⟩
  | 34 => ⟨S_, .i32⟩
  | 35 => ⟨S2048, .i32⟩
  | 36 => ⟨S2048, .i32⟩
  | 37 => ⟨S_, .i32⟩
  | 38 => ⟨S2048, .i32⟩
  | 39 => ⟨S2048, .i32⟩
  | 40 => ⟨S2048, .f32⟩
  | 41 => ⟨S1x2048x1, .f32⟩
  | 42 => ⟨S16x2048x512, .f32⟩
  | 43 => ⟨S16x2048x512, .f32⟩
  | 44 => ⟨S16x2048x512, .f32⟩
  | 45 => ⟨S1x512x512, .bf16⟩
  | 46 => ⟨S512x512, .bf16⟩
  | 47 => ⟨S512x512, .f32⟩
  | 48 => ⟨S16x2048x512, .f32⟩
  | 49 => ⟨S16x2048x2048, .f32⟩
  | 50 => ⟨S32768x2048, .f32⟩
  | 51 => ⟨S1x2048, .f32⟩
  | 52 => ⟨S32768x2048, .f32⟩
  | 53 => ⟨S32768x2048, .f32⟩
  | 54 => ⟨S32768x2048, .f32⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_6 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_7 : Ref sig .tc := ⟨.hbm, 79, rfl⟩
abbrev main_cst_8 : Ref sig .tc := ⟨.hbm, 80, rfl⟩
abbrev main_call1_v0 : Ref sig .tc := ⟨.hbm, 81, rfl⟩
abbrev main_call1_v1 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_9 : Ref sig .tc := ⟨.hbm, 86, rfl⟩
abbrev main_v64 : Ref sig .tc := ⟨.hbm, 87, rfl⟩
abbrev main_v65 : Ref sig .tc := ⟨.hbm, 88, rfl⟩
abbrev main_c_10 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_c_11 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_12 : Ref sig .tc := ⟨.hbm, 117, rfl⟩
abbrev main_cst_13 : Ref sig .tc := ⟨.hbm, 118, rfl⟩
abbrev main_call2_v0 : Ref sig .tc := ⟨.hbm, 119, rfl⟩
abbrev main_call2_v1 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_14 : Ref sig .tc := ⟨.hbm, 124, rfl⟩
abbrev main_v95 : Ref sig .tc := ⟨.hbm, 125, rfl⟩
abbrev main_v96 : Ref sig .tc := ⟨.hbm, 126, rfl⟩
abbrev main_c_15 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_c_16 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_17 : Ref sig .tc := ⟨.hbm, 155, rfl⟩
abbrev main_cst_18 : Ref sig .tc := ⟨.hbm, 156, rfl⟩
abbrev main_call3_v0 : Ref sig .tc := ⟨.hbm, 157, rfl⟩
abbrev main_call3_v1 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_c_19 : Ref sig .tc := ⟨.hbm, 162, rfl⟩
abbrev main_v126 : Ref sig .tc := ⟨.hbm, 163, rfl⟩
abbrev main_v127 : Ref sig .tc := ⟨.hbm, 164, rfl⟩
abbrev main_c_20 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩

abbrev nD : Nat := 1
abbrev τ : Topo := Topo.v7x

variable {F : FTy → Type} [FloatOps F]
-- ==== Proof.MoeBody.lean ====
/-
  The mixture kernel's body: from the tables' word and its staging buffers held whole it runs to its return. A tile
  below the number of active ones leaves the packed product rows in the output buffer, any other leaves zeros.
-/
module

public import proofs.«01_k».proof.Proof.Gen.KernelIdeal.Launch
public import proofs.«01_k».proof.Proof.Gen.KernelIdeal.Skeleton
public import Idealize.ShloMosaic.Lib.Pipeline.RegionsLoop
public import Idealize.ShloMosaic.Lib.Pipeline.FrameBody
public import Idealize.ShloMosaic.Lib.Tactic

@[expose] public section

noncomputable section

namespace Cert.Proof.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipelines' beside the counters their transfers take tokens from. -/
abbrev UU : Type := UR sig nD τ × Counters

local notation "𝕄" => MT nD τ sig Unit (Elt F) ℕ UU ℕ

/-- A memref's contents on a core, and the memref held whole at them. -/
abbrev Cts (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Cts (F := F) c M) : sProp 𝕄 :=
  M.view.loc (c : Thread nD τ) ↦{fullShare} f

/-- What an active tile's body writes: the kernel's stored value over the seven blocks it reads. -/
def moeRows (x : S256x1152.Idx → Elt F .i32) (gLo gHi uLo uHi : S1x2048x512.Idx → Elt F .bf16)
    (dLo dHi : S1x512x2048.Idx → Elt F .bf16) : S256x2x1024.Idx → Elt F .bf16 :=
  k0_pay1
    (k0_pay2 (View.ld x (Rect.unit (s := S256x1152) ![0, 0] S256x1024.size inb_S256x1152_S256x1024_0_0)))
    (k0_pay3 (View.ld x (Rect.unit (s := S256x1152) ![0, 0] S256x1024.size inb_S256x1152_S256x1024_0_0))
      (View.ld gLo (Rect.unit (s := S1x2048x512) ![0, 0, 0] S1x2048x512.size inb_S1x2048x512_S1x2048x512_0_0_0))
      (View.ld uLo (Rect.unit (s := S1x2048x512) ![0, 0, 0] S1x2048x512.size inb_S1x2048x512_S1x2048x512_0_0_0))
      (View.ld x (Rect.unit (s := S256x1152) ![0, 1025] S256x1.size inb_S256x1152_S256x1_0_1025))
      (View.ld dLo (Rect.unit (s := S1x512x2048) ![0, 0, 0] S1x512x2048.size inb_S1x512x2048_S1x512x2048_0_0_0)))
    (k0_pay4 (View.ld x (Rect.unit (s := S256x1152) ![0, 0] S256x1024.size inb_S256x1152_S256x1024_0_0))
      (View.ld gHi (Rect.unit (s := S1x2048x512) ![0, 0, 0] S1x2048x512.size inb_S1x2048x512_S1x2048x512_0_0_0)))
    (k0_pay5 (View.ld uHi (Rect.unit (s := S1x2048x512) ![0, 0, 0] S1x2048x512.size inb_S1x2048x512_S1x2048x512_0_0_0)))
    (View.ld x (Rect.unit (s := S256x1152) ![0, 1026] S256x1.size inb_S256x1152_S256x1_0_1026))
    (View.ld dHi (Rect.unit (s := S1x512x2048) ![0, 0, 0] S1x512x2048.size inb_S1x512x2048_S1x512x2048_0_0_0))

/-- What a tile's body leaves in the output buffer, by the word of the active-tile table it reads. -/
def moeOut (i : grid0.Coords) (n : BitVec 32) (x : S256x1152.Idx → Elt F .i32) (gLo gHi uLo uHi : S1x2048x512.Idx → Elt F .bf16)
    (dLo dHi : S1x512x2048.Idx → Elt F .bf16) : S256x2x1024.Idx → Elt F .bf16 :=
  if k0_cond1 i n = 1#1 then moeRows x gLo gHi uLo uHi dLo dHi else constant S256x2x1024 .bf16 0x0000#16

/-- The two conditions exclude each other. -/
theorem cond2_iff (i : grid0.Coords) (n : BitVec 32) : k0_cond2 i n = 1#1 ↔ ¬ k0_cond1 i n = 1#1 := by
  unfold k0_cond1 k0_cond2
  simp only [Scalar.cmpi, Scalar.extui, Scalar.xori]
  generalize IntOp.cmpi CmpIPredicate.slt (BitVec.ofNat 32 (i 0).val) n = b
  revert b; decide

/-- A store over a whole shape leaves its payload, whatever was there. -/
theorem read_full {κ : Kind} {sp : Space} {S : Shape} {e : EltTy} (v : View sig κ sp S e) (f : v.ty.Contents (Elt F))
    (off : Fin S.rank → Nat) (h : off = fun _ => 0) (inb : ∀ a, off a + S.size a ≤ S.size a) (w : S.Idx → Elt F e) :
    v.read (Elt F) (v.writes (Elt F) f [⟨Rect.unit off S.size inb, w⟩]) = w := by
  subst h; exact View.read_writes_whole v f w

theorem zero3 {r : Nat} (h : r = 3) : (fun a => (![0, 0, 0] : Fin 3 → Nat) (a.cast h)) = fun (_ : Fin r) => 0 := by
  subst h; funext a; fin_cases a <;> rfl

/-- The mixture kernel's body, run. -/
theorem moe_run (c : Dev nD) (i : grid0.Coords)
    (T1 : Memref sig .tc .smem S152 .i32) (t1 : T1.IsWhole) (T2 : Memref sig .tc .smem S152 .i32) (t2 : T2.IsWhole)
    (T3 : Memref sig .tc .smem S1 .i32) (t3 : T3.IsWhole)
    (M0 : Memref sig .tc .vmem S256x1152 .i32) (h0 : M0.IsWhole) (M1 : Memref sig .tc .vmem S1x2048x512 .bf16) (h1 : M1.IsWhole)
    (M2 : Memref sig .tc .vmem S1x2048x512 .bf16) (h2 : M2.IsWhole) (M3 : Memref sig .tc .vmem S1x2048x512 .bf16) (h3 : M3.IsWhole)
    (M4 : Memref sig .tc .vmem S1x2048x512 .bf16) (h4 : M4.IsWhole) (M5 : Memref sig .tc .vmem S1x512x2048 .bf16) (h5 : M5.IsWhole)
    (M6 : Memref sig .tc .vmem S1x512x2048 .bf16) (h6 : M6.IsWhole) (M7 : Memref sig .tc .vmem S256x2x1024 .bf16) (h7 : M7.IsWhole)
    (g3 : Cts (F := F) c T3) (f0 : Cts (F := F) c M0) (f1 : Cts (F := F) c M1) (f2 : Cts (F := F) c M2) (f3 : Cts (F := F) c M3)
    (f4 : Cts (F := F) c M4) (f5 : Cts (F := F) c M5) (f6 : Cts (F := F) c M6) (f7 : Cts (F := F) c M7)
    (n : BitVec 32) (hn : ∀ j : S1.Idx, T3.view.read (Elt F) g3 j = n) (E : Set ℕ) (Q : PUnit → sProp 𝕄) :
    iprop(held c T3 g3 ∗ held c M0 f0 ∗ held c M1 f1 ∗ held c M2 f2 ∗ held c M3 f3 ∗ held c M4 f4 ∗ held c M5 f5 ∗ held c M6 f6 ∗ held c M7 f7
        ∗ (iprop(held c T3 g3 ∗ held c M0 f0 ∗ held c M1 f1 ∗ held c M2 f2 ∗ held c M3 f3 ∗ held c M4 f4 ∗ held c M5 f5 ∗ held c M6 f6
              ∗ ∃ W, held c M7 W ∗ ⌜M7.view.read (Elt F) W = moeOut i n (M0.view.read (Elt F) f0) (M1.view.read (Elt F) f1) (M2.view.read (Elt F) f2)
                (M3.view.read (Elt F) f3) (M4.view.read (Elt F) f4) (M5.view.read (Elt F) f5) (M6.view.read (Elt F) f6)⌝)
            -∗ Q ⟨⟩))
      ⊢ wp frame (wpE (defs₀ (F := F)) Variants.none c none) E
          (cc0_moe i T1 t1 T2 t2 T3 t3 M0 h0 M1 h1 M2 h2 M3 h3 M4 h4 M5 h5 M6 h6 M7 h7) Q := by
  rw [cc0_moe_eq_skeleton]; unfold cc0_moe_skel
  iintro ⟨HT, H0, H1, H2, H3, H4, H5, H6, H7, Hk⟩
  rw [k0_part1_eq_skeleton]; unfold k0_part1_skel
  sl_exec
  sl_step
  have hr : moe_run.sl.r c T3 g3 = n := hn _
  iapply Hk
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _
  isplitl [H7]; · iexact H7
  ipureintro
  rw [hr]; unfold moeOut
  by_cases hc : k0_cond1 i n = 1#1
  · rw [dif_neg (fun h => (cond2_iff i n).1 h hc), dif_pos hc, if_pos hc]
    exact read_full _ _ _ (zero3 rfl) _ _
  · rw [dif_pos ((cond2_iff i n).2 hc), if_neg hc]
    exact read_full _ _ _ (zero3 rfl) _ _

omit [FloatOps F] in
/-- A whole memref owned: some contents that read so, held. -/
theorem owns_isWhole (c : Dev nD) {sp : Space} {S : Shape} {e : EltTy} (M : Memref sig .tc sp S e) (h : M.IsWhole)
    (X : S.Idx → Elt F e) : (owns (c : Thread nD τ) M fullShare X : sProp 𝕄) = iprop(∃ f, ⌜M.view.read (Elt F) f = X⌝ ∗ held c M f) := by
  unfold owns; rw [h.set_eq_univ]

/-- The mixture kernel's body over staging buffers that hold stated blocks. -/
theorem moe_owns (c : Dev nD) (i : grid0.Coords)
    (T1 : Memref sig .tc .smem S152 .i32) (t1 : T1.IsWhole) (T2 : Memref sig .tc .smem S152 .i32) (t2 : T2.IsWhole)
    (T3 : Memref sig .tc .smem S1 .i32) (t3 : T3.IsWhole)
    (M0 : Memref sig .tc .vmem S256x1152 .i32) (h0 : M0.IsWhole) (M1 : Memref sig .tc .vmem S1x2048x512 .bf16) (h1 : M1.IsWhole)
    (M2 : Memref sig .tc .vmem S1x2048x512 .bf16) (h2 : M2.IsWhole) (M3 : Memref sig .tc .vmem S1x2048x512 .bf16) (h3 : M3.IsWhole)
    (M4 : Memref sig .tc .vmem S1x2048x512 .bf16) (h4 : M4.IsWhole) (M5 : Memref sig .tc .vmem S1x512x2048 .bf16) (h5 : M5.IsWhole)
    (M6 : Memref sig .tc .vmem S1x512x2048 .bf16) (h6 : M6.IsWhole) (M7 : Memref sig .tc .vmem S256x2x1024 .bf16) (h7 : M7.IsWhole)
    (g3 : Cts (F := F) c T3) (n : BitVec 32) (hn : ∀ j : S1.Idx, T3.view.read (Elt F) g3 j = n)
    (x0 : S256x1152.Idx → Elt F .i32) (x1 x2 x3 x4 : S1x2048x512.Idx → Elt F .bf16) (x5 x6 : S1x512x2048.Idx → Elt F .bf16)
    (x7 : S256x2x1024.Idx → Elt F .bf16) (E : Set ℕ) (Q : PUnit → sProp 𝕄) :
    iprop(held c T3 g3 ∗ owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ owns (c : Thread nD τ) M5 fullShare x5
        ∗ owns (c : Thread nD τ) M6 fullShare x6 ∗ owns (c : Thread nD τ) M7 fullShare x7
        ∗ (iprop(held c T3 g3 ∗ owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare x4 ∗ owns (c : Thread nD τ) M5 fullShare x5
            ∗ owns (c : Thread nD τ) M6 fullShare x6 ∗ owns (c : Thread nD τ) M7 fullShare (moeOut i n x0 x1 x2 x3 x4 x5 x6)) -∗ Q ⟨⟩))
      ⊢ wp frame (wpE (defs₀ (F := F)) Variants.none c none) E
          (cc0_moe i T1 t1 T2 t2 T3 t3 M0 h0 M1 h1 M2 h2 M3 h3 M4 h4 M5 h5 M6 h6 M7 h7) Q := by
  rw [owns_isWhole c M0 h0, owns_isWhole c M1 h1, owns_isWhole c M2 h2, owns_isWhole c M3 h3, owns_isWhole c M4 h4, owns_isWhole c M5 h5,
    owns_isWhole c M6 h6, owns_isWhole c M7 h7 x7, owns_isWhole c M7 h7]
  iintro ⟨HT, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, -, H7⟩, Hk⟩
  subst e0 e1 e2 e3 e4 e5 e6
  iapply (moe_run c i T1 t1 T2 t2 T3 t3 M0 h0 M1 h1 M2 h2 M3 h3 M4 h4 M5 h5 M6 h6 M7 h7 g3 f0 f1 f2 f3 f4 f5 f6 f7 n hn E Q)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨HT, H0, H1, H2, H3, H4, H5, H6, %W, H7, %e7⟩
  iapply Hk
  isplitl [HT]; · iexact HT
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  iexists W; isplitr; (· ipureintro; exact e7); iexact H7

end Cert.Proof.Ideal
-- ==== Proof.MoeRegion.lean ====
/-
  The mixture kernel's region: what each window holds at each grid point, the body obligation from the body's run,
  and the region's record. Its weight arrays are read through two windows each, so the arrays are lent in shares;
  the tables ride in the invariant, whole.
-/
module

public import proofs.«01_k».proof.Proof.MoeBody

@[expose] public section

noncomputable section

namespace Cert.Proof.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The admissible contents of both pipelines' tables. -/
abbrev Tabs : Type := (p : Fin 2) → (pcfgs (F := F) p).Adm

variable (a : Tabs (F := F)) (V : (c : Dev nD) → (b : Ref sig .tc) → Buf (Elt F) ((c : Thread nD τ).loc b))

/-- The mixture pipeline at its tables. -/
abbrev mcfg : Cfg sig Λ₀ := Pipeline.pin (pcfgs (F := F)) a 0

/-- The one index of the active-tile table. -/
def j0 : S1.Idx := fun _ => ⟨0, by decide +revert⟩

/-- The word of the active-tile table. -/
def active : BitVec 32 := (Memref.whole main_arg2 : Memref sig .tc .smem S1 .i32).view.read (Elt F) ((a 0).1 2) j0

theorem active_all (j : S1.Idx) : (Memref.whole main_arg2 : Memref sig .tc .smem S1 .i32).view.read (Elt F) ((a 0).1 2) j = active a := by
  unfold active
  congr 1
  funext k; apply Fin.ext
  have : k = 0 := Subsingleton.elim _ _
  subst this
  have h := (j 0).isLt
  have h1 : S1.size 0 = 1 := rfl
  omega

/-- A window's block at a point: its array at the entry contents through the window's view. -/
abbrev blockAt (c : Dev nD) (w : Fin 8) (t : Fin (mcfg a).N) : ((mcfg a).win w).block.Idx → Elt F ((mcfg a).win w).elt :=
  (((mcfg a).win w).blk t).view.read (Elt F) (V c (Pipeline.arrRef spec0 w))

/-- What the body leaves in the output's buffer at a point. -/
def rowsAt (c : Dev nD) (t : Fin (mcfg a).N) : S256x2x1024.Idx → Elt F .bf16 :=
  moeOut (grid0.coords t) (active a) (blockAt a V c 0 t) (blockAt a V c 1 t) (blockAt a V c 2 t) (blockAt a V c 3 t)
    (blockAt a V c 4 t) (blockAt a V c 5 t) (blockAt a V c 6 t)

/-- The invariant between points: the buffers the pipeline does not stage, and the tables. -/
abbrev inv0 (c : Dev nD) : sProp 𝕄 :=
  iprop(Pipeline.scopedRest (Ix := Unit) (Name := ℕ) (U := UU) (Lvl := ℕ) (Val := Elt F) spec0 c
    ∗ Pipeline.prefHeld pre0 c (fun _ => fullShare) (a 0).1)

/-- The region's proof data. -/
def dat0 (c : Dev nD) : Dat τ (Elt F) Unit ℕ UU ℕ (mcfg a) c where
  A w := V c (Pipeline.arrRef spec0 w)
  after w t := match w with
    | ⟨0, _⟩ => blockAt a V c 0 t
    | ⟨1, _⟩ => blockAt a V c 1 t
    | ⟨2, _⟩ => blockAt a V c 2 t
    | ⟨3, _⟩ => blockAt a V c 3 t
    | ⟨4, _⟩ => blockAt a V c 4 t
    | ⟨5, _⟩ => blockAt a V c 5 t
    | ⟨6, _⟩ => blockAt a V c 6 t
    | ⟨7, _⟩ => rowsAt a V c t
  Φ _ := inv0 a c
  q w := Pipeline.shareOf spec0 w
  owed _ := 0

/-- No window is idle anywhere: one of the two branches always stores. -/
theorem idle_out (pf : pre0.Contents (Elt F)) (i : grid0.Coords) : idle0 pf 7 i = false := by
  show (!(k0_cond1 i (pf.atD 2 ![0]) == 1#1) && !(k0_cond2 i (pf.atD 2 ![0]) == 1#1)) = false
  generalize pf.atD 2 ![0] = n
  by_cases h : k0_cond1 i n = 1#1
  · simp [h]
  · simp [(cond2_iff i _).2 h]

theorem never_idle : ∀ (w : Fin 8) (i : grid0.Coords), (mcfg a).idle w i = false
  | 0, _ => rfl
  | 1, _ => rfl
  | 2, _ => rfl
  | 3, _ => rfl
  | 4, _ => rfl
  | 5, _ => rfl
  | 6, _ => rfl
  | 7, i => idle_out (a 0).1 i

/-- An input's buffer holds its block whenever the body runs. -/
theorem before_in0 (c : Dev nD) (w : Fin 8) (hw : (spec0 w).isOut = false) (t : Fin (mcfg a).N) (d) :
    (dat0 a V c).before w t d = blockAt a V c w t := by
  refine ((dat0 a V c).before_in_eq_fetched w hw (never_idle a w) ?_ ?_ t d).trans ?_
  · intro t t' _; fin_cases w <;> rfl
  · intro t; fin_cases w <;> first | rfl | exact absurd hw (by decide)
  · fin_cases w <;> first | rfl | exact absurd hw (by decide)

abbrev 𝒱₀ : Variants := Variants.none

/-- The tables' third alone beside the other two. -/
theorem pref_split (c : Dev nD) (f : pre0.Contents (Elt F)) :
    (Pipeline.prefHeld pre0 c (fun _ => fullShare) f : sProp 𝕄)
      = iprop(((c : Thread nD τ).loc main_arg0 ↦{fullShare} f 0) ∗ ((c : Thread nD τ).loc main_arg1 ↦{fullShare} f 1)
          ∗ ((c : Thread nD τ).loc main_arg2 ↦{fullShare} f 2)) := by
  unfold Pipeline.prefHeld
  rw [show (Finset.univ : Finset (Fin pre0.K)) = {0, 1, 2} from rfl, BI.bigSep_insert (by decide), BI.bigSep_insert (by decide), BI.bigSep_singleton]
  rfl

/-- A body obligation where no window is ever idle: every buffer at its `before`, then at its `after`. -/
theorem obligation_live {cfg : Cfg sig Λ₀} {c : Dev nD} (d : Dat τ (Elt F) Unit ℕ UU ℕ cfg c)
    (hb : ∀ (w : Fin cfg.W) i, cfg.idle w i = false)
    (h : ∀ t : Fin cfg.N, iprop(d.Φ t.castSucc ∗ d.owesAt () t.castSucc
        ∗ bigSep Finset.univ fun w : Fin cfg.W => iprop(∃ x, owns c ((cfg.win w).stage (cfg.slots t w)) fullShare (d.before w t x)))
      ⊢ wp frame (wpE (defs₀ (F := F)) 𝒱₀ c none) Set.univ (defs₀ .tc cfg.body (cfg.bodyArgs t (cfg.slots t))) fun _ =>
          iprop(d.Φ t.succ ∗ d.owesAt () t.succ
            ∗ bigSep Finset.univ fun w : Fin cfg.W => owns c ((cfg.win w).stage (cfg.slots t w)) fullShare (d.after w t))) :
    BodyObligation d (defs₀ (F := F)) 𝒱₀ () Set.univ := fun t => by
  have e : (fun w : Fin cfg.W => (match cfg.idle w (cfg.grid.coords t) with
      | true => match (cfg.win w).flush t with
        | false => iprop(∃ x, owns c ((cfg.win w).stage (cfg.slots t w)) fullShare (d.before w t x))
        | true => owns c ((cfg.win w).stage (cfg.slots t w)) fullShare (d.after w t)
      | false => owns c ((cfg.win w).stage (cfg.slots t w)) fullShare (d.after w t) : sProp 𝕄))
      = fun w => owns c ((cfg.win w).stage (cfg.slots t w)) fullShare (d.after w t) := funext fun w => by rw [hb]
  refine (h t).trans (Entails.of_eq ?_)
  congr 1
  funext _
  congr 2
  exact congrArg (bigSep Finset.univ) e.symm

theorem body0 (c : Dev nD) : BodyObligation (dat0 a V c) (defs₀ (F := F)) 𝒱₀ () Set.univ := obligation_live _ (never_idle a) fun t => by
  rw [bigSep_W0, bigSep_W0]
  rw [show (dat0 a V c).Φ t.castSucc = inv0 a c from rfl, show (dat0 a V c).Φ t.succ = inv0 a c from rfl,
    show (dat0 a V c).owesAt () t.succ = (dat0 a V c).owesAt () t.castSucc from rfl]
  unfold inv0
  rw [pref_split]
  iintro ⟨⟨HΦ, HT0, HT1, HT2⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before_in0 a V c 0 rfl, before_in0 a V c 1 rfl, before_in0 a V c 2 rfl, before_in0 a V c 3 rfl, before_in0 a V c 4 rfl,
    before_in0 a V c 5 rfl, before_in0 a V c 6 rfl]
  iapply (moe_owns c (grid0.coords t) (Memref.whole main_arg0) (Memref.isWhole_whole _) (Memref.whole main_arg1) (Memref.isWhole_whole _)
    (Memref.whole main_arg2) (Memref.isWhole_whole _) _ (stage_whole0 0 _) _ (stage_whole0 1 _) _ (stage_whole0 2 _) _ (stage_whole0 3 _)
    _ (stage_whole0 4 _) _ (stage_whole0 5 _) _ (stage_whole0 6 _) _ (stage_whole0 7 _) ((a 0).1 2) (active a) (active_all a)
    (blockAt a V c 0 t) (blockAt a V c 1 t) (blockAt a V c 2 t) (blockAt a V c 3 t) (blockAt a V c 4 t) (blockAt a V c 5 t) (blockAt a V c 6 t)
    ((dat0 a V c).before 7 t d7) Set.univ _)
  isplitl [HT2]; · iexact HT2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨HT2, H0, H1, H2, H3, H4, H5, H6, H7⟩
  isplitl [HΦ HT0 HT1 HT2]
  · isplitl [HΦ]; · iexact HΦ
    isplitl [HT0]; · iexact HT0
    isplitl [HT1]; · iexact HT1
    iexact HT2
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Proof.Ideal
-- ==== Proof.ReadRegion.lean ====
/-
  The read-out kernel's region: each block of packed rows becomes the two halves of each row as floats. Its body run,
  its proof data and its body obligation.
-/
module

public import proofs.«01_k».proof.Proof.MoeRegion

@[expose] public section

noncomputable section

namespace Cert.Proof.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : Tabs (F := F)) (V : (c : Dev nD) → (b : Ref sig .tc) → Buf (Elt F) ((c : Thread nD τ).loc b))

/-- What the read-out writes over a block. -/
def readRows (x : S256x2x1024.Idx → Elt F .bf16) : S256x2048.Idx → Elt F .f32 :=
  k1_pay1 (View.ld x (Rect.unit (s := S256x2x1024) ![0, 0, 0] S256x2x1024.size inb_S256x2x1024_S256x2x1024_0_0_0))

theorem zero2 {r : Nat} (h : r = 2) : (fun a => (![0, 0] : Fin 2 → Nat) (a.cast h)) = fun (_ : Fin r) => 0 := by
  subst h; funext a; fin_cases a <;> rfl

/-- The read-out's body over staging buffers that hold stated blocks. -/
theorem read_owns (c : Dev nD) (i : grid1.Coords) (M0 : Memref sig .tc .vmem S256x2x1024 .bf16) (h0 : M0.IsWhole)
    (M1 : Memref sig .tc .vmem S256x2048 .f32) (h1 : M1.IsWhole) (x0 : S256x2x1024.Idx → Elt F .bf16) (x1 : S256x2048.Idx → Elt F .f32)
    (E : Set ℕ) (Q : PUnit → sProp 𝕄) :
    iprop(owns (c : Thread nD τ) M0 fullShare x0 ∗ owns (c : Thread nD τ) M1 fullShare x1
        ∗ (iprop(owns (c : Thread nD τ) M0 fullShare x0 ∗ owns (c : Thread nD τ) M1 fullShare (readRows x0)) -∗ Q ⟨⟩))
      ⊢ wp frame (wpE (defs₀ (F := F)) Variants.none c none) E (cc1_read i M0 h0 M1 h1) Q := by
  rw [owns_isWhole c M0 h0, owns_isWhole c M1 h1 x1, owns_isWhole c M1 h1]
  rw [cc1_read_eq_skeleton]; unfold cc1_read_skel
  iintro ⟨⟨%f0, %e0, H0⟩, ⟨%f1, -, H1⟩, Hk⟩
  subst e0
  sl_exec
  sl_step
  iapply Hk
  isplitl [H0]; · iexists f0; isplitr; (· ipureintro; rfl); iexact H0
  iexists _
  isplitr; swap; (· iexact H1)
  ipureintro
  exact read_full _ _ _ (zero2 rfl) _ _

/-- The read-out pipeline. -/
abbrev rcfg : Cfg sig Λ₀ := Pipeline.pin (pcfgs (F := F)) a 1

/-- A packed block at a point. -/
abbrev blockAt1 (c : Dev nD) (t : Fin (rcfg a).N) : ((rcfg a).win 0).block.Idx → Elt F ((rcfg a).win 0).elt :=
  (((rcfg a).win 0).blk t).view.read (Elt F) (V c (Pipeline.arrRef spec1 0))

/-- The region's proof data. -/
def dat1 (c : Dev nD) : Dat τ (Elt F) Unit ℕ UU ℕ (rcfg a) c where
  A w := V c (Pipeline.arrRef spec1 w)
  after w t := match w with
    | ⟨0, _⟩ => blockAt1 a V c t
    | ⟨1, _⟩ => readRows (blockAt1 a V c t)
  Φ _ := Pipeline.scopedRest (Ix := Unit) (Name := ℕ) (U := UU) (Lvl := ℕ) (Val := Elt F) spec1 c
  q _ := fullShare
  owed _ := 0

theorem never_idle1 : ∀ (w : Fin 2) (i : grid1.Coords), (rcfg a).idle w i = false
  | 0, _ => rfl
  | 1, _ => rfl

theorem before_in1 (c : Dev nD) (t : Fin (rcfg a).N) (d) : (dat1 a V c).before 0 t d = blockAt1 a V c t :=
  ((dat1 a V c).before_in_eq_fetched 0 rfl (never_idle1 a 0) (fun _ _ _ => rfl) (fun _ => rfl) t d).trans rfl

theorem body1 (c : Dev nD) : BodyObligation (dat1 a V c) (defs₀ (F := F)) 𝒱₀ () Set.univ := obligation_live _ (never_idle1 a) fun t => by
  rw [bigSep_W1, bigSep_W1]
  rw [show (dat1 a V c).Φ t.castSucc = (dat1 a V c).Φ 0 from rfl, show (dat1 a V c).Φ t.succ = (dat1 a V c).Φ 0 from rfl,
    show (dat1 a V c).owesAt () t.succ = (dat1 a V c).owesAt () t.castSucc from rfl]
  iintro ⟨HΦ, Howes, ⟨%d0, H0⟩, ⟨%d1, H1⟩⟩
  erw [before_in1 a V c t d0]
  iapply (read_owns c (grid1.coords t) _ (stage_whole1 0 _) _ (stage_whole1 1 _) (blockAt1 a V c t) ((dat1 a V c).before 1 t d1) Set.univ _)
  isplitl [H0]; · iexact H0
  isplitl [H1]; · iexact H1
  iintro ⟨H0, H1⟩
  isplitl [HΦ]; · iexact HΦ
  isplitl [Howes]; · iexact Howes
  isplitl [H0]; · iexact H0
  iexact H1

end Cert.Proof.Ideal
-- ==== Proof.Regs.lean ====
/-
  The two regions' records over the unscoped buffers' valuations, and the run of the whole program: every buffer ends
  at the last valuation.
-/
module

public import proofs.«01_k».proof.Proof.ReadRegion
public import proofs.«01_k».proof.Proof.Gen.KernelIdeal.Regions

@[expose] public section

noncomputable section

namespace Cert.Proof.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

variable (a : Tabs (F := F)) (m : (ℓ : Loc nD τ sig) → Buf (Elt F) ℓ)

/-- The buffers at launch. -/
abbrev Va (c : Dev nD) (b : Ref sig .tc) : Buf (Elt F) ((c : Thread nD τ).loc b) := V0 m c b

/-- The packed rows the mixture region leaves. -/
def packed (c : Dev nD) : Buf (Elt F) ((c : Thread nD τ).loc main_v0) := (dat0 a (Va m) c).arrAt 7 (mcfg a).N

/-- The buffers after the mixture region. -/
def Vb (c : Dev nD) : Valuation τ sig (Elt F) := Function.update (V0 m c) main_v0 (packed a m c)

/-- The rows the read-out leaves. -/
def rows (c : Dev nD) : Buf (Elt F) ((c : Thread nD τ).loc main_v1) := (dat1 a (fun c b => Vb a m c b) c).arrAt 1 (rcfg a).N

/-- What the regions leave, as the frame's valuations take it. -/
def outs : Outs (F := F) := fun _ r c =>
  if h : r = main_v0 then h ▸ packed a m c else if h : r = main_v1 then h ▸ rows a m c else m (c, r)

theorem outs1 (c : Dev nD) : outs a m 1 main_v0 c = packed a m c := dif_pos rfl
theorem outs2 (c : Dev nD) : outs a m 2 main_v1 c = rows a m c := (dif_neg (by decide)).trans (dif_pos rfl)
theorem V1_eq (c : Dev nD) : V1 m (outs a m) c = Vb a m c := by unfold V1 Vb; rw [outs1]

theorem Vb_out (c : Dev nD) : Vb a m c main_v0 = packed a m c := by unfold Vb; rw [Function.update_self]
theorem Vb_of (c : Dev nD) (b : Ref sig .tc) (h : b ≠ main_v0) : Vb a m c b = Va m c b := by
  unfold Vb; rw [Function.update_of_ne (StableHlo.devRef_ne_of_ne h)]
/-- The buffers at the end. -/
def Vc (c : Dev nD) : Valuation τ sig (Elt F) := Function.update (Vb a m c) main_v1 (rows a m c)

theorem V2_eq (c : Dev nD) : V2 m (outs a m) c = Vc a m c := by unfold V2 Vc; rw [outs2, V1_eq]
theorem Vc_out (c : Dev nD) : Vc a m c main_v1 = rows a m c := by unfold Vc; rw [Function.update_self]
theorem Vc_of (c : Dev nD) (b : Ref sig .tc) (h : b ≠ main_v1) : Vc a m c b = Vb a m c b := by
  unfold Vc; rw [Function.update_of_ne (StableHlo.devRef_ne_of_ne h)]

/-- Both regions' proof data. -/
def pdats : (p : Fin 2) → (c : Dev nD) → Dat τ (Elt F) Unit ℕ UU ℕ (Pipeline.pin (pcfgs (F := F)) a p) c
  | ⟨0, _⟩ => fun c => dat0 a (Va m) c
  | ⟨1, _⟩ => fun c => dat1 a (fun c b => Vb a m c b) c

abbrev L : GSem nD τ sig → Finset Unit := fun _ => ∅
abbrev lv : GSem nD τ sig → Unit → ℕ := fun _ _ => 0

/-- What rides along between items: a core owing nothing. -/
abbrev idleE (c : Dev nD) : sProp 𝕄 := iprop(∃ W, owes (c : Thread nD τ) (0 : CellTallies nD τ sig Unit) W)

/-- The tables at launch are the admissible contents the run is at. -/
abbrev TabsAt : Prop := ∀ (c : Dev nD) (k : Fin 3), (a 0).1 k = Va m c (pre0.ref k)

omit [FloatOps F] in
/-- Separation regrouped, as an equation. -/
theorem sep_assoc_word (P Q R : sProp 𝕄) : iprop((P ∗ Q) ∗ R) = iprop(P ∗ Q ∗ R) := equiv_iff.mp ⟨BI.sep_assoc, BI.sep_assoc'⟩

/-- Every buffer that is no window's array: the tables and the rest. -/
theorem rest_split (c : Dev nD) (V : (b : Ref sig .tc) → Buf (Elt F) ((c : Thread nD τ).loc b)) (f : pre0.Contents (Elt F))
    (hf : ∀ k, f k = V (pre0.ref k)) :
    (Pipeline.unscopedRest (Ix := Unit) (Name := ℕ) (U := UU) (Lvl := ℕ) spec0 c V : sProp 𝕄)
      = iprop(Pipeline.prefHeld pre0 c (fun _ => fullShare) f ∗ ((c : Thread nD τ).loc main_v1 ↦{fullShare} V main_v1)) := by
  rw [show (Pipeline.unscopedRest (Ix := Unit) (Name := ℕ) (U := UU) (Lvl := ℕ) spec0 c V : sProp 𝕄)
      = iprop(((c : Thread nD τ).loc main_arg0 ↦{fullShare} V main_arg0) ∗ ((c : Thread nD τ).loc main_arg1 ↦{fullShare} V main_arg1)
        ∗ ((c : Thread nD τ).loc main_arg2 ↦{fullShare} V main_arg2) ∗ ((c : Thread nD τ).loc main_v1 ↦{fullShare} V main_v1))
      from Pipeline.unscopedRest_eq_of_list spec0 c V [main_arg0, main_arg1, main_arg2, main_v1] (by decide) (by decide),
    pref_split, hf 0, hf 1, hf 2, sep_assoc_word, sep_assoc_word]
  rfl

/-- The read-out leaves its input as it was. -/
theorem dat1_in (V : (c : Dev nD) → (b : Ref sig .tc) → Buf (Elt F) ((c : Thread nD τ).loc b)) (c : Dev nD) (n : ℕ) :
    (dat1 a V c).arrAt 0 n = V c main_v0 := (dat1 a V c).arrAt_in 0 rfl n

/-- The packed rows pass through the read-out unchanged. -/
theorem arr1_in (c : Dev nD) (n : ℕ) : (dat1 a (fun c b => Vb a m c b) c).arrAt 0 n = Vc a m c main_v0 :=
  (dat1_in a (fun c b => Vb a m c b) c n).trans (Vc_of a m c main_v0 (by decide)).symm

set_option backward.isDefEq.respectTransparency.types false in
/-- The mixture region's record. -/
def reg0 (hT : TabsAt a m) : RegionSeg (pcfgs (F := F)) a (pdats a m) () defs₀ 𝒱₀ L lv 0 where
  win := (launch₀0 (F := F)).win
  block_pos := (launch₀0 (F := F)).block_pos
  stage_whole := (launch₀0 (F := F)).stage_whole
  K := PEmpty
  osem k := k.elim
  ho := Pipeline.OwnSemFacts.none _
  hbody c := (body0 a (Va m) c).loose
  hwaits := Pipeline.hwaits_of_owed_zero _ _ _ _ L lv 0 fun _ _ => rfl
  pre c := iprop(unscopedBufs c (Va m c) ∗ idleE c)
  post c := iprop(unscopedBufs c (fun b => Vb a m c b) ∗ idleE c)
  X _ := BI.emp
  Y c := Pipeline.prefHeld pre0 c (fun _ => fullShare) (a 0).1
  Z c := iprop((c : Thread nD τ).loc main_v1 ↦{fullShare} Va m c main_v1)
  hentry c := by
    rw [Pipeline.ownSems0_none]
    have hsplit := Pipeline.arrays_of_unscopedBufs_shared (p := 0) (pcfgs (F := F)) a (pdats a m) (launch₀0 (F := F)).win (launch₀0 (F := F)).sharedIn
      (launch₀0 (F := F)).arr_whole c (fun _ _ => rfl) (Va m c) fun _ => rfl
    have hr := rest_split (F := F) c (Va m c) (a 0).1 (hT c)
    iintro ⟨⟨Hub, HO⟩, -, -⟩
    ihave H := hsplit $$ Hub
    icases H with ⟨Ha, Hrest⟩
    ihave H' := (Entails.of_eq hr) $$ Hrest
    icases H' with ⟨Hp, Hrest⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats a m 0 c).Φ 0 = inv0 a c from rfl]
    iintro ⟨-, Hp, Hr⟩
    isplitl [Hr]; · iexact Hr
    iexact Hp
  hout c := by
    rw [Pipeline.ownSems0_none, show (pdats a m 0 c).Φ (Fin.last _) = inv0 a c from rfl]
    iintro ⟨Hr, Hp⟩
    isplitl [Hp]; · iexact Hp
    isplitr; · iempintro
    iexact Hr
  hexit c := by
    have hjoin := Pipeline.unscopedBufs_of_arrays_shared (p := 0) (pcfgs (F := F)) a (Ix := Unit) (Name := ℕ) (U := UU) (Lvl := ℕ)
      (launch₀0 (F := F)).win (launch₀0 (F := F)).sharedIn (launch₀0 (F := F)).arr_whole c (pdats a m) (fun _ _ => rfl) (Va m c)
      (fun b => Vb a m c b) ((pdats a m 0 c).arrAt · (mcfg a).N)
      (fun w => by
        fin_cases w
        · exact ((pdats a m 0 c).arrAt_in 0 rfl _).trans (Vb_of a m c main_arg3 (by decide)).symm
        · exact ((pdats a m 0 c).arrAt_in 1 rfl _).trans (Vb_of a m c main_arg4 (by decide)).symm
        · exact ((pdats a m 0 c).arrAt_in 2 rfl _).trans (Vb_of a m c main_arg4 (by decide)).symm
        · exact ((pdats a m 0 c).arrAt_in 3 rfl _).trans (Vb_of a m c main_arg5 (by decide)).symm
        · exact ((pdats a m 0 c).arrAt_in 4 rfl _).trans (Vb_of a m c main_arg5 (by decide)).symm
        · exact ((pdats a m 0 c).arrAt_in 5 rfl _).trans (Vb_of a m c main_arg6 (by decide)).symm
        · exact ((pdats a m 0 c).arrAt_in 6 rfl _).trans (Vb_of a m c main_arg6 (by decide)).symm
        · exact (Vb_out a m c).symm)
      (fun b hb => Vb_of a m c b fun h => hb (h ▸ Finset.mem_image.mpr ⟨7, Finset.mem_univ _, rfl⟩))
    have hr := rest_split (F := F) c (Va m c) (a 0).1 (hT c)
    iintro ⟨Ha, HO, Hp, Hrest⟩
    imodintro
    isplitl [Ha Hp Hrest]
    · iapply hjoin
      isplitl [Ha]; · iexact Ha
      iapply (Entails.of_eq hr.symm)
      isplitl [Hp]; · iexact Hp
      iexact Hrest
    unfold Pipeline.Dat.owesAt Pipeline.owesWithin
    icases HO with ⟨%W, -, HO⟩; iexists W; iexact HO

set_option backward.isDefEq.respectTransparency.types false in
/-- The read-out region's record. -/
def reg1 : RegionSeg (pcfgs (F := F)) a (pdats a m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body1 a (fun c b => Vb a m c b) c).loose
  hwaits := Pipeline.hwaits_of_owed_zero _ _ _ _ L lv 1 fun _ _ => rfl
  pre c := iprop(unscopedBufs c (fun b => Vb a m c b) ∗ idleE c)
  post c := iprop(unscopedBufs c (fun b => Vc a m c b) ∗ idleE c)
  X _ := BI.emp
  Y _ := BI.emp
  Z c := Pipeline.unscopedRest (Ix := Unit) (Name := ℕ) (U := UU) (Lvl := ℕ) spec1 c (fun b => Vb a m c b)
  hentry c := by
    rw [Pipeline.ownSems0_none]
    have hsplit := Pipeline.arrays_of_unscopedBufs (p := 1) (pcfgs (F := F)) a (pdats a m) (launch1 (F := F)).win (launch1 (F := F)).arr_whole c
      ((pdats a m 1 c).share_full fun _ => rfl) (fun b => Vb a m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats a m 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (pdats a m 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) a (Ix := Unit) (Name := ℕ) (U := UU) (Lvl := ℕ) (launch1 (F := F)).win (launch1 (F := F)).arr_whole c
      (pdats a m) ((pdats a m 1 c).share_full fun _ => rfl) (fun b => Vb a m c b) (fun b => Vc a m c b) ((pdats a m 1 c).arrAt · (rcfg a).N)
      (fun w => by
        fin_cases w
        · exact arr1_in a m c _
        · exact (Vc_out a m c).symm)
      (fun b hb => Vc_of a m c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.Ideal
-- ==== Proof.Run.lean ====
/-
  The whole program's run: from any memory whose tables are admissible, every weakly fair execution ends with every
  unscoped buffer at the last valuation and every semaphore at zero.
-/
module

public import proofs.«01_k».proof.Proof.Regs

@[expose] public section

noncomputable section

namespace Cert.Proof.Ideal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

variable (a : Tabs (F := F)) (m : (ℓ : Loc nD τ sig) → Buf (Elt F) ℓ) (ρ : Dev nD → PrngReg)

/-- The launch's element: the pipelines' tokens, no counter yet. -/
def u0 : UU := (initOf (Pipeline.cells (Pipeline.pin (pcfgs (F := F)) a) (cellOf_inj a)) (Pipeline.launchToks (Pipeline.pin (pcfgs (F := F)) a) (cellOf_inj a)), 1)

set_option backward.isDefEq.respectTransparency.types false in
/-- THE RUN. -/
theorem run_all (hT : TabsAt a m) :
    θ_run defs (onTc (τ := τ) (main (F := F))) ⟨m, fun _ => 0, ρ⟩ (fun r =>
      (∀ c : Dev nD, ∀ b ∈ Pipeline.ucRefs τ sig, r.2.mem (c, b) = Vc a m c b) ∧ r.2.sem = fun _ => 0) := by
  refine Pipeline.θ_run_regions_kit_dev_sems (pcfgs (F := F)) a (pdats a m) () (cellOf_inj a) embL defs₀ 𝒱₀ L lv m ρ main
    (segs 𝒱₀ L lv (fun _ => idleE) () a (pdats a m) (reg0 a m hT) (reg1 a m))
    (fun c Q => by
      rewrite [main_chain c, Seg.run_eq_chain,
        show (segs 𝒱₀ L lv (fun _ => idleE) () a (pdats a m) (reg0 a m hT) (reg1 a m) c).map Seg.prog = [
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) 0 (fun _ _ => rfl) (fun _ => iprop(emp)) (u0 a) ?_
    (T₀ := fun c => iprop(unscopedBufs c (Va m c) ∗ idleE c))
    (Tₙ := fun c => unscopedBufs c (fun b => Vc a m c b))
    (hch := fun c => ⟨.rfl, .rfl, .rfl⟩)
    (hinit := ?_) (QY := fun c s => ∀ b ∈ Pipeline.ucRefs τ sig, s.mem (c, b) = Vc a m c b)
    (hfin := fun c s' => ?_) (hQ := fun _ h hz => ⟨h, funext fun g => hz g (.inr (regions_no_unscoped g.2))⟩)
  · unfold u0
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    iintro ⟨⟨Hh, -, HO, -, -, -⟩, -⟩
    imodintro
    isplitl [Hh]; · iexact Hh
    iexists ∅; iexact HO
  · rw [Pipeline.unscopedBufs_held (Ix := Unit) (Name := ℕ) (U := UU) (Lvl := ℕ) c (Vc a m c)]
    unfold StableHlo.held
    iintro ⟨Hh, HSI⟩
    ihave Hr := (pointsTo_read_all (Pipeline.ucRefs τ sig) (fun b => ((c : Thread nD τ).1, b)) (Vc a m c) s') $$ [Hh HSI]
    · isplitl [Hh] <;> iassumption
    icases Hr with ⟨%h, HSI⟩
    imodintro
    isplitr
    · ipureintro; exact h
    · iexact HSI

theorem mem_uc (b : Ref sig .tc) (h : b.isScoped = false) : (Proc.devRef .tc b : DevRef τ sig) ∈ Pipeline.ucRefs τ sig :=
  Finset.mem_filter.mpr ⟨StableHlo.devRef_mem_tcRefs b, by simpa using h⟩

/-- An argument ends as it was launched. -/
theorem Vc_arg (c : Dev nD) (b : Ref sig .tc) (h0 : b ≠ main_v0) (h1 : b ≠ main_v1) : Vc a m c b = Va m c b :=
  (Vc_of a m c b h1).trans (Vb_of a m c b h0)

end Cert.Proof.Ideal
-- ==== Proof.Decode.lean ====
/-
  What the launch precondition says of the three tables, read off its printed function: every tile names two
  experts in order, and between one and all of the tiles are active.
-/
module

public import proofs.«01_k».proof.Pre_launched
public import Idealize.ShloMosaic.Lib.ReduceAll
public import Idealize.ShloMosaic.Lib.Affine
public import Idealize.ShloMosaic.Lib.WordCmp

@[expose] public section

namespace Cert.Proof

open Idealize.ShloMosaic Cert.Pre_launched

/-- The precondition's stated facts hold. -/
theorem launchedFacts : Cert.Pre_launched.Facts where
  bcast_S_S152 := by decide
  reducesTo_S152_S_d0 := by decide
  h_S_ := by decide
  shapeCasts_S1_S_ := by decide

/-- Two words in order, the second below a bound. -/
structure Pair (lo hi : BitVec 32) : Prop where
  lt : lo.toNat < hi.toNat
  bound : hi.toNat < 32

/-- The tables a launch may find. -/
structure Tables (lo hi : S152.Idx → BitVec 32) (n : S1.Idx → BitVec 32) : Prop where
  pair : ∀ i, Pair (lo i) (hi i)
  pos : ∀ j, 1 ≤ (n j).toNat
  le : ∀ j, (n j).toNat ≤ 152

theorem pair_of_signed {lo hi : BitVec 32} (h0 : 0 ≤ lo.toInt) (h1 : lo.toInt < hi.toInt) (h2 : hi.toInt < 32) : Pair lo hi := by
  have e0 := BitVec.toInt_eq_toNat_cond lo
  have e1 := BitVec.toInt_eq_toNat_cond hi
  have := lo.isLt
  have := hi.isLt
  constructor <;> (split at e0 <;> split at e1 <;> omega)

theorem count_of_signed {n : BitVec 32} (h0 : 1 ≤ n.toInt) (h1 : n.toInt ≤ 152) : 1 ≤ n.toNat ∧ n.toNat ≤ 152 := by
  have e0 := BitVec.toInt_eq_toNat_cond n
  have := n.isLt
  split at e0 <;> omega

/-- The precondition, decoded. -/
theorem tables_of_launched [Cert.Pre_launched.Facts] {F : FTy → Type} [FloatOps F] (lo hi : IVec S152 32) (n : IVec S1 32)
    (x : IVec S38912x1152 32) (g u : FVec F S32x2048x512 .bf16) (d : FVec F S32x512x2048 .bf16)
    (h : ∀ j, Cert.Pre_launched.fn lo hi n x g u d j = 1#1) : Tables lo hi n := by
  have j0 : S_.Idx := fun a => a.elim0
  have e := h j0
  unfold Cert.Pre_launched.fn at e
  obtain ⟨e1, e2⟩ := IntOp.andi_eq_one.1 e
  obtain ⟨e3, e4⟩ := IntOp.andi_eq_one.1 e1
  have hn : ∀ j : S1.Idx, shapeCast S_ n Facts.shapeCasts_S1_S_ j0 = n j := fun j => by
    have one : ∀ p q : S1.Idx, p = q := fun p q => funext fun a => Fin.ext (by
      obtain rfl : a = 0 := Subsingleton.elim _ _
      have hp := (p 0).isLt; have hq := (q 0).isLt
      have h1 : S1.size 0 = 1 := rfl
      omega)
    exact congrArg n (one _ _)
  refine ⟨fun i => ?_, fun j => ?_, fun j => ?_⟩
  · have e5 := Host.reduce_andi_all _ _ _ _ j0 e3 i
    obtain ⟨e6, e7⟩ := IntOp.andi_eq_one.1 e5
    obtain ⟨e8, e9⟩ := IntOp.andi_eq_one.1 e6
    exact pair_of_signed (IntOp.cmpi_sge.1 e8) (IntOp.cmpi_slt.1 e9) (IntOp.cmpi_slt.1 e7)
  · exact (count_of_signed (hn j ▸ IntOp.cmpi_sge.1 e4) (hn j ▸ IntOp.cmpi_sle.1 e2)).1
  · exact (count_of_signed (hn j ▸ IntOp.cmpi_sge.1 e4) (hn j ▸ IntOp.cmpi_sle.1 e2)).2

end Cert.Proof
-- ==== Proof.Admit.lean ====
/-
  The tables a launch finds are admissible: every window that reads one takes a block inside its array.
-/
module

public import proofs.«01_k».proof.Proof.Run
public import proofs.«01_k».proof.Proof.Decode

@[expose] public section

noncomputable section

namespace Cert.Proof.Ideal

open Cert.KernelIdeal Cert.KernelIdeal.Gen

open Idealize.ShloMosaic Idealize.SL.Sem
open Idealize.ShloMosaic.TcCoe

variable {F : FTy → Type} [FloatOps F]

/-- An expert's block of a gate or up array lies inside it. -/
theorem up_inb (b : BitVec 32) (hb : b.toNat < 32) :
    ∀ a, ((![b.toNat, (0#32).toNat, (0#32).toNat] : Fin 3 → Nat) a + 1) * S1x2048x512.size a ≤ S32x2048x512.size a := by
  intro a
  fin_cases a <;> simp [S1x2048x512, S32x2048x512] <;> omega

/-- An expert's block of the down array lies inside it. -/
theorem down_inb (b : BitVec 32) (hb : b.toNat < 32) :
    ∀ a, ((![b.toNat, (0#32).toNat, (0#32).toNat] : Fin 3 → Nat) a + 1) * S1x512x2048.size a ≤ S32x512x2048.size a := by
  intro a
  fin_cases a <;> simp [S1x512x2048, S32x512x2048] <;> omega

/-- A tile's row block, clamped to the last active one, is the smaller of the two numbers. -/
theorem clamp_toNat (t : Nat) (ht : t < 152) (n : BitVec 32) (h1 : 1 ≤ n.toNat) (h2 : n.toNat ≤ 152) :
    (Scalar.minsi (BitVec.ofNat 32 t) (Scalar.subi n 1#32)).toNat = min t (n.toNat - 1) := by
  have e1 : (BitVec.ofNat 32 t).toNat = t := by rw [BitVec.toNat_ofNat]; omega
  have e2 : (n - 1#32).toNat = n.toNat - 1 := by rw [BitVec.toNat_sub]; simp; omega
  have i1 := BitVec.toInt_eq_toNat_of_lt (x := BitVec.ofNat 32 t) (by omega)
  have i2 := BitVec.toInt_eq_toNat_of_lt (x := n - 1#32) (by omega)
  show (if (BitVec.ofNat 32 t).slt (n - 1#32) then BitVec.ofNat 32 t else n - 1#32).toNat = _
  split
  · next h => rw [BitVec.slt_iff_toInt_lt] at h; omega
  · next h => rw [BitVec.slt_iff_toInt_lt] at h; omega

theorem rows_inb (b : BitVec 32) (hb : b.toNat < 152) :
    ∀ a, ((![b.toNat, (0#32).toNat] : Fin 2 → Nat) a + 1) * S256x1152.size a ≤ S38912x1152.size a := by
  intro a
  fin_cases a <;> simp [S256x1152, S38912x1152] <;> omega

/-- The one-element table has one index. -/
theorem one_idx (p q : S1.Idx) : p = q := funext fun a => Fin.ext (by
  obtain rfl : a = 0 := Subsingleton.elim _ _
  have hp := (p 0).isLt; have hq := (q 0).isLt
  have h1 : S1.size 0 = 1 := rfl
  omega)

/-- Tables as the launch precondition has them are admissible. -/
theorem ok_of_tables (pf : pre0.Contents (Elt F)) (h : Tables (pf 0) (pf 1) (pf 2)) : ok0 pf := by
  have hlo : ∀ i, (pf 0 i : BitVec 32).toNat < 32 := fun i => (h.pair i).lt.trans (h.pair i).bound
  have hhi : ∀ i, (pf 1 i : BitVec 32).toNat < 32 := fun i => (h.pair i).bound
  refine ⟨fun i => ⟨rows_inb _ ?_, .inl rfl⟩,
    fun i => ⟨up_inb _ (hlo _), .inr (Affine.block_words_dvd (of_decide_eq_true rfl) (by decide))⟩,
    fun i => ⟨up_inb _ (hhi _), .inr (Affine.block_words_dvd (of_decide_eq_true rfl) (by decide))⟩,
    fun i => ⟨up_inb _ (hlo _), .inr (Affine.block_words_dvd (of_decide_eq_true rfl) (by decide))⟩,
    fun i => ⟨up_inb _ (hhi _), .inr (Affine.block_words_dvd (of_decide_eq_true rfl) (by decide))⟩,
    fun i => ⟨down_inb _ (hlo _), .inr (Affine.block_words_dvd (of_decide_eq_true rfl) (by decide))⟩,
    fun i => ⟨down_inb _ (hhi _), .inr (Affine.block_words_dvd (of_decide_eq_true rfl) (by decide))⟩⟩
  have ht : (i 0).val < 152 := (i 0).isLt
  have e := clamp_toNat (i 0).val ht (pf 2 j0) (h.pos j0) (h.le j0)
  refine lt_of_eq_of_lt (b := min (i 0).val ((pf 2 j0 : BitVec 32).toNat - 1)) (Eq.trans ?_ e) (by omega)
  exact congrArg (fun w => (Scalar.minsi (BitVec.ofNat 32 (i 0).val) (Scalar.subi w 1#32)).toNat) (congrArg (pf 2) (one_idx _ _))

variable (m : (ℓ : Loc nD τ sig) → Buf (Elt F) ℓ)

/-- The one device. -/
def dev : Dev nD := ⟨0, by decide⟩

theorem dev_eq (c : Dev nD) : c = dev := Fin.ext (by have := c.isLt; have h : nD = 1 := rfl; simp only [dev]; omega)

/-- The tables a memory holds. -/
def tabs : pre0.Contents (Elt F) := fun k => Va m dev (pre0.ref k)

/-- A memory's tables are as the launch precondition has them. -/
abbrev Launched : Prop := Tables (m ((dev.tc : Thread nD τ).loc main_arg0)) (m ((dev.tc : Thread nD τ).loc main_arg1)) (m ((dev.tc : Thread nD τ).loc main_arg2))

variable (h : Launched m)

/-- The admissible contents both pipelines run at. -/
def adm : Tabs (F := F)
  | ⟨0, _⟩ => ⟨tabs m, ok_of_tables (tabs m) h⟩
  | ⟨1, _⟩ => ⟨Pipeline.Prefetch.Contents.none, trivial⟩

theorem adm_at : TabsAt (adm m h) m := fun c k => by
  obtain rfl := dev_eq c
  rfl

/-- THE FRAME, at the tables the launch precondition admits. -/
theorem frame_of (ρ : Dev nD → PrngReg) :
    θ_run defs (onTc (τ := τ) (main (F := F))) ⟨m, fun _ => 0, ρ⟩ (fun r =>
      (∀ c : Dev nD, ∀ b : Ref sig .tc, b.isScoped = false → r.2.mem ((c.tc : Thread nD τ).loc b) = Vc (adm m h) m c b)
        ∧ r.2.sem = fun _ => 0) :=
  (θ_run defs _ _).mono (fun _ e => ⟨fun c b hb => e.1 c _ (mem_uc b hb), e.2⟩) (run_all (adm m h) m ρ (adm_at m h))

end Cert.Proof.Ideal
-- ==== Proof.WordsMoeBody.lean ====
/-
  The mixture kernel's body: from the tables' word and its staging buffers held whole it runs to its return. A tile
  below the number of active ones leaves the packed product rows in the output buffer, any other leaves zeros.
-/
module

public import proofs.«01_k».proof.Proof.Gen.Kernel.Launch
public import proofs.«01_k».proof.Proof.Gen.Kernel.Skeleton
public import Idealize.ShloMosaic.Lib.Pipeline.RegionsLoop
public import Idealize.ShloMosaic.Lib.Pipeline.FrameBody
public import Idealize.ShloMosaic.Lib.Tactic

@[expose] public section

noncomputable section

namespace Cert.Proof.Words

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-- The resource algebra: the pipelines' beside the counters their transfers take tokens from. -/
abbrev UU : Type := UR sig nD τ × Counters

local notation "𝕄" => MT nD τ sig Unit (Elt F) ℕ UU ℕ

/-- A memref's contents on a core, and the memref held whole at them. -/
abbrev Cts (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Cts (F := F) c M) : sProp 𝕄 :=
  M.view.loc (c : Thread nD τ) ↦{fullShare} f

/-- What an active tile's body writes: the kernel's stored value over the seven blocks it reads. -/
def moeRows (x : S256x1152.Idx → Elt F .i32) (gLo gHi uLo uHi : S1x2048x512.Idx → Elt F .bf16)
    (dLo dHi : S1x512x2048.Idx → Elt F .bf16) : S256x1024.Idx → Elt F .i32 :=
  k0_pay1
    (k0_pay3 (View.ld x (Rect.unit (s := S256x1152) ![0, 0] S256x1024.size inb_S256x1152_S256x1024_0_0)))
    (k0_pay4 (View.ld x (Rect.unit (s := S256x1152) ![0, 0] S256x1024.size inb_S256x1152_S256x1024_0_0))
      (View.ld gLo (Rect.unit (s := S1x2048x512) ![0, 0, 0] S1x2048x512.size inb_S1x2048x512_S1x2048x512_0_0_0))
      (View.ld uLo (Rect.unit (s := S1x2048x512) ![0, 0, 0] S1x2048x512.size inb_S1x2048x512_S1x2048x512_0_0_0))
      (View.ld x (Rect.unit (s := S256x1152) ![0, 1025] S256x1.size inb_S256x1152_S256x1_0_1025))
      (View.ld dLo (Rect.unit (s := S1x512x2048) ![0, 0, 0] S1x512x2048.size inb_S1x512x2048_S1x512x2048_0_0_0)))
    (k0_pay5 (View.ld x (Rect.unit (s := S256x1152) ![0, 0] S256x1024.size inb_S256x1152_S256x1024_0_0))
      (View.ld gHi (Rect.unit (s := S1x2048x512) ![0, 0, 0] S1x2048x512.size inb_S1x2048x512_S1x2048x512_0_0_0)))
    (k0_pay6 (View.ld uHi (Rect.unit (s := S1x2048x512) ![0, 0, 0] S1x2048x512.size inb_S1x2048x512_S1x2048x512_0_0_0)))
    (View.ld x (Rect.unit (s := S256x1152) ![0, 1026] S256x1.size inb_S256x1152_S256x1_0_1026))
    (View.ld dHi (Rect.unit (s := S1x512x2048) ![0, 0, 0] S1x512x2048.size inb_S1x512x2048_S1x512x2048_0_0_0))

/-- What a tile's body leaves in the output buffer, by the word of the active-tile table it reads. -/
def moeOut (i : grid0.Coords) (n : BitVec 32) (x : S256x1152.Idx → Elt F .i32) (gLo gHi uLo uHi : S1x2048x512.Idx → Elt F .bf16)
    (dLo dHi : S1x512x2048.Idx → Elt F .bf16) : S256x1024.Idx → Elt F .i32 :=
  if k0_cond1 i n = 1#1 then moeRows x gLo gHi uLo uHi dLo dHi else k0_pay2

/-- The two conditions exclude each other. -/
theorem cond2_iff (i : grid0.Coords) (n : BitVec 32) : k0_cond2 i n = 1#1 ↔ ¬ k0_cond1 i n = 1#1 := by
  unfold k0_cond1 k0_cond2
  simp only [Scalar.cmpi, Scalar.extui, Scalar.xori]
  generalize IntOp.cmpi CmpIPredicate.slt (BitVec.ofNat 32 (i 0).val) n = b
  revert b; decide

/-- A store over a whole shape leaves its payload, whatever was there. -/
theorem read_full {κ : Kind} {sp : Space} {S : Shape} {e : EltTy} (v : View sig κ sp S e) (f : v.ty.Contents (Elt F))
    (off : Fin S.rank → Nat) (h : off = fun _ => 0) (inb : ∀ a, off a + S.size a ≤ S.size a) (w : S.Idx → Elt F e) :
    v.read (Elt F) (v.writes (Elt F) f [⟨Rect.unit off S.size inb, w⟩]) = w := by
  subst h; exact View.read_writes_whole v f w

theorem zero2 {r : Nat} (h : r = 2) : (fun a => (![0, 0] : Fin 2 → Nat) (a.cast h)) = fun (_ : Fin r) => 0 := by
  subst h; funext a; fin_cases a <;> rfl

/-- The mixture kernel's body, run. -/
theorem moe_run (c : Dev nD) (i : grid0.Coords)
    (T1 : Memref sig .tc .smem S152 .i32) (t1 : T1.IsWhole) (T2 : Memref sig .tc .smem S152 .i32) (t2 : T2.IsWhole)
    (T3 : Memref sig .tc .smem S1 .i32) (t3 : T3.IsWhole)
    (M0 : Memref sig .tc .vmem S256x1152 .i32) (h0 : M0.IsWhole) (M1 : Memref sig .tc .vmem S1x2048x512 .bf16) (h1 : M1.IsWhole)
    (M2 : Memref sig .tc .vmem S1x2048x512 .bf16) (h2 : M2.IsWhole) (M3 : Memref sig .tc .vmem S1x2048x512 .bf16) (h3 : M3.IsWhole)
    (M4 : Memref sig .tc .vmem S1x2048x512 .bf16) (h4 : M4.IsWhole) (M5 : Memref sig .tc .vmem S1x512x2048 .bf16) (h5 : M5.IsWhole)
    (M6 : Memref sig .tc .vmem S1x512x2048 .bf16) (h6 : M6.IsWhole) (M7 : Memref sig .tc .vmem S256x1024 .i32) (h7 : M7.IsWhole)
    (g3 : Cts (F := F) c T3) (f0 : Cts (F := F) c M0) (f1 : Cts (F := F) c M1) (f2 : Cts (F := F) c M2) (f3 : Cts (F := F) c M3)
    (f4 : Cts (F := F) c M4) (f5 : Cts (F := F) c M5) (f6 : Cts (F := F) c M6) (f7 : Cts (F := F) c M7)
    (n : BitVec 32) (hn : ∀ j : S1.Idx, T3.view.read (Elt F) g3 j = n) (E : Set ℕ) (Q : PUnit → sProp 𝕄) :
    iprop(held c T3 g3 ∗ held c M0 f0 ∗ held c M1 f1 ∗ held c M2 f2 ∗ held c M3 f3 ∗ held c M4 f4 ∗ held c M5 f5 ∗ held c M6 f6 ∗ held c M7 f7
        ∗ (iprop(held c T3 g3 ∗ held c M0 f0 ∗ held c M1 f1 ∗ held c M2 f2 ∗ held c M3 f3 ∗ held c M4 f4 ∗ held c M5 f5 ∗ held c M6 f6
              ∗ ∃ W, held c M7 W ∗ ⌜M7.view.read (Elt F) W = moeOut i n (M0.view.read (Elt F) f0) (M1.view.read (Elt F) f1) (M2.view.read (Elt F) f2)
                (M3.view.read (Elt F) f3) (M4.view.read (Elt F) f4) (M5.view.read (Elt F) f5) (M6.view.read (Elt F) f6)⌝)
            -∗ Q ⟨⟩))
      ⊢ wp frame (wpE (defs₀ (F := F)) Variants.none c none) E
          (cc0_moe i T1 t1 T2 t2 T3 t3 M0 h0 M1 h1 M2 h2 M3 h3 M4 h4 M5 h5 M6 h6 M7 h7) Q := by
  rw [cc0_moe_eq_skeleton]; unfold cc0_moe_skel
  iintro ⟨HT, H0, H1, H2, H3, H4, H5, H6, H7, Hk⟩
  rw [k0_part1_eq_skeleton]; unfold k0_part1_skel
  sl_exec
  sl_step
  have hr : moe_run.sl.r c T3 g3 = n := hn _
  iapply Hk
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _
  isplitl [H7]; · iexact H7
  ipureintro
  rw [hr]; unfold moeOut
  by_cases hc : k0_cond1 i n = 1#1
  · rw [dif_neg (fun h => (cond2_iff i n).1 h hc), dif_pos hc, if_pos hc]
    exact read_full _ _ _ (zero2 rfl) _ _
  · rw [dif_pos ((cond2_iff i n).2 hc), if_neg hc]
    exact read_full _ _ _ (zero2 rfl) _ _

omit [BitOps F] in
/-- A whole memref owned: some contents that read so, held. -/
theorem owns_isWhole (c : Dev nD) {sp : Space} {S : Shape} {e : EltTy} (M : Memref sig .tc sp S e) (h : M.IsWhole)
    (X : S.Idx → Elt F e) : (owns (c : Thread nD τ) M fullShare X : sProp 𝕄) = iprop(∃ f, ⌜M.view.read (Elt F) f = X⌝ ∗ held c M f) := by
  unfold owns; rw [h.set_eq_univ]

/-- The mixture kernel's body over staging buffers that hold stated blocks. -/
theorem moe_owns (c : Dev nD) (i : grid0.Coords)
    (T1 : Memref sig .tc .smem S152 .i32) (t1 : T1.IsWhole) (T2 : Memref sig .tc .smem S152 .i32) (t2 : T2.IsWhole)
    (T3 : Memref sig .tc .smem S1 .i32) (t3 : T3.IsWhole)
    (M0 : Memref sig .tc .vmem S256x1152 .i32) (h0 : M0.IsWhole) (M1 : Memref sig .tc .vmem S1x2048x512 .bf16) (h1 : M1.IsWhole)
    (M2 : Memref sig .tc .vmem S1x2048x512 .bf16) (h2 : M2.IsWhole) (M3 : Memref sig .tc .vmem S1x2048x512 .bf16) (h3 : M3.IsWhole)
    (M4 : Memref sig .tc .vmem S1x2048x512 .bf16) (h4 : M4.IsWhole) (M5 : Memref sig .tc .vmem S1x512x2048 .bf16) (h5 : M5.IsWhole)
    (M6 : Memref sig .tc .vmem S1x512x2048 .bf16) (h6 : M6.IsWhole) (M7 : Memref sig .tc .vmem S256x1024 .i32) (h7 : M7.IsWhole)
    (g3 : Cts (F := F) c T3) (n : BitVec 32) (hn : ∀ j : S1.Idx, T3.view.read (Elt F) g3 j = n)
    (x0 : S256x1152.Idx → Elt F .i32) (x1 x2 x3 x4 : S1x2048x512.Idx → Elt F .bf16) (x5 x6 : S1x512x2048.Idx → Elt F .bf16)
    (x7 : S256x1024.Idx → Elt F .i32) (E : Set ℕ) (Q : PUnit → sProp 𝕄) :
    iprop(held c T3 g3 ∗ owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ owns (c : Thread nD τ) M5 fullShare x5
        ∗ owns (c : Thread nD τ) M6 fullShare x6 ∗ owns (c : Thread nD τ) M7 fullShare x7
        ∗ (iprop(held c T3 g3 ∗ owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare x4 ∗ owns (c : Thread nD τ) M5 fullShare x5
            ∗ owns (c : Thread nD τ) M6 fullShare x6 ∗ owns (c : Thread nD τ) M7 fullShare (moeOut i n x0 x1 x2 x3 x4 x5 x6)) -∗ Q ⟨⟩))
      ⊢ wp frame (wpE (defs₀ (F := F)) Variants.none c none) E
          (cc0_moe i T1 t1 T2 t2 T3 t3 M0 h0 M1 h1 M2 h2 M3 h3 M4 h4 M5 h5 M6 h6 M7 h7) Q := by
  rw [owns_isWhole c M0 h0, owns_isWhole c M1 h1, owns_isWhole c M2 h2, owns_isWhole c M3 h3, owns_isWhole c M4 h4, owns_isWhole c M5 h5,
    owns_isWhole c M6 h6, owns_isWhole c M7 h7 x7, owns_isWhole c M7 h7]
  iintro ⟨HT, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, -, H7⟩, Hk⟩
  subst e0 e1 e2 e3 e4 e5 e6
  iapply (moe_run c i T1 t1 T2 t2 T3 t3 M0 h0 M1 h1 M2 h2 M3 h3 M4 h4 M5 h5 M6 h6 M7 h7 g3 f0 f1 f2 f3 f4 f5 f6 f7 n hn E Q)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨HT, H0, H1, H2, H3, H4, H5, H6, %W, H7, %e7⟩
  iapply Hk
  isplitl [HT]; · iexact HT
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  iexists W; isplitr; (· ipureintro; exact e7); iexact H7

end Cert.Proof.Words
-- ==== Proof.WordsReadRegion.lean ====
/-
  The read-out kernel's region: each block of packed rows becomes the two halves of each row as floats. Its body run,
  its proof data and its body obligation.
-/
module

public import proofs.«01_k».proof.Proof.WordsMoeRegion

@[expose] public section

noncomputable section

namespace Cert.Proof.Words

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ UU ℕ

variable (a : Tabs (F := F)) (V : (c : Dev nD) → (b : Ref sig .tc) → Buf (Elt F) ((c : Thread nD τ).loc b))

/-- What the read-out writes over a block. -/
def readRows (x : S256x1024.Idx → Elt F .i32) : S256x2048.Idx → Elt F .f32 :=
  k1_pay1 (View.ld x (Rect.unit (s := S256x1024) ![0, 0] S256x1024.size inb_S256x1024_S256x1024_0_0))

/-- The read-out's body over staging buffers that hold stated blocks. -/
theorem read_owns (c : Dev nD) (i : grid1.Coords) (M0 : Memref sig .tc .vmem S256x1024 .i32) (h0 : M0.IsWhole)
    (M1 : Memref sig .tc .vmem S256x2048 .f32) (h1 : M1.IsWhole) (x0 : S256x1024.Idx → Elt F .i32) (x1 : S256x2048.Idx → Elt F .f32)
    (E : Set ℕ) (Q : PUnit → sProp 𝕄) :
    iprop(owns (c : Thread nD τ) M0 fullShare x0 ∗ owns (c : Thread nD τ) M1 fullShare x1
        ∗ (iprop(owns (c : Thread nD τ) M0 fullShare x0 ∗ owns (c : Thread nD τ) M1 fullShare (readRows x0)) -∗ Q ⟨⟩))
      ⊢ wp frame (wpE (defs₀ (F := F)) Variants.none c none) E (cc1_read i M0 h0 M1 h1) Q := by
  rw [owns_isWhole c M0 h0, owns_isWhole c M1 h1 x1, owns_isWhole c M1 h1]
  rw [cc1_read_eq_skeleton]; unfold cc1_read_skel
  iintro ⟨⟨%f0, %e0, H0⟩, ⟨%f1, -, H1⟩, Hk⟩
  subst e0
  sl_exec
  sl_step
  iapply Hk
  isplitl [H0]; · iexists f0; isplitr; (· ipureintro; rfl); iexact H0
  iexists _
  isplitr; swap; (· iexact H1)
  ipureintro
  exact read_full _ _ _ (zero2 rfl) _ _

/-- The read-out pipeline. -/
abbrev rcfg : Cfg sig Λ₀ := Pipeline.pin (pcfgs (F := F)) a 1

/-- A packed block at a point. -/
abbrev blockAt1 (c : Dev nD) (t : Fin (rcfg a).N) : ((rcfg a).win 0).block.Idx → Elt F ((rcfg a).win 0).elt :=
  (((rcfg a).win 0).blk t).view.read (Elt F) (V c (Pipeline.arrRef spec1 0))

/-- The region's proof data. -/
def dat1 (c : Dev nD) : Dat τ (Elt F) Unit ℕ UU ℕ (rcfg a) c where
  A w := V c (Pipeline.arrRef spec1 w)
  after w t := match w with
    | ⟨0, _⟩ => blockAt1 a V c t
    | ⟨1, _⟩ => readRows (blockAt1 a V c t)
  Φ _ := Pipeline.scopedRest (Ix := Unit) (Name := ℕ) (U := UU) (Lvl := ℕ) (Val := Elt F) spec1 c
  q _ := fullShare
  owed _ := 0

theorem never_idle1 : ∀ (w : Fin 2) (i : grid1.Coords), (rcfg a).idle w i = false
  | 0, _ => rfl
  | 1, _ => rfl

theorem before_in1 (c : Dev nD) (t : Fin (rcfg a).N) (d) : (dat1 a V c).before 0 t d = blockAt1 a V c t :=
  ((dat1 a V c).before_in_eq_fetched 0 rfl (never_idle1 a 0) (fun _ _ _ => rfl) (fun _ => rfl) t d).trans rfl

theorem body1 (c : Dev nD) : BodyObligation (dat1 a V c) (defs₀ (F := F)) 𝒱₀ () Set.univ := obligation_live _ (never_idle1 a) fun t => by
  rw [bigSep_W1, bigSep_W1]
  rw [show (dat1 a V c).Φ t.castSucc = (dat1 a V c).Φ 0 from rfl, show (dat1 a V c).Φ t.succ = (dat1 a V c).Φ 0 from rfl,
    show (dat1 a V c).owesAt () t.succ = (dat1 a V c).owesAt () t.castSucc from rfl]
  iintro ⟨HΦ, Howes, ⟨%d0, H0⟩, ⟨%d1, H1⟩⟩
  erw [before_in1 a V c t d0]
  iapply (read_owns c (grid1.coords t) _ (stage_whole1 0 _) _ (stage_whole1 1 _) (blockAt1 a V c t) ((dat1 a V c).before 1 t d1) Set.univ _)
  isplitl [H0]; · iexact H0
  isplitl [H1]; · iexact H1
  iintro ⟨H0, H1⟩
  isplitl [HΦ]; · iexact HΦ
  isplitl [Howes]; · iexact Howes
  isplitl [H0]; · iexact H0
  iexact H1

end Cert.Proof.Words
-- ==== Proof.Frames.lean ====
/-
  The three frames and the ledger of rewrites.
-/
module

public import proofs.«01_k».proof.Defs
public import proofs.«01_k».proof.Proof.Admit
public import proofs.«01_k».proof.Proof.WordsAdmit
public import proofs.«01_k».proof.Proof.Gen.ReferenceIdeal.Run
public import Idealize.ShloMosaic.Lib.Bf16Pair
public import Idealize.ShloMosaic.Lib.Bf16PairInverse

@[expose] public section

noncomputable section

namespace Cert.Proof

open Idealize.ShloMosaic Idealize.SL.Sem
open Idealize.ShloMosaic.TcCoe

instance : Cert.Kernel.Facts := Cert.Kernel.Gen.facts
instance : Cert.KernelIdeal.Facts := Cert.KernelIdeal.Gen.facts
instance : Cert.ReferenceIdeal.Facts := Cert.ReferenceIdeal.Gen.facts
instance : Cert.Pre_launched.Facts := launchedFacts

/-- The precondition of the idealized kernel, decoded. -/
theorem launched_ideal (m : (ℓ : Loc Cert.KernelIdeal.nD Cert.KernelIdeal.τ Cert.KernelIdeal.sig) → Buf (Elt Ideal) ℓ)
    (h : Cert.Pre_KernelIdeal m) : Ideal.Launched m :=
  tables_of_launched _ _ _ _ _ _ _ fun j => congrFun (h Ideal.dev) j

theorem launched_words (m : (ℓ : Loc Cert.Kernel.nD Cert.Kernel.τ Cert.Kernel.sig) → Buf (Elt Bits) ℓ)
    (h : Cert.Pre_Kernel m) : Words.Launched m :=
  tables_of_launched _ _ _ _ _ _ _ fun j => congrFun (h Words.dev) j

/-- The kernel's frame. -/
theorem frame_p : Cert.quiescent_Kernel := fun m ρ hp => by
  refine (θ_run _ _ _).mono (fun r e => ⟨fun c => ⟨?_, ?_, ?_, ?_, ?_, ?_, ?_⟩, e.2⟩) (Words.frame_of m (launched_words m hp) ρ) <;>
    exact (e.1 c _ rfl).trans (Words.Vc_arg _ _ _ _ (by decide) (by decide))

/-- The idealized kernel's frame. -/
theorem frame_pi : Cert.quiescent_KernelIdeal := fun m ρ hp => by
  refine (θ_run _ _ _).mono (fun r e => ⟨fun c => ⟨?_, ?_, ?_, ?_, ?_, ?_, ?_⟩, e.2⟩) (Ideal.frame_of m (launched_ideal m hp) ρ) <;>
    exact (e.1 c _ rfl).trans (Ideal.Vc_arg _ _ _ _ (by decide) (by decide))

/-- The reference's frame. -/
theorem frame_ri : Cert.quiescent_ReferenceIdeal := fun m ρ _ =>
  (θ_run _ _ _).mono (fun r e => ⟨fun c => (e c).2, sem_eq_zero_of_no_sems (by decide) r.2⟩) (Cert.ReferenceIdeal.Value.run m ρ)

/-- The rewrites between the two programs. -/
theorem ledger : Cert.preserves_Kernel_KernelIdeal :=
  ⟨IdealRules.bf16_pair.bufferStatement _ _, IdealRules.bf16_pair.bufferStatement _ _, IdealRules.bf16_pair.packStatement _,
    IdealRules.bf16_pair.statement _ _, IdealRules.bf16_pair.selectZeroStatement _, IdealRules.bf16_pair.statement _ _⟩

end Cert.Proof
-- ==== Proof.Blocks.lean ====
/-
  Where each window's blocks sit: the two outputs, element by element, are what their points left, and an input's
  block at a point is the rows or the expert that the tables name there.
-/
module

public import proofs.«01_k».proof.Proof.Admit
public import Idealize.ShloMosaic.Lib.Pipeline.ValueKit
public import Idealize.ShloMosaic.Lib.Pointwise

@[expose] public section

noncomputable section

namespace Cert.Proof.Ideal

open Cert.KernelIdeal Cert.KernelIdeal.Gen

open Idealize.ShloMosaic
open Idealize.ShloMosaic.TcCoe
open Idealize.ShloMosaic.Pipeline (Dat Cfg Window)

/-- An output window whose blocks all differ writes back at every point. -/
theorem flush_of_inj {G : Pipeline.Grid} (w : Window sig G) (ho : w.isOut = true) (hi : ∀ t t', w.index t = w.index t' → t = t')
    (t : Fin G.N) : w.flush t = true := by
  unfold Window.flush
  simp only [ho, Bool.true_and, Bool.or_eq_true, decide_eq_true_eq]
  by_cases h : t.val + 1 = G.N
  · exact .inl h
  · refine .inr ⟨by have := t.isLt; omega, fun e => ?_⟩
    have := congrArg Fin.val (hi _ _ e)
    simp at this

/-- Two functions of three coordinates are equal where every reading is. -/
theorem ext_ix3 {n0 n1 n2 : Nat} {α : Type} {f g : (⟨3, ![n0, n1, n2]⟩ : Shape).Idx → α}
    (h : ∀ (i : Fin n0) (j : Fin n1) (k : Fin n2), f (ix3 i j k) = g (ix3 i j k)) : f = g := funext fun y => by
  rw [eq_ix3 y]; exact h _ _ _

theorem coord0 : ∀ t : Fin grid0.N, (grid0.coords t 0).val = t.val := by decide +kernel

theorem word_toNat (t : Fin 152) : (BitVec.ofNat 32 t.val).toNat = t.val := by rw [BitVec.toNat_ofNat]; omega

variable {F : FTy → Type} [FloatOps F]
variable (a : Tabs (F := F)) (m : (ℓ : Loc nD τ sig) → Buf (Elt F) ℓ)
variable (V : (c : Dev nD) → (b : Ref sig .tc) → Buf (Elt F) ((c : Thread nD τ).loc b))

theorem index_out (t : Fin 152) : ((mcfg a).win 7).index t = ![t.val, 0, 0] := by
  show (![(BitVec.ofNat 32 (grid0.coords t 0).val).toNat, 0, (0#32).toNat] : Fin 3 → Nat) = _
  rw [coord0 t, word_toNat]; rfl

theorem index_in1 (t : Fin 152) : ((rcfg a).win 0).index t = ![t.val, 0, 0] := by
  show (![(BitVec.ofNat 32 (grid0.coords t 0).val).toNat, 0, (0#32).toNat] : Fin 3 → Nat) = _
  rw [coord0 t, word_toNat]; rfl

theorem index_out1 (t : Fin 152) : ((rcfg a).win 1).index t = ![t.val, 0] := by
  show (![(BitVec.ofNat 32 (grid0.coords t 0).val).toNat, (0#32).toNat] : Fin 2 → Nat) = _
  rw [coord0 t, word_toNat]; rfl

theorem inj_out (t t' : Fin 152) (h : ((mcfg a).win 7).index t = ((mcfg a).win 7).index t') : t = t' := by
  rw [index_out, index_out] at h; exact Fin.ext (congrFun h 0)

theorem inj_out1 (t t' : Fin 152) (h : ((rcfg a).win 1).index t = ((rcfg a).win 1).index t') : t = t' := by
  rw [index_out1, index_out1] at h; exact Fin.ext (congrFun h 0)

/-- The packed array, element by element. -/
theorem packed_apply (c : Dev nD) (t : Fin 152) (p : Fin 256) (h : Fin 2) (l : Fin 1024) :
    (packed a m c : S38912x2x1024.Idx → Elt F .bf16) (ix3 ⟨t.val * 256 + p.val, by omega⟩ h l) = rowsAt a (Va m) c t (ix3 p h l) := by
  have e := (dat0 a (Va m) c).arrAt_emb_eq_flushed 7
    (((mcfg a).win 7).hdisj_of_index_inj fun t t' _ _ => inj_out a t t') t (flush_of_inj ((mcfg a).win 7) rfl (inj_out a) t) (ix3 p h l)
  refine Eq.trans (congrArg (packed a m c : S38912x2x1024.Idx → Elt F .bf16) ?_) e
  refine funext fun b => Fin.ext (Eq.symm ?_)
  refine (((mcfg a).win 7).rect_emb_val t (ix3 p h l) b).trans ?_
  rw [index_out]
  fin_cases b
  · rfl
  · simp
  · simp

/-- The read-out's input block at a point, element by element. -/
theorem block_read (c : Dev nD) (t : Fin 152) (p : Fin 256) (h : Fin 2) (l : Fin 1024) :
    (blockAt1 a V c t : S256x2x1024.Idx → Elt F .bf16) (ix3 p h l)
      = (V c main_v0 : S38912x2x1024.Idx → Elt F .bf16) (ix3 ⟨t.val * 256 + p.val, by omega⟩ h l) := by
  refine congrArg (V c main_v0 : S38912x2x1024.Idx → Elt F .bf16) (funext fun b => Fin.ext ?_)
  refine (((rcfg a).win 0).rect_emb_val t (ix3 p h l) b).trans ?_
  rw [index_in1]
  fin_cases b
  · rfl
  · simp
  · simp

/-- It is what the mixture kernel left there. -/
theorem block_packed_of (c : Dev nD) (hV : (V c main_v0 : S38912x2x1024.Idx → Elt F .bf16) = packed a m c) (t : Fin 152) :
    (blockAt1 a V c t : S256x2x1024.Idx → Elt F .bf16) = rowsAt a (Va m) c t := by
  have e : ∀ (p : Fin 256) (h : Fin 2) (l : Fin 1024),
      (blockAt1 a V c t : S256x2x1024.Idx → Elt F .bf16) (ix3 p h l) = rowsAt a (Va m) c t (ix3 p h l) := fun p h l =>
    ((block_read a V c t p h l).trans (congrFun hV _)).trans (packed_apply a m c t p h l)
  exact ext_ix3 e

theorem block_packed (c : Dev nD) (t : Fin 152) :
    (blockAt1 a (fun c b => Vb a m c b) c t : S256x2x1024.Idx → Elt F .bf16) = rowsAt a (Va m) c t :=
  block_packed_of a m (fun c b => Vb a m c b) c (Vb_out a m c) t

/-- The rows, element by element. -/
theorem rows_apply (c : Dev nD) (t : Fin 152) (p : Fin 256) (d : Fin 2048) :
    (rows a m c : S38912x2048.Idx → Elt F .f32) (ix2 ⟨t.val * 256 + p.val, by omega⟩ d) = readRows (rowsAt a (Va m) c t) (ix2 p d) := by
  have e := (dat1 a (fun c b => Vb a m c b) c).arrAt_emb_eq_flushed 1
    (((rcfg a).win 1).hdisj_of_index_inj fun t t' _ _ => inj_out1 a t t') t (flush_of_inj ((rcfg a).win 1) rfl (inj_out1 a) t) (ix2 p d)
  refine Eq.trans (congrArg (rows a m c : S38912x2048.Idx → Elt F .f32) ?_) (e.trans ?_)
  · refine funext fun b => Fin.ext (Eq.symm ?_)
    refine (((rcfg a).win 1).rect_emb_val t (ix2 p d) b).trans ?_
    rw [index_out1]
    fin_cases b
    · rfl
    · simp
  · exact congrFun (congrArg readRows (block_packed a m c t)) (ix2 p d)

variable (h : Launched m)

/-- The tables a run is at are the memory's. -/
theorem active_adm : active (adm m h) = m ((dev.tc : Thread nD τ).loc main_arg2) j0 := rfl

omit [FloatOps F] in
/-- A tile's word of a table. -/
theorem tile_read (f : S152.Idx → BitVec 32) (t : Fin 152) (hb) (h1) :
    f ((Rect.unit (s := S152) ![(Scalar.indexCast (BitVec.ofNat 32 (grid0.coords t 0).val)).toNat] S1.size hb).emb (Shape.Idx.first h1))
      = f (ix1 t) := by
  refine congrArg f (funext fun b => Fin.ext ?_)
  obtain rfl : b = 0 := Subsingleton.elim _ _
  rw [Rect.emb_apply]
  show (BitVec.ofNat 32 (grid0.coords t 0).val).toNat + 1 * 0 = t.val
  rw [coord0 t, word_toNat, Nat.mul_zero, Nat.add_zero]

/-- The two experts of a tile. -/
def lo (t : Fin 152) : BitVec 32 := (m ((dev.tc : Thread nD τ).loc main_arg0) : S152.Idx → BitVec 32) (ix1 t)
def hi (t : Fin 152) : BitVec 32 := (m ((dev.tc : Thread nD τ).loc main_arg1) : S152.Idx → BitVec 32) (ix1 t)
/-- The number of active tiles. -/
def count : BitVec 32 := (m ((dev.tc : Thread nD τ).loc main_arg2) : S1.Idx → BitVec 32) (ix1 0)

/-- A block index whose leading entry is a word. -/
def lead (w : BitVec 32) : Fin 3 → Nat := ![w.toNat, (0#32).toNat, (0#32).toNat]

theorem index1 (t : Fin 152) : ((mcfg (adm m h)).win 1).index t = lead (lo m t) := congrArg lead (tile_read (m ((dev.tc : Thread nD τ).loc main_arg0)) t _ _)
theorem index2 (t : Fin 152) : ((mcfg (adm m h)).win 2).index t = lead (hi m t) := congrArg lead (tile_read (m ((dev.tc : Thread nD τ).loc main_arg1)) t _ _)
theorem index3 (t : Fin 152) : ((mcfg (adm m h)).win 3).index t = lead (lo m t) := congrArg lead (tile_read (m ((dev.tc : Thread nD τ).loc main_arg0)) t _ _)
theorem index4 (t : Fin 152) : ((mcfg (adm m h)).win 4).index t = lead (hi m t) := congrArg lead (tile_read (m ((dev.tc : Thread nD τ).loc main_arg1)) t _ _)
theorem index5 (t : Fin 152) : ((mcfg (adm m h)).win 5).index t = lead (lo m t) := congrArg lead (tile_read (m ((dev.tc : Thread nD τ).loc main_arg0)) t _ _)
theorem index6 (t : Fin 152) : ((mcfg (adm m h)).win 6).index t = lead (hi m t) := congrArg lead (tile_read (m ((dev.tc : Thread nD τ).loc main_arg1)) t _ _)

theorem index0 (t : Fin 152) (ht : t.val < (count m).toNat) : ((mcfg (adm m h)).win 0).index t = ![t.val, 0] := by
  refine (congrArg (fun w : BitVec 32 => (![(Scalar.minsi (BitVec.ofNat 32 (grid0.coords t 0).val) (Scalar.subi w 1#32)).toNat, (0#32).toNat] : Fin 2 → Nat))
    (congrArg (m ((dev.tc : Thread nD τ).loc main_arg2) : S1.Idx → BitVec 32) (one_idx _ (ix1 0)))).trans ?_
  have e := clamp_toNat t.val t.isLt (count m) (h.pos _) (h.le _)
  have e' : min t.val ((count m).toNat - 1) = t.val := by omega
  show (![(Scalar.minsi (BitVec.ofNat 32 (grid0.coords t 0).val) (Scalar.subi (count m) 1#32)).toNat, (0#32).toNat] : Fin 2 → Nat) = _
  rw [coord0 t, e, e']
  rfl

/-- An active tile's packed input rows. -/
theorem block0 (t : Fin 152) (ht : t.val < (count m).toNat) (p : Fin 256) (k : Fin 1152) :
    (blockAt (adm m h) V dev 0 t : S256x1152.Idx → BitVec 32) (ix2 p k)
      = (V dev main_arg3 : S38912x1152.Idx → BitVec 32) (ix2 ⟨t.val * 256 + p.val, by omega⟩ k) := by
  refine congrArg (V dev main_arg3 : S38912x1152.Idx → BitVec 32) (funext fun b => Fin.ext ?_)
  refine (((mcfg (adm m h)).win 0).rect_emb_val t (ix2 p k) b).trans ?_
  rw [index0 m h t ht]
  fin_cases b
  · rfl
  · simp

/-- Expert `e`'s block of an array of experts. -/
theorem block1 (t : Fin 152) (e : Fin 32) (he : (lo m t).toNat = e.val) (k : Fin 2048) (f : Fin 512) :
    (blockAt (adm m h) V dev 1 t : S1x2048x512.Idx → Elt F .bf16) (ix3 0 k f)
      = (V dev main_arg4 : S32x2048x512.Idx → Elt F .bf16) (ix3 e k f) := by
  refine congrArg (V dev main_arg4 : S32x2048x512.Idx → Elt F .bf16) (funext fun b => Fin.ext ?_)
  refine (((mcfg (adm m h)).win 1).rect_emb_val t (ix3 0 k f) b).trans ?_
  rw [index1 m h t]
  fin_cases b
  · simp [lead, he]
  · simp [lead]
  · simp [lead]

theorem block2 (t : Fin 152) (e : Fin 32) (he : (hi m t).toNat = e.val) (k : Fin 2048) (f : Fin 512) :
    (blockAt (adm m h) V dev 2 t : S1x2048x512.Idx → Elt F .bf16) (ix3 0 k f)
      = (V dev main_arg4 : S32x2048x512.Idx → Elt F .bf16) (ix3 e k f) := by
  refine congrArg (V dev main_arg4 : S32x2048x512.Idx → Elt F .bf16) (funext fun b => Fin.ext ?_)
  refine (((mcfg (adm m h)).win 2).rect_emb_val t (ix3 0 k f) b).trans ?_
  rw [index2 m h t]
  fin_cases b
  · simp [lead, he]
  · simp [lead]
  · simp [lead]

theorem block3 (t : Fin 152) (e : Fin 32) (he : (lo m t).toNat = e.val) (k : Fin 2048) (f : Fin 512) :
    (blockAt (adm m h) V dev 3 t : S1x2048x512.Idx → Elt F .bf16) (ix3 0 k f)
      = (V dev main_arg5 : S32x2048x512.Idx → Elt F .bf16) (ix3 e k f) := by
  refine congrArg (V dev main_arg5 : S32x2048x512.Idx → Elt F .bf16) (funext fun b => Fin.ext ?_)
  refine (((mcfg (adm m h)).win 3).rect_emb_val t (ix3 0 k f) b).trans ?_
  rw [index3 m h t]
  fin_cases b
  · simp [lead, he]
  · simp [lead]
  · simp [lead]

theorem block4 (t : Fin 152) (e : Fin 32) (he : (hi m t).toNat = e.val) (k : Fin 2048) (f : Fin 512) :
    (blockAt (adm m h) V dev 4 t : S1x2048x512.Idx → Elt F .bf16) (ix3 0 k f)
      = (V dev main_arg5 : S32x2048x512.Idx → Elt F .bf16) (ix3 e k f) := by
  refine congrArg (V dev main_arg5 : S32x2048x512.Idx → Elt F .bf16) (funext fun b => Fin.ext ?_)
  refine (((mcfg (adm m h)).win 4).rect_emb_val t (ix3 0 k f) b).trans ?_
  rw [index4 m h t]
  fin_cases b
  · simp [lead, he]
  · simp [lead]
  · simp [lead]

theorem block5 (t : Fin 152) (e : Fin 32) (he : (lo m t).toNat = e.val) (k : Fin 512) (f : Fin 2048) :
    (blockAt (adm m h) V dev 5 t : S1x512x2048.Idx → Elt F .bf16) (ix3 0 k f)
      = (V dev main_arg6 : S32x512x2048.Idx → Elt F .bf16) (ix3 e k f) := by
  refine congrArg (V dev main_arg6 : S32x512x2048.Idx → Elt F .bf16) (funext fun b => Fin.ext ?_)
  refine (((mcfg (adm m h)).win 5).rect_emb_val t (ix3 0 k f) b).trans ?_
  rw [index5 m h t]
  fin_cases b
  · simp [lead, he]
  · simp [lead]
  · simp [lead]

theorem block6 (t : Fin 152) (e : Fin 32) (he : (hi m t).toNat = e.val) (k : Fin 512) (f : Fin 2048) :
    (blockAt (adm m h) V dev 6 t : S1x512x2048.Idx → Elt F .bf16) (ix3 0 k f)
      = (V dev main_arg6 : S32x512x2048.Idx → Elt F .bf16) (ix3 e k f) := by
  refine congrArg (V dev main_arg6 : S32x512x2048.Idx → Elt F .bf16) (funext fun b => Fin.ext ?_)
  refine (((mcfg (adm m h)).win 6).rect_emb_val t (ix3 0 k f) b).trans ?_
  rw [index6 m h t]
  fin_cases b
  · simp [lead, he]
  · simp [lead]
  · simp [lead]

end Cert.Proof.Ideal
-- ==== Proof.Halves.lean ====
/-
  A bf16 half of a word and the float whose word has that half on top and zeros below are one number.
-/
module

public import Idealize.ShloMosaic.PureOps.Ideal.Laws

@[expose] public section

namespace Cert.Proof

open Idealize.ShloMosaic

/-- A half with zeros below it, as a number. -/
theorem appended (b : BitVec 16) : (b ++ 0#16).toNat = b.toNat * 65536 := by
  rw [BitVec.toNat_append, Nat.shiftLeft_eq]; simp

/-- A bf16 pattern and the float pattern that extends it by zeros denote one number. -/
theorem half_value (b : BitVec 16) : Ideal.ieee 8 7 b = Ideal.ieee 8 23 (b ++ 0#16) := by
  have hb := b.isLt
  have hv := appended b
  have hneg : (b ++ 0#16).extractLsb' (8 + 23) 1 = b.extractLsb' (8 + 7) 1 :=
    BitVec.eq_of_toNat_eq (by rw [BitVec.extractLsb'_toNat, BitVec.extractLsb'_toNat, hv, Nat.shiftRight_eq_div_pow, Nat.shiftRight_eq_div_pow]; omega)
  have hex : (b ++ 0#16).extractLsb' 23 8 = b.extractLsb' 7 8 :=
    BitVec.eq_of_toNat_eq (by rw [BitVec.extractLsb'_toNat, BitVec.extractLsb'_toNat, hv, Nat.shiftRight_eq_div_pow, Nat.shiftRight_eq_div_pow]; omega)
  have hfr : ((b ++ 0#16).extractLsb' 0 23).toNat = (b.extractLsb' 0 7).toNat * 65536 := by
    rw [BitVec.extractLsb'_toNat, BitVec.extractLsb'_toNat, hv, Nat.shiftRight_zero, Nat.shiftRight_zero]; omega
  unfold Ideal.ieee
  simp only [hneg, hex, hfr]
  generalize (b.extractLsb' 0 7).toNat = f
  generalize (b.extractLsb' 7 8).toNat = e
  generalize (b.extractLsb' (8 + 7) 1 == 1#1) = n
  have hz : f * 65536 = 0 ↔ f = 0 := by omega
  simp only [hz]
  have hp : ∀ k : ℤ, (2 : ℝ) ^ (k - (7 : ℕ)) = 65536 * (2 : ℝ) ^ (k - (23 : ℕ)) := fun k => by
    rw [show k - (7 : ℕ) = (k - (23 : ℕ)) + 16 by push_cast; ring, zpow_add₀ (by norm_num)]
    norm_num; ring
  rw [hp, hp]
  congr 2
  · congr 1; push_cast; ring
  · congr 1; push_cast; ring

/-- A word's low half, moved to the top. -/
theorem low_half (w : BitVec 32) : Ideal.ofBits .bf16 (w.extractLsb' 0 16) = Ideal.ofBits .f32 (w <<< 16) := by
  refine (half_value _).trans (congrArg (Ideal.ieee 8 23) ?_)
  refine BitVec.eq_of_toNat_eq ?_
  rw [appended, BitVec.extractLsb'_toNat, Nat.shiftRight_zero, BitVec.toNat_shiftLeft, Nat.shiftLeft_eq]
  omega

/-- A word's high half, the low one cleared. -/
theorem high_half (w : BitVec 32) : Ideal.ofBits .bf16 (w.extractLsb' 16 16) = Ideal.ofBits .f32 (w &&& 0xFFFF0000#32) := by
  refine (half_value _).trans (congrArg (Ideal.ieee 8 23) ?_)
  refine BitVec.eq_of_getLsbD_eq fun i hi => ?_
  rw [BitVec.getLsbD_append, BitVec.getLsbD_and, BitVec.getLsbD_extractLsb']
  by_cases h : i < 16
  · have hm : (0xFFFF0000#32).getLsbD i = false := (by decide : ∀ k : Fin 16, (0xFFFF0000#32).getLsbD k.val = false) ⟨i, h⟩
    simp [h, hm]
  · have hm : (0xFFFF0000#32).getLsbD i = true := by
      have := (by decide : ∀ k : Fin 16, (0xFFFF0000#32).getLsbD (16 + k.val) = true) ⟨i - 16, by omega⟩
      rwa [show 16 + (i - 16) = i by omega] at this
    rw [hm, if_neg h, Bool.and_true, decide_eq_true (by omega : i - 16 < 16), Bool.true_and, show 16 + (i - 16) = i by omega]

end Cert.Proof
-- ==== Proof.Spec.lean ====
/-
  One row of the layer's mixture, as plain sums: the row's packed words unpacked and multiplied by an expert's gate
  and up columns, the gated hidden values, and their product with the expert's down column.
-/
module

public import proofs.«01_k».proof.Proof.Halves

@[expose] public section

noncomputable section

namespace Cert.Proof

open Idealize.ShloMosaic

/-- A packed row times a column. -/
def dotRow (w : Fin 1152 → BitVec 32) (g : Fin 2048 → EReal) : EReal :=
  (∑ k : Fin 1024, Ideal.ofBits .f32 (w ⟨k.val, by omega⟩ <<< 16) * g ⟨k.val, by omega⟩)
    + ∑ k : Fin 1024, Ideal.ofBits .f32 (w ⟨k.val, by omega⟩ &&& 0xFFFF0000#32) * g ⟨1024 + k.val, by omega⟩

/-- A hidden value: the gate's silu times the up product times the routing weight. -/
def hidden (a b s : EReal) : EReal := a * Ideal.div 1 (1 + Ideal.exp (-a)) * b * s

/-- One expert's contribution to one element. -/
def share (w : Fin 1152 → BitVec 32) (g u : Fin 2048 → Fin 512 → EReal) (d : Fin 512 → EReal) (s : EReal) : EReal :=
  ∑ f : Fin 512, hidden (dotRow w fun k => g k f) (dotRow w fun k => u k f) s * d f

/-- An expert with no weight contributes nothing. -/
theorem share_zero (w : Fin 1152 → BitVec 32) (g u : Fin 2048 → Fin 512 → EReal) (d : Fin 512 → EReal) : share w g u d 0 = 0 :=
  Finset.sum_eq_zero fun f _ => by rw [hidden, mul_zero, zero_mul]

/-- The sum over all experts, of which two have a weight. -/
theorem sum_pair (f : Fin 32 → EReal → EReal) (hf : ∀ e, f e 0 = 0) (a b : Fin 32) (hab : a ≠ b) (s t : EReal) :
    (∑ e : Fin 32, f e ((if e = a then 1 else 0) * s + (if e = b then 1 else 0) * t)) = f a s + f b t := by
  rw [Finset.sum_eq_add a b hab]
  · simp only [↓reduceIte, if_neg hab, if_neg hab.symm, one_mul, zero_mul, add_zero, zero_add]
  · rintro e - ⟨ha, hb⟩
    rw [if_neg ha, if_neg hb, zero_mul, zero_mul, add_zero, hf]
  · intro h; exact absurd (Finset.mem_univ _) h
  · intro h; exact absurd (Finset.mem_univ _) h

end Cert.Proof
-- ==== Proof.Tile.lean ====
/-
  A tile's rows, element by element: what the mixture kernel packs and the read-out unpacks is the two experts'
  shares of each element, and zero where the kernel stores zeros.
-/
module

public import proofs.«01_k».proof.Proof.ReadRegion
public import proofs.«01_k».proof.Proof.Spec
public import Idealize.ShloMosaic.Lib.Bf16PairInverse
public import Idealize.ShloMosaic.Lib.Pointwise

@[expose] public section

noncomputable section

namespace Cert.Proof.Ideal

open Idealize.ShloMosaic Idealize.ShloMosaic.TcCoe
open Cert.KernelIdeal Cert.KernelIdeal.Gen

set_option maxRecDepth 16384 in
/-- An active tile. -/
theorem active_apply (x : S256x1152.Idx → BitVec 32) (gLo gHi uLo uHi : S1x2048x512.Idx → EReal)
    (dLo dHi : S1x512x2048.Idx → EReal) (p : Fin 256) (d : Fin 2048) :
    (readRows (F := Ideal) (moeRows (F := Ideal) x gLo gHi uLo uHi dLo dHi) : S256x2048.Idx → EReal) (ix2 p d)
      = share (fun k => x (ix2 p k)) (fun k f => gLo (ix3 0 k f)) (fun k f => uLo (ix3 0 k f)) (fun f => dLo (ix3 0 f d))
          (Ideal.ofBits .f32 (x (ix2 p 1025)))
        + share (fun k => x (ix2 p k)) (fun k f => gHi (ix3 0 k f)) (fun k f => uHi (ix3 0 k f)) (fun f => dHi (ix3 0 f d))
          (Ideal.ofBits .f32 (x (ix2 p 1026))) := by
  unfold readRows moeRows
  pointwise [k1_pay1, k0_pay1, k0_pay2, k0_pay3, k0_pay4, k0_pay5]
  simp only [low_half, high_half, zero_sub]
  split
  · rfl
  · next h =>
    have e : (⟨1024 + (d.val - 1024), by omega⟩ : Fin 2048) = d := Fin.ext (by show 1024 + (d.val - 1024) = d.val; omega)
    simp only [e]
    rfl

set_option maxRecDepth 16384 in
/-- A tile past the last active one. -/
theorem idle_apply (j : S256x2048.Idx) :
    (readRows (F := Ideal) (constant (F := Ideal) S256x2x1024 .bf16 0x0000#16) : S256x2048.Idx → EReal) j = 0 := by
  unfold readRows
  pointwise [k1_pay1]
  try simp

end Cert.Proof.Ideal
-- ==== Proof.Rows.lean ====
/-
  The kernel's rows, element by element, in terms of the launched arrays; and the tests both programs make of a row
  against the number of active tiles.
-/
module

public import proofs.«01_k».proof.Proof.Blocks
public import proofs.«01_k».proof.Proof.Tile
public import Idealize.ShloMosaic.Lib.WordCmp

@[expose] public section

noncomputable section

namespace Cert.Proof.Ideal

open Cert.KernelIdeal Cert.KernelIdeal.Gen

open Idealize.ShloMosaic
open Idealize.ShloMosaic.TcCoe

theorem slt_nat (x y : BitVec 32) (hx : x.toNat < 2 ^ 31) (hy : y.toNat < 2 ^ 31) :
    IntOp.cmpi .slt x y = 1#1 ↔ x.toNat < y.toNat := by
  rw [IntOp.cmpi_slt, BitVec.toInt_eq_toNat_of_lt (by omega), BitVec.toInt_eq_toNat_of_lt (by omega)]
  omega

/-- The kernel's test of a tile. -/
theorem cond_iff (t : Fin 152) (n : BitVec 32) (hn : n.toNat ≤ 152) : k0_cond1 (grid0.coords t) n = 1#1 ↔ t.val < n.toNat := by
  have e : k0_cond1 (grid0.coords t) n = 1#1 ↔ IntOp.cmpi .slt (BitVec.ofNat 32 (grid0.coords t 0).val) n = 1#1 := by
    unfold k0_cond1
    simp only [Scalar.cmpi, Scalar.extui]
    generalize IntOp.cmpi CmpIPredicate.slt (BitVec.ofNat 32 (grid0.coords t 0).val) n = b
    revert b; decide
  rw [e, coord0 t, slt_nat _ _ (by rw [word_toNat]; omega) (by omega), word_toNat]

/-- The reference's test of a row. -/
theorem row_iff (t : Fin 152) (p : Fin 256) (n : BitVec 32) (hn : n.toNat ≤ 152) :
    IntOp.cmpi .slt (BitVec.ofNat 32 (t.val * 256 + p.val)) (n * 256#32) = 1#1 ↔ t.val < n.toNat := by
  have e1 : (BitVec.ofNat 32 (t.val * 256 + p.val)).toNat = t.val * 256 + p.val := by rw [BitVec.toNat_ofNat]; omega
  have e2 : (n * 256#32).toNat = n.toNat * 256 := by rw [BitVec.toNat_mul, BitVec.toNat_ofNat]; omega
  rw [slt_nat _ _ (by omega) (by omega), e1, e2]
  omega

variable (m : (ℓ : Loc nD τ sig) → Buf (Elt Ideal) ℓ) (h : Launched m)

/-- The launched arrays. -/
def words : S38912x1152.Idx → BitVec 32 := m ((dev.tc : Thread nD τ).loc main_arg3)
def gates : S32x2048x512.Idx → EReal := m ((dev.tc : Thread nD τ).loc main_arg4)
def ups : S32x2048x512.Idx → EReal := m ((dev.tc : Thread nD τ).loc main_arg5)
def downs : S32x512x2048.Idx → EReal := m ((dev.tc : Thread nD τ).loc main_arg6)

/-- A row of packed words. -/
def row (t : Fin 152) (p : Fin 256) : Fin 1152 → BitVec 32 := fun k => words m (ix2 ⟨t.val * 256 + p.val, by omega⟩ k)

/-- What expert `e` gives an element of a row, at a weight. -/
def given (t : Fin 152) (p : Fin 256) (d : Fin 2048) (e : Fin 32) (s : EReal) : EReal :=
  share (row m t p) (fun k f => gates m (ix3 e k f)) (fun k f => ups m (ix3 e k f)) (fun f => downs m (ix3 e f d)) s

/-- A tile's two experts, as experts. -/
def first (t : Fin 152) : Fin 32 := ⟨(lo m t).toNat, (h.pair _).lt.trans (h.pair _).bound⟩
def second (t : Fin 152) : Fin 32 := ⟨(hi m t).toNat, (h.pair _).bound⟩

theorem first_ne (t : Fin 152) : first m h t ≠ second m h t := fun e => absurd (congrArg Fin.val e) (h.pair (ix1 t)).lt.ne

/-- A tile's rows over blocks that hold the tile's words and two experts. -/
theorem active_given (t : Fin 152) (p : Fin 256) (d : Fin 2048) (e e' : Fin 32) (x : S256x1152.Idx → BitVec 32)
    (gLo gHi uLo uHi : S1x2048x512.Idx → EReal) (dLo dHi : S1x512x2048.Idx → EReal)
    (hx : ∀ k, x (ix2 p k) = row m t p k)
    (hg : ∀ k f, gLo (ix3 0 k f) = gates m (ix3 e k f)) (hg' : ∀ k f, gHi (ix3 0 k f) = gates m (ix3 e' k f))
    (hu : ∀ k f, uLo (ix3 0 k f) = ups m (ix3 e k f)) (hu' : ∀ k f, uHi (ix3 0 k f) = ups m (ix3 e' k f))
    (hd : ∀ f, dLo (ix3 0 f d) = downs m (ix3 e f d)) (hd' : ∀ f, dHi (ix3 0 f d) = downs m (ix3 e' f d)) :
    (readRows (F := Ideal) (moeRows (F := Ideal) x gLo gHi uLo uHi dLo dHi) : S256x2048.Idx → EReal) (ix2 p d)
      = given m t p d e (Ideal.ofBits .f32 (row m t p 1025)) + given m t p d e' (Ideal.ofBits .f32 (row m t p 1026)) := by
  rw [active_apply]
  simp only [hx, hg, hg', hu, hu', hd, hd']
  rfl

theorem active_count : active (adm m h) = count m :=
  congrArg (m ((dev.tc : Thread nD τ).loc main_arg2) : S1.Idx → BitVec 32) (one_idx _ _)

/-- An active tile's packed rows. -/
theorem rowsAt_active (t : Fin 152) (ht : t.val < (count m).toNat) :
    rowsAt (adm m h) (Va m) dev t = moeRows (blockAt (adm m h) (Va m) dev 0 t) (blockAt (adm m h) (Va m) dev 1 t)
      (blockAt (adm m h) (Va m) dev 2 t) (blockAt (adm m h) (Va m) dev 3 t) (blockAt (adm m h) (Va m) dev 4 t)
      (blockAt (adm m h) (Va m) dev 5 t) (blockAt (adm m h) (Va m) dev 6 t) :=
  if_pos ((active_count m h).symm ▸ (cond_iff t (count m) (h.le _)).2 ht)

theorem rowsAt_idle (t : Fin 152) (ht : ¬ t.val < (count m).toNat) :
    rowsAt (adm m h) (Va m) dev t = constant (F := Ideal) S256x2x1024 .bf16 0x0000#16 :=
  if_neg ((active_count m h).symm ▸ fun e => ht ((cond_iff t (count m) (h.le _)).1 e))

/-- A row of an active tile. -/
theorem rows_active (t : Fin 152) (ht : t.val < (count m).toNat) (p : Fin 256) (d : Fin 2048) :
    (rows (adm m h) m dev : S38912x2048.Idx → EReal) (ix2 ⟨t.val * 256 + p.val, by omega⟩ d)
      = given m t p d (first m h t) (Ideal.ofBits .f32 (row m t p 1025)) + given m t p d (second m h t) (Ideal.ofBits .f32 (row m t p 1026)) :=
  (rows_apply (adm m h) m dev t p d).trans <| (congrFun (congrArg readRows (rowsAt_active m h t ht)) (ix2 p d)).trans <|
    active_given m t p d (first m h t) (second m h t) (blockAt (adm m h) (Va m) dev 0 t) (blockAt (adm m h) (Va m) dev 1 t)
      (blockAt (adm m h) (Va m) dev 2 t) (blockAt (adm m h) (Va m) dev 3 t) (blockAt (adm m h) (Va m) dev 4 t)
      (blockAt (adm m h) (Va m) dev 5 t) (blockAt (adm m h) (Va m) dev 6 t)
      (fun k => block0 m (Va m) h t ht p k)
      (fun k f => block1 m (Va m) h t (first m h t) rfl k f) (fun k f => block2 m (Va m) h t (second m h t) rfl k f)
      (fun k f => block3 m (Va m) h t (first m h t) rfl k f) (fun k f => block4 m (Va m) h t (second m h t) rfl k f)
      (fun f => block5 m (Va m) h t (first m h t) rfl f d) (fun f => block6 m (Va m) h t (second m h t) rfl f d)

/-- A row past the active tiles. -/
theorem rows_idle (t : Fin 152) (ht : ¬ t.val < (count m).toNat) (p : Fin 256) (d : Fin 2048) :
    (rows (adm m h) m dev : S38912x2048.Idx → EReal) (ix2 ⟨t.val * 256 + p.val, by omega⟩ d) = (0 : EReal) :=
  (rows_apply (adm m h) m dev t p d).trans <| (congrFun (congrArg readRows (rowsAt_idle m h t ht)) (ix2 p d)).trans (idle_apply _)

end Cert.Proof.Ideal
-- ==== Proof.Dense.lean ====
/-
  The reference, element by element: below the last active row the sum over all experts of their shares, each
  weighted by the row's one-hot weights of its tile's pair, elsewhere zero.
-/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

noncomputable section

namespace Cert.Proof

open Idealize.ShloMosaic Idealize.ShloMosaic.TcCoe
open Cert.ReferenceIdeal Cert.ReferenceIdeal.Gen

/-- A comparison's bit as a number. -/
theorem bit_value (a b : BitVec 32) :
    (FloatOps.uitofp (F := Ideal) .f32 (IntOp.cmpi .eq a b) : EReal) = if a = b then 1 else 0 := by
  by_cases h : a = b
  · rw [if_pos h, IntOp.cmpi_eq.2 h]; show (((1#1 : BitVec 1).toNat : ℝ) : EReal) = 1; simp
  · rw [if_neg h, show IntOp.cmpi .eq a b = 0#1 from ((BitVec.eq_zero_or_eq_one _).resolve_right fun e => h (IntOp.cmpi_eq.1 e))]
    show (((0#1 : BitVec 1).toNat : ℝ) : EReal) = 0; simp

/-- The host's shift by sixteen. -/
theorem shifted (w : BitVec 32) : IntOp.shli .host w 16#32 = w <<< 16 := by
  unfold IntOp.shli; rw [if_pos (by decide)]; rfl

/-- The weight a row gives an expert. -/
def weight (lo hi : BitVec 32) (s t : EReal) (e : Fin 32) : EReal :=
  (if lo = BitVec.ofNat 32 e.val then 1 else 0) * s + (if hi = BitVec.ofNat 32 e.val then 1 else 0) * t

set_option maxRecDepth 16384 in
set_option maxHeartbeats 1000000 in
theorem dense_apply (m : (ℓ : Loc nD τ sig) → Buf (Elt Ideal) ℓ) (c : Dev nD)
    (lo hi : S152.Idx → BitVec 32) (n : S1.Idx → BitVec 32) (x : S38912x1152.Idx → BitVec 32)
    (g u : S32x2048x512.Idx → EReal) (d : S32x512x2048.Idx → EReal)
    (h0 : m ((c.tc : Thread nD τ).loc main_arg0) = lo) (h1 : m ((c.tc : Thread nD τ).loc main_arg1) = hi)
    (h2 : m ((c.tc : Thread nD τ).loc main_arg2) = n) (h3 : m ((c.tc : Thread nD τ).loc main_arg3) = x)
    (h4 : m ((c.tc : Thread nD τ).loc main_arg4) = g) (h5 : m ((c.tc : Thread nD τ).loc main_arg5) = u)
    (h6 : m ((c.tc : Thread nD τ).loc main_arg6) = d) (t : Fin 38912) (j : Fin 2048) :
    (Value.res_main_v37 m c : S38912x2048.Idx → Elt Ideal .f32) (ix2 t j)
      = Scalar.select (IntOp.cmpi .slt (BitVec.ofNat 32 t.val) (n (ix1 0) * 256#32))
          (∑ e : Fin 32, share (fun k => x (ix2 t k)) (fun k f => g (ix3 e k f)) (fun k f => u (ix3 e k f)) (fun f => d (ix3 e f j))
            (weight (lo (ix1 ⟨t.val / 256, by omega⟩)) (hi (ix1 ⟨t.val / 256, by omega⟩))
              (Ideal.ofBits .f32 (x (ix2 t 1025))) (Ideal.ofBits .f32 (x (ix2 t 1026))) e))
          (0 : EReal) := by
  unfold Value.res_main_v37
  rw [h0, h1, h2, h3, h4, h5, h6]
  clean_types
  pointwise
  simp only [bit_value, Fin.sum_univ_one, shifted]
  exact congrArg (Scalar.select _ _) Ideal.ofBits_zero_f32

end Cert.Proof
-- ==== Proof.Equation.lean ====
/-
  The equation: the kernel's rows are the reference's. Of the sum over all experts only a tile's pair has a weight.
-/
module

public import proofs.«01_k».proof.Proof.Rows
public import proofs.«01_k».proof.Proof.Dense
public import proofs.«01_k».proof.Proof.Frames

@[expose] public section

noncomputable section

namespace Cert.Proof

open Idealize.ShloMosaic Idealize.SL.Sem
open Idealize.ShloMosaic.TcCoe

/-- A word names an expert where its number is the expert's. -/
theorem names_iff (w : BitVec 32) (a e : Fin 32) (ha : w.toNat = a.val) : w = BitVec.ofNat 32 e.val ↔ e = a := by
  constructor
  · intro h
    have := congrArg BitVec.toNat h
    rw [BitVec.toNat_ofNat] at this
    exact Fin.ext (by omega)
  · rintro rfl
    apply BitVec.eq_of_toNat_eq
    rw [BitVec.toNat_ofNat]; omega

/-- A sum over all experts, at the weights of a pair. -/
theorem sum_weight (f : Fin 32 → EReal → EReal) (hf : ∀ e, f e 0 = 0) (w w' : BitVec 32) (a b : Fin 32) (ha : w.toNat = a.val)
    (hb : w'.toNat = b.val) (hab : a ≠ b) (s t : EReal) : (∑ e : Fin 32, f e (weight w w' s t e)) = f a s + f b t := by
  rw [← sum_pair f hf a b hab s t]
  refine Finset.sum_congr rfl fun e _ => ?_
  unfold weight
  simp only [names_iff w a e ha, names_iff w' b e hb]

variable (m : (ℓ : Loc Cert.KernelIdeal.nD Cert.KernelIdeal.τ Cert.KernelIdeal.sig) → Buf (Elt Ideal) ℓ) (h : Ideal.Launched m)

/-- The reference's result in terms of a launched memory's arrays. -/
theorem reference_row (m' : (ℓ : Loc Cert.ReferenceIdeal.nD Cert.ReferenceIdeal.τ Cert.ReferenceIdeal.sig) → Buf (Elt Ideal) ℓ)
    (c : Dev Cert.ReferenceIdeal.nD) (lo hi : Cert.ReferenceIdeal.S152.Idx → BitVec 32) (n : Cert.ReferenceIdeal.S1.Idx → BitVec 32)
    (h0 : m' ((c.tc : Thread Cert.ReferenceIdeal.nD Cert.ReferenceIdeal.τ).loc Cert.ReferenceIdeal.main_arg0) = lo)
    (h1 : m' ((c.tc : Thread Cert.ReferenceIdeal.nD Cert.ReferenceIdeal.τ).loc Cert.ReferenceIdeal.main_arg1) = hi)
    (h2 : m' ((c.tc : Thread Cert.ReferenceIdeal.nD Cert.ReferenceIdeal.τ).loc Cert.ReferenceIdeal.main_arg2) = n)
    (h3 : m' ((c.tc : Thread Cert.ReferenceIdeal.nD Cert.ReferenceIdeal.τ).loc Cert.ReferenceIdeal.main_arg3) = Ideal.words m)
    (h4 : m' ((c.tc : Thread Cert.ReferenceIdeal.nD Cert.ReferenceIdeal.τ).loc Cert.ReferenceIdeal.main_arg4) = Ideal.gates m)
    (h5 : m' ((c.tc : Thread Cert.ReferenceIdeal.nD Cert.ReferenceIdeal.τ).loc Cert.ReferenceIdeal.main_arg5) = Ideal.ups m)
    (h6 : m' ((c.tc : Thread Cert.ReferenceIdeal.nD Cert.ReferenceIdeal.τ).loc Cert.ReferenceIdeal.main_arg6) = Ideal.downs m)
    (t : Fin 152) (p : Fin 256) (d : Fin 2048) :
    (Cert.ReferenceIdeal.Value.res_main_v37 m' c : Cert.ReferenceIdeal.S38912x2048.Idx → Elt Ideal .f32) (ix2 ⟨t.val * 256 + p.val, by omega⟩ d)
      = Scalar.select (IntOp.cmpi .slt (BitVec.ofNat 32 (t.val * 256 + p.val)) (n (ix1 0) * 256#32))
          (∑ e : Fin 32, Ideal.given m t p d e (weight (lo (ix1 t)) (hi (ix1 t))
            (Ideal.ofBits .f32 (Ideal.row m t p 1025)) (Ideal.ofBits .f32 (Ideal.row m t p 1026)) e)) (0 : EReal) := by
  rw [dense_apply m' c lo hi n _ _ _ _ h0 h1 h2 h3 h4 h5 h6]
  have e : (⟨(t.val * 256 + p.val) / 256, by omega⟩ : Fin 152) = t := Fin.ext (by show (t.val * 256 + p.val) / 256 = t.val; omega)
  simp only [e]
  rfl

/-- The kernel's rows are the reference's, row by row. -/
theorem rows_eq (m' : (ℓ : Loc Cert.ReferenceIdeal.nD Cert.ReferenceIdeal.τ Cert.ReferenceIdeal.sig) → Buf (Elt Ideal) ℓ)
    (c : Dev Cert.ReferenceIdeal.nD)
    (h0 : m' ((c.tc : Thread Cert.ReferenceIdeal.nD Cert.ReferenceIdeal.τ).loc Cert.ReferenceIdeal.main_arg0)
      = m ((Ideal.dev.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((Ideal.dev.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((Ideal.dev.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = Ideal.words m)
    (h4 : m' ((c.tc : Thread Cert.ReferenceIdeal.nD Cert.ReferenceIdeal.τ).loc Cert.ReferenceIdeal.main_arg4) = Ideal.gates m)
    (h5 : m' ((c.tc : Thread Cert.ReferenceIdeal.nD Cert.ReferenceIdeal.τ).loc Cert.ReferenceIdeal.main_arg5) = Ideal.ups m)
    (h6 : m' ((c.tc : Thread Cert.ReferenceIdeal.nD Cert.ReferenceIdeal.τ).loc Cert.ReferenceIdeal.main_arg6) = Ideal.downs m)
    (t : Fin 152) (p : Fin 256) (d : Fin 2048) :
    (Cert.ReferenceIdeal.Value.res_main_v37 m' c : Cert.ReferenceIdeal.S38912x2048.Idx → Elt Ideal .f32) (ix2 ⟨t.val * 256 + p.val, by omega⟩ d)
      = (Ideal.rows (Ideal.adm m h) m Ideal.dev : Cert.KernelIdeal.S38912x2048.Idx → EReal) (ix2 ⟨t.val * 256 + p.val, by omega⟩ d) := by
  refine (reference_row m m' c _ _ _ h0 h1 h2 h3 h4 h5 h6 t p d).trans ?_
  by_cases ht : t.val < (Ideal.count m).toNat
  · refine Eq.trans ?_ (Ideal.rows_active m h t ht p d).symm
    refine (if_pos ((Ideal.row_iff t p (Ideal.count m) (h.le _)).2 ht)).trans ?_
    exact sum_weight (fun e s => Ideal.given m t p d e s) (fun e => share_zero _ _ _ _) (Ideal.lo m t) (Ideal.hi m t)
      (Ideal.first m h t) (Ideal.second m h t) rfl rfl (Ideal.first_ne m h t) _ _
  · refine Eq.trans ?_ (Ideal.rows_idle m h t ht p d).symm
    exact if_neg fun e => ht ((Ideal.row_iff t p (Ideal.count m) (h.le _)).1 e)

/-- Two arrays of rows are equal where every tile's rows are. -/
theorem ext_rows {α : Type} {f g : (⟨2, ![38912, 2048]⟩ : Shape).Idx → α}
    (e : ∀ (t : Fin 152) (p : Fin 256) (d : Fin 2048), f (ix2 ⟨t.val * 256 + p.val, by omega⟩ d) = g (ix2 ⟨t.val * 256 + p.val, by omega⟩ d)) :
    f = g := funext fun y => by
  rw [eq_ix2 y]
  have hy : (y 0).val < 38912 := (y 0).isLt
  have := e ⟨(y 0).val / 256, by omega⟩ ⟨(y 0).val % 256, by omega⟩ (y 1)
  have ey : (⟨(y 0).val / 256 * 256 + (y 0).val % 256, by omega⟩ : Fin 38912) = y 0 := Fin.ext (by
    show (y 0).val / 256 * 256 + (y 0).val % 256 = (y 0).val; omega)
  simpa only [ey] using this

/-- THE EQUATION. -/
theorem equation : Cert.algebraic_KernelIdeal_ReferenceIdeal := fun m ρ m' ρ' hp hm => by
  refine ⟨fun c => Ideal.rows (Ideal.adm m (launched_ideal m hp)) m c, ?_, ?_⟩
  · refine (θ_run _ _ _).mono (fun r e c => ⟨(e.1 c _ rfl).trans (Ideal.Vc_out _ _ _), ?_, ?_, ?_, ?_, ?_, ?_, ?_⟩)
      (Ideal.frame_of m (launched_ideal m hp) ρ) <;>
      exact (e.1 c _ rfl).trans (Ideal.Vc_arg _ _ _ _ (by decide) (by decide))
  · refine (θ_run _ _ _).mono (fun r e c => ⟨(e c).1.trans ?_, (e c).2⟩) (Cert.ReferenceIdeal.Value.run m' ρ')
    obtain rfl : c = Ideal.dev := Ideal.dev_eq c
    obtain ⟨h0, h1, h2, h3, h4, h5, h6⟩ := hm Ideal.dev
    exact ext_rows (rows_eq m (launched_ideal m hp) m' Ideal.dev h0 h1 h2 h3 h4 h5 h6)

end Cert.Proof
-- ==== Proof.KvqSpec.lean ====
/-
  The projections' arithmetic on one row: the root-mean-square normalisation of a row of 2048, a normalised row's
  product with a weight column, and the normalisation of one head of 128 products.
-/
module

public import Idealize.ShloMosaic.Lib.Pointwise

@[expose] public section

noncomputable section

namespace Cert.Proof.Kvq

open Idealize.ShloMosaic

/-- One over the root of the mean square of a row, the mean taken over `n`. -/
def invRms {ι : Type} [Fintype ι] (n : EReal) (x : ι → EReal) : EReal :=
  Ideal.rsqrt (Ideal.div (∑ i, x i * x i) n + Ideal.ofBits FTy.f32 897988541#32)

/-- A row normalised, with its gain. -/
def rowNorm (x g : Fin 2048 → EReal) (k : Fin 2048) : EReal := x k * invRms (Ideal.ofBits FTy.f32 1157627904#32) x * g k

/-- One head normalised, without its gain. -/
def headNorm (p : Fin 128 → EReal) (d : Fin 128) : EReal := p d * invRms (Ideal.ofBits FTy.f32 1124073472#32) p

end Cert.Proof.Kvq
end
-- ==== Proof.KvqBlock.lean ====
/-
  What one grid point of the projection kernel leaves in its output block, over the scratch it finds: products of the
  normalised rows with the point's weight columns, for the keys and the queries normalised head by head.
-/
module

public import proofs.«01_k».proof.Proof.Gen.Kernel2Ideal.Frame
public import proofs.«01_k».proof.Proof.KvqSpec
public import Idealize.ShloMosaic.Lib.Pipeline.ValueKit
public import Idealize.ShloMosaic.Lib.Pipeline.ReadBack

@[expose] public section

noncomputable section

namespace Cert.Proof.Kvq

open Cert.Kernel2Ideal Cert.Kernel2Ideal.Gen
open Idealize.ShloMosaic Idealize.ShloMosaic.TcCoe

/-- A head's products within a block of 1024 columns, normalised, with the gains. -/
def headAt (x : S1024x2048.Idx → EReal) (w : S2048x1024.Idx → EReal) (g : S1x1024.Idx → EReal) (p : Fin 1024) (j : Fin 8) (d : Fin 128) : EReal :=
  headNorm (fun e => ∑ k, x (ix2 p k) * w (ix2 k ⟨128 * j.val + e.val, by omega⟩)) d * g (ix2 0 ⟨128 * j.val + d.val, by omega⟩)

variable (m : (ℓ : Loc nD τ sig) → Buf (Elt Ideal) ℓ) (c : Dev nD) (t : Fin cfg0.N)

/-- The scratch rows a block's first point leaves: the rows under the key/value gain, -/
theorem rows_kv (h0 : t.val % 6 = 0) (h1 : t.val % 6 ≤ 1) (h2 : ¬(2 ≤ t.val % 6 ∧ t.val % 6 ≤ 3)) (h3 : ¬4 ≤ t.val % 6) (p : Fin 1024) (k : Fin 2048) :
    ((outsAt0 m c t.val t.isLt).2.1 (ix2 p k) : EReal)
      = rowNorm (fun k => (iblk m c 0 t : S1024x2048.Idx → EReal) (ix2 p k)) (fun k => (iblk m c 1 t : S1x2048.Idx → EReal) (ix2 0 k)) k := by
  rw [outsAt0_A m c t h0 h1 h2 h3]
  frame_out
  unfold rowNorm invRms
  pointwise [k0_pay2, k0_pay1]

/-- … and the rows under the query gain. -/
theorem rows_q (h0 : t.val % 6 = 0) (h1 : t.val % 6 ≤ 1) (h2 : ¬(2 ≤ t.val % 6 ∧ t.val % 6 ≤ 3)) (h3 : ¬4 ≤ t.val % 6) (p : Fin 1024) (k : Fin 2048) :
    ((outsAt0 m c t.val t.isLt).2.2 (ix2 p k) : EReal)
      = rowNorm (fun k => (iblk m c 0 t : S1024x2048.Idx → EReal) (ix2 p k)) (fun k => (iblk m c 2 t : S1x2048.Idx → EReal) (ix2 0 k)) k := by
  rw [outsAt0_A m c t h0 h1 h2 h3]
  frame_out
  unfold rowNorm invRms
  pointwise [k0_pay3, k0_pay1]

/-- The keys' first block of a row block, over the scratch that its own point filled. -/
theorem keys_first (h0 : t.val % 6 = 0) (h1 : t.val % 6 ≤ 1) (h2 : ¬(2 ≤ t.val % 6 ∧ t.val % 6 ≤ 3)) (h3 : ¬4 ≤ t.val % 6)
    (y : S1024x1024.Idx) (j : Fin 8) (d : Fin 128) (hy : (y 1).val = 128 * j.val + d.val) :
    ((outsAt0 m c t.val t.isLt).1 y : EReal)
      = headAt (outsAt0 m c t.val t.isLt).2.1 (iblk m c 3 t) (iblk m c 4 t) (y 0) j d := by
  rw [outsAt0_A m c t h0 h1 h2 h3]
  frame_out
  generalize iblk m c 0 t = H
  generalize iblk m c 1 t = S
  generalize iblk m c 3 t = W
  generalize iblk m c 4 t = G
  generalize (k0_pay2 H S) = X
  canon_tiles x h
  all_goals
    obtain rfl : d = x 1 := by omega
    rw [show y 0 = x 0 from Fin.ext (by assumption)]
    unfold headAt headNorm invRms
  case' piece0 => obtain rfl : j = 7 := by omega
  case' piece1 => obtain rfl : j = 6 := by omega
  case' piece2 => obtain rfl : j = 5 := by omega
  case' piece3 => obtain rfl : j = 4 := by omega
  case' piece4 => obtain rfl : j = 3 := by omega
  case' piece5 => obtain rfl : j = 2 := by omega
  case' piece6 => obtain rfl : j = 1 := by omega
  case' piece7 => obtain rfl : j = 0 := by omega
  all_goals
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    try simp only [← Nat.add_assoc, Nat.reduceAdd, Nat.zero_add]

/-- The keys' other block. -/
theorem keys_later (h0 : ¬t.val % 6 = 0) (h1 : t.val % 6 ≤ 1) (h2 : ¬(2 ≤ t.val % 6 ∧ t.val % 6 ≤ 3)) (h3 : ¬4 ≤ t.val % 6)
    (y : S1024x1024.Idx) (j : Fin 8) (d : Fin 128) (hy : (y 1).val = 128 * j.val + d.val) :
    ((outsAt0 m c t.val t.isLt).1 y : EReal)
      = headAt (outsAt0 m c (t.val - 1) (Nat.lt_of_le_of_lt (Nat.sub_le _ _) t.isLt)).2.1 (iblk m c 3 t) (iblk m c 4 t) (y 0) j d := by
  rw [outsAt0_B m c t h0 h1 h2 h3]
  frame_out
  simp only [read_unread_whole]
  generalize (outsAt0 m c (t.val - 1) _).2.1 = X
  generalize iblk m c 3 t = W
  generalize iblk m c 4 t = G
  canon_tiles x h
  all_goals
    obtain rfl : d = x 1 := by omega
    rw [show y 0 = x 0 from Fin.ext (by assumption)]
    unfold headAt headNorm invRms
  case' piece0 => obtain rfl : j = 7 := by omega
  case' piece1 => obtain rfl : j = 6 := by omega
  case' piece2 => obtain rfl : j = 5 := by omega
  case' piece3 => obtain rfl : j = 4 := by omega
  case' piece4 => obtain rfl : j = 3 := by omega
  case' piece5 => obtain rfl : j = 2 := by omega
  case' piece6 => obtain rfl : j = 1 := by omega
  case' piece7 => obtain rfl : j = 0 := by omega
  all_goals
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    try simp only [← Nat.add_assoc, Nat.reduceAdd, Nat.zero_add]

/-- The values' blocks. -/
theorem values (h0 : ¬t.val % 6 = 0) (h1 : ¬t.val % 6 ≤ 1) (h2 : (2 ≤ t.val % 6 ∧ t.val % 6 ≤ 3)) (h3 : ¬4 ≤ t.val % 6) (y : S1024x1024.Idx) :
    ((outsAt0 m c t.val t.isLt).1 y : EReal)
      = ∑ k, ((outsAt0 m c (t.val - 1) (Nat.lt_of_le_of_lt (Nat.sub_le _ _) t.isLt)).2.1 : S1024x2048.Idx → EReal) (ix2 (y 0) k)
          * (iblk m c 3 t : S2048x1024.Idx → EReal) (ix2 k (y 1)) := by
  rw [outsAt0_C m c t h0 h1 h2 h3]
  frame_out
  simp only [read_unread_whole]
  generalize (outsAt0 m c (t.val - 1) _).2.1 = X
  generalize iblk m c 3 t = W
  canon_tiles x h
  all_goals
    rw [show y 0 = x 0 from Fin.ext (by assumption)]
  case' piece0 => rw [show y 1 = ⟨768 + (x 1).val, by omega⟩ from Fin.ext (by assumption)]
  case' piece1 => rw [show y 1 = ⟨512 + (x 1).val, by omega⟩ from Fin.ext (by assumption)]
  case' piece2 => rw [show y 1 = ⟨256 + (x 1).val, by omega⟩ from Fin.ext (by assumption)]
  case' piece3 => rw [show y 1 = ⟨(x 1).val, by omega⟩ from Fin.ext (by assumption)]
  all_goals pointwise [k0_pay6, k0_pay7, k0_pay8, k0_pay9]

/-- The queries' blocks. -/
theorem queries (h0 : ¬t.val % 6 = 0) (h1 : ¬t.val % 6 ≤ 1) (h2 : ¬(2 ≤ t.val % 6 ∧ t.val % 6 ≤ 3)) (h3 : 4 ≤ t.val % 6)
    (y : S1024x1024.Idx) (j : Fin 8) (d : Fin 128) (hy : (y 1).val = 128 * j.val + d.val) :
    ((outsAt0 m c t.val t.isLt).1 y : EReal)
      = headAt (outsAt0 m c (t.val - 1) (Nat.lt_of_le_of_lt (Nat.sub_le _ _) t.isLt)).2.2 (iblk m c 3 t) (iblk m c 4 t) (y 0) j d := by
  rw [outsAt0_D m c t h0 h1 h2 h3]
  frame_out
  simp only [read_unread_whole]
  generalize (outsAt0 m c (t.val - 1) _).2.2 = X
  generalize iblk m c 3 t = W
  generalize iblk m c 4 t = G
  canon_tiles x h
  all_goals
    obtain rfl : d = x 1 := by omega
    rw [show y 0 = x 0 from Fin.ext (by assumption)]
    unfold headAt headNorm invRms
  case' piece0 => obtain rfl : j = 7 := by omega
  case' piece1 => obtain rfl : j = 6 := by omega
  case' piece2 => obtain rfl : j = 5 := by omega
  case' piece3 => obtain rfl : j = 4 := by omega
  case' piece4 => obtain rfl : j = 3 := by omega
  case' piece5 => obtain rfl : j = 2 := by omega
  case' piece6 => obtain rfl : j = 1 := by omega
  case' piece7 => obtain rfl : j = 0 := by omega
  all_goals
    pointwise [k0_pay4, k0_pay5, k0_pay10, k0_pay11, k0_pay27, k0_pay28, k0_pay29, k0_pay30, k0_pay31, k0_pay32, k0_pay33, k0_pay34, k0_pay35, k0_pay36, k0_pay37, k0_pay38, k0_pay39, k0_pay40, k0_pay41]
    try simp only [← Nat.add_assoc, Nat.reduceAdd, Nat.zero_add]

end Cert.Proof.Kvq
end
-- ==== Proof.KvqScratch.lean ====
/-
  The scratch at every point: the block's rows, normalised by its first point under the two gains and kept since.
-/
module

public import proofs.«01_k».proof.Proof.KvqBlock

@[expose] public section

noncomputable section

namespace Cert.Proof.Kvq

open Cert.Kernel2Ideal Cert.Kernel2Ideal.Gen
open Idealize.ShloMosaic Idealize.ShloMosaic.TcCoe

variable (m : (ℓ : Loc nD τ sig) → Buf (Elt Ideal) ℓ) (c : Dev nD)

theorem points : cfg0.N = 192 := N_0

/-- The printed index maps, over the grid. -/
theorem index_in : ∀ t : Fin cfg0.N, win0_0.index t = ![t.val / 6, 0] ∧ win0_1.index t = ![0, 0] ∧ win0_2.index t = ![0, 0]
    ∧ win0_3.index t = ![0, t.val % 6] ∧ win0_4.index t = ![0, t.val % 6] :=
  (by decide +kernel : ∀ t : Fin grid0.N, _)

/-- The stream's block at a point, element by element. -/
theorem block_h (t : Fin cfg0.N) (p : Fin 1024) (r : Fin 32768) (hr : r.val = t.val / 6 * 1024 + p.val) (k : Fin 2048) :
    (iblk m c 0 t : S1024x2048.Idx → EReal) (ix2 p k) = (V m c main_arg0 : S32768x2048.Idx → EReal) (ix2 r k) := by
  refine congrArg (V m c main_arg0 : S32768x2048.Idx → EReal) (funext fun b => Fin.ext ?_)
  refine (win0_0.rect_emb_val t (ix2 p k) b).trans ?_
  rw [(index_in t).1]
  fin_cases b
  · exact hr.symm
  · simp

/-- A gain row is its whole array. -/
theorem block_kv (t : Fin cfg0.N) (k : Fin 2048) :
    (iblk m c 1 t : S1x2048.Idx → EReal) (ix2 0 k) = (V m c main_v10 : S1x2048.Idx → EReal) (ix2 0 k) := by
  refine congrArg (V m c main_v10 : S1x2048.Idx → EReal) (funext fun b => Fin.ext ?_)
  refine (win0_1.rect_emb_val t (ix2 0 k) b).trans ?_
  rw [(index_in t).2.1]
  fin_cases b
  · rfl
  · simp

theorem block_q (t : Fin cfg0.N) (k : Fin 2048) :
    (iblk m c 2 t : S1x2048.Idx → EReal) (ix2 0 k) = (V m c main_v11 : S1x2048.Idx → EReal) (ix2 0 k) := by
  refine congrArg (V m c main_v11 : S1x2048.Idx → EReal) (funext fun b => Fin.ext ?_)
  refine (win0_2.rect_emb_val t (ix2 0 k) b).trans ?_
  rw [(index_in t).2.2.1]
  fin_cases b
  · rfl
  · simp

/-- The weight columns of a point. -/
theorem block_w (t : Fin cfg0.N) (k : Fin 2048) (q : Fin 1024) :
    (iblk m c 3 t : S2048x1024.Idx → EReal) (ix2 k q)
      = (V m c main_arg3 : S2048x6144.Idx → EReal) (ix2 k ⟨t.val % 6 * 1024 + q.val, by omega⟩) := by
  refine congrArg (V m c main_arg3 : S2048x6144.Idx → EReal) (funext fun b => Fin.ext ?_)
  refine (win0_3.rect_emb_val t (ix2 k q) b).trans ?_
  rw [(index_in t).2.2.2.1]
  fin_cases b
  · simp
  · rfl

/-- The gains of a point's columns. -/
theorem block_g (t : Fin cfg0.N) (q : Fin 1024) :
    (iblk m c 4 t : S1x1024.Idx → EReal) (ix2 0 q)
      = (V m c main_v12 : S1x6144.Idx → EReal) (ix2 0 ⟨t.val % 6 * 1024 + q.val, by omega⟩) := by
  refine congrArg (V m c main_v12 : S1x6144.Idx → EReal) (funext fun b => Fin.ext ?_)
  refine (win0_4.rect_emb_val t (ix2 0 q) b).trans ?_
  rw [(index_in t).2.2.2.2]
  fin_cases b
  · rfl
  · rfl

/-- Row `r` of the stream, normalised under a gain. -/
def normed (g : Fin 2048 → EReal) (r : Fin 32768) (k : Fin 2048) : EReal :=
  rowNorm (fun k => (V m c main_arg0 : S32768x2048.Idx → EReal) (ix2 r k)) g k

/-- After a block's first point nothing changes the scratch. -/
theorem kept (t : Fin cfg0.N) (h : ¬t.val % 6 = 0) :
    (outsAt0 m c t.val t.isLt).2 = (outsAt0 m c (t.val - 1) (Nat.lt_of_le_of_lt (Nat.sub_le _ _) t.isLt)).2 := by
  by_cases h1 : t.val % 6 ≤ 1
  · rw [outsAt0_B m c t h h1 (by omega) (by omega)]; rfl
  · by_cases h2 : 2 ≤ t.val % 6 ∧ t.val % 6 ≤ 3
    · rw [outsAt0_C m c t h h1 h2 (by omega)]; rfl
    · rw [outsAt0_D m c t h h1 h2 (by omega)]; rfl

/-- A block's first point fills the scratch. -/
theorem filled (t : Fin cfg0.N) (h : t.val % 6 = 0) (p : Fin 1024) (k : Fin 2048) (r : Fin 32768) (hr : r.val = t.val / 6 * 1024 + p.val) :
    ((outsAt0 m c t.val t.isLt).2.1 (ix2 p k) : EReal) = normed m c (fun k => (V m c main_v10 : S1x2048.Idx → EReal) (ix2 0 k)) r k
    ∧ ((outsAt0 m c t.val t.isLt).2.2 (ix2 p k) : EReal) = normed m c (fun k => (V m c main_v11 : S1x2048.Idx → EReal) (ix2 0 k)) r k := by
  have a := rows_kv m c t h (by omega) (by omega) (by omega) p k
  have b := rows_q m c t h (by omega) (by omega) (by omega) p k
  rw [show (fun k => (iblk m c 0 t : S1024x2048.Idx → EReal) (ix2 p k)) = _ from funext fun k => block_h m c t p r hr k] at a b
  rw [show (fun k => (iblk m c 1 t : S1x2048.Idx → EReal) (ix2 0 k)) = _ from funext fun k => block_kv m c t k] at a
  rw [show (fun k => (iblk m c 2 t : S1x2048.Idx → EReal) (ix2 0 k)) = _ from funext fun k => block_q m c t k] at b
  exact ⟨a, b⟩

/-- The scratch at every point. -/
theorem scratch (n : ℕ) (hn : n < cfg0.N) (p : Fin 1024) (k : Fin 2048) (r : Fin 32768) (hr : r.val = n / 6 * 1024 + p.val) :
    ((outsAt0 m c n hn).2.1 (ix2 p k) : EReal) = normed m c (fun k => (V m c main_v10 : S1x2048.Idx → EReal) (ix2 0 k)) r k
    ∧ ((outsAt0 m c n hn).2.2 (ix2 p k) : EReal) = normed m c (fun k => (V m c main_v11 : S1x2048.Idx → EReal) (ix2 0 k)) r k := by
  induction n with
  | zero => exact filled m c ⟨0, hn⟩ rfl p k r hr
  | succ n ih =>
    by_cases h : (n + 1) % 6 = 0
    · exact filled m c ⟨n + 1, hn⟩ h p k r hr
    · have e : (outsAt0 m c (n + 1) hn).2 = (outsAt0 m c n (by omega)).2 := kept m c ⟨n + 1, hn⟩ h
      rw [e]
      exact ih (by omega) (by omega)

end Cert.Proof.Kvq
end
-- ==== Proof.KvqRows.lean ====
/-
  The projection kernel's array after the run, element by element, over what the host lines leave in its operands.
-/
module

public import proofs.«01_k».proof.Proof.Gen.Kernel2Ideal.Value
public import proofs.«01_k».proof.Proof.KvqScratch

@[expose] public section

noncomputable section

namespace Cert.Proof.Kvq

open Cert.Kernel2Ideal Cert.Kernel2Ideal.Gen
open Idealize.ShloMosaic Idealize.ShloMosaic.TcCoe

variable (m : (ℓ : Loc nD τ sig) → Buf (Elt Ideal) ℓ) (c : Dev nD)

/-- The point that writes an element, and the element's place in its block. -/
theorem array_at (r : Fin 32768) (q : Fin 6144) (t : Fin cfg0.N) (ht : t.val = 6 * (r.val / 1024) + q.val / 1024) :
    (Value.G5 m c : S32768x6144.Idx → EReal) (ix2 r q)
      = (outsAt0 m c t.val t.isLt).1 (ix2 ⟨r.val % 1024, Nat.mod_lt _ (by decide)⟩ ⟨q.val % 1024, Nat.mod_lt _ (by decide)⟩) := by
  have e : Value.pt5Of (ix2 r q) = t.val := by
    rw [ht]; show 6 * (r.val / 1024 - 0) + 1 * (q.val / 1024 - 0) = _; omega
  have l : Value.loc5Of (ix2 r q) = ix2 ⟨r.val % 1024, Nat.mod_lt _ (by decide)⟩ ⟨q.val % 1024, Nat.mod_lt _ (by decide)⟩ := by
    funext b; fin_cases b <;> rfl
  unfold Value.G5
  rw [dif_pos (by rw [e]; exact t.isLt), l, Value.outsAt0_sweep]
  exact congrFun (congrArg Prod.fst (Value.fold0_congr m c _ _ _ _ e)) _

/-- The point that writes head `h` of row `r`. -/
def pointOf (r : Fin 32768) (h : Fin 48) : Fin cfg0.N := ⟨6 * (r.val / 1024) + h.val / 8, by rw [points]; omega⟩

/-- A head's products over a row `x` of scratch, normalised, with the head's gains. -/
def headOf (x : Fin 2048 → EReal) (h : Fin 48) (d : Fin 128) : EReal :=
  headNorm (fun e => ∑ k, x k * (V m c main_arg3 : S2048x6144.Idx → EReal) (ix2 k ⟨128 * h.val + e.val, by omega⟩)) d
    * (V m c main_v12 : S1x6144.Idx → EReal) (ix2 0 ⟨128 * h.val + d.val, by omega⟩)

/-- A head within its block is the head of the whole. -/
theorem head_whole (r : Fin 32768) (h : Fin 48) (p : Fin 1024) (j : Fin 8) (d : Fin 128) (hj : j.val = h.val % 8)
    (X : S1024x2048.Idx → EReal) (x : Fin 2048 → EReal) (hX : ∀ k, X (ix2 p k) = x k) :
    headAt X (iblk m c 3 (pointOf r h)) (iblk m c 4 (pointOf r h)) p j d = headOf m c x h d := by
  have v : (pointOf r h).val % 6 = h.val / 8 := by show (6 * (r.val / 1024) + h.val / 8) % 6 = _; omega
  have o : ∀ e : Fin 128, (⟨(pointOf r h).val % 6 * 1024 + (128 * j.val + e.val), by omega⟩ : Fin 6144) = ⟨128 * h.val + e.val, by omega⟩ :=
    fun e => Fin.ext (by show (pointOf r h).val % 6 * 1024 + (128 * j.val + e.val) = 128 * h.val + e.val; omega)
  unfold headAt headOf
  refine congrArg₂ (· * ·) (congrFun (congrArg headNorm (funext fun e => Finset.sum_congr rfl fun k _ => ?_)) d) ?_
  · exact congrArg₂ (· * ·) (hX k) ((block_w m c _ k _).trans (congrArg _ (congrArg (ix2 k) (o e))))
  · exact (block_g m c _ _).trans (congrArg _ (congrArg (ix2 0) (o d)))

theorem place (r : Fin 32768) (h : Fin 48) (d : Fin 128) :
    (pointOf r h).val = 6 * (r.val / 1024) + (⟨128 * h.val + d.val, by omega⟩ : Fin 6144).val / 1024 := by
  show 6 * (r.val / 1024) + h.val / 8 = 6 * (r.val / 1024) + (128 * h.val + d.val) / 1024; omega

theorem block_row (r : Fin 32768) (h : Fin 48) : r.val = (pointOf r h).val / 6 * 1024 + r.val % 1024 := by
  show r.val = (6 * (r.val / 1024) + h.val / 8) / 6 * 1024 + r.val % 1024; omega

theorem kept_row (r : Fin 32768) (h : Fin 48) (hh : 8 ≤ h.val) : r.val = ((pointOf r h).val - 1) / 6 * 1024 + r.val % 1024 := by
  show r.val = (6 * (r.val / 1024) + h.val / 8 - 1) / 6 * 1024 + r.val % 1024; omega

/-- The keys. -/
theorem final_keys (r : Fin 32768) (h : Fin 48) (hh : h.val < 16) (d : Fin 128) :
    (Value.G5 m c : S32768x6144.Idx → EReal) (ix2 r ⟨128 * h.val + d.val, by omega⟩)
      = headOf m c (normed m c (fun k => (V m c main_v10 : S1x2048.Idx → EReal) (ix2 0 k)) r) h d := by
  have v : (pointOf r h).val % 6 = h.val / 8 := by show (6 * (r.val / 1024) + h.val / 8) % 6 = _; omega
  have hy : (128 * h.val + d.val) % 1024 = 128 * (h.val % 8) + d.val := by omega
  rw [array_at m c r _ (pointOf r h) (place r h d)]
  by_cases h8 : h.val < 8
  · rw [keys_first m c (pointOf r h) (by omega) (by omega) (by omega) (by omega) _ ⟨h.val % 8, by omega⟩ d hy]
    exact head_whole m c r h _ _ d rfl _ _ fun k => (scratch m c _ (pointOf r h).isLt _ k r (block_row r h)).1
  · rw [keys_later m c (pointOf r h) (by omega) (by omega) (by omega) (by omega) _ ⟨h.val % 8, by omega⟩ d hy]
    exact head_whole m c r h _ _ d rfl _ _ fun k => (scratch m c _ _ _ k r (kept_row r h (by omega))).1

/-- The queries. -/
theorem final_queries (r : Fin 32768) (h : Fin 48) (hh : 32 ≤ h.val) (d : Fin 128) :
    (Value.G5 m c : S32768x6144.Idx → EReal) (ix2 r ⟨128 * h.val + d.val, by omega⟩)
      = headOf m c (normed m c (fun k => (V m c main_v11 : S1x2048.Idx → EReal) (ix2 0 k)) r) h d := by
  have v : (pointOf r h).val % 6 = h.val / 8 := by show (6 * (r.val / 1024) + h.val / 8) % 6 = _; omega
  have hy : (128 * h.val + d.val) % 1024 = 128 * (h.val % 8) + d.val := by omega
  rw [array_at m c r _ (pointOf r h) (place r h d)]
  rw [queries m c (pointOf r h) (by omega) (by omega) (by omega) (by omega) _ ⟨h.val % 8, by omega⟩ d hy]
  exact head_whole m c r h _ _ d rfl _ _ fun k => (scratch m c _ _ _ k r (kept_row r h (by omega))).2

/-- The values. -/
theorem final_values (r : Fin 32768) (h : Fin 48) (hl : 16 ≤ h.val) (hh : h.val < 32) (d : Fin 128) :
    ((Value.G5 m c : S32768x6144.Idx → EReal) (ix2 r ⟨128 * h.val + d.val, by omega⟩) : EReal)
      = ∑ k, normed m c (fun k => (V m c main_v10 : S1x2048.Idx → EReal) (ix2 0 k)) r k
          * (V m c main_arg3 : S2048x6144.Idx → EReal) (ix2 k ⟨128 * h.val + d.val, by omega⟩) := by
  have v : (pointOf r h).val % 6 = h.val / 8 := by show (6 * (r.val / 1024) + h.val / 8) % 6 = _; omega
  have o : (⟨(pointOf r h).val % 6 * 1024 + (128 * h.val + d.val) % 1024, by omega⟩ : Fin 6144) = ⟨128 * h.val + d.val, by omega⟩ :=
    Fin.ext (by show (pointOf r h).val % 6 * 1024 + (128 * h.val + d.val) % 1024 = 128 * h.val + d.val; omega)
  rw [array_at m c r _ (pointOf r h) (place r h d)]
  rw [values m c (pointOf r h) (by omega) (by omega) (by omega) (by omega)]
  refine Finset.sum_congr (M := EReal) rfl fun k _ => congrArg₂ (· * ·) (scratch m c _ _ _ k r (kept_row r h (by omega))).1 ?_
  exact (block_w m c _ k _).trans (congrArg _ (congrArg (ix2 k) o))

end Cert.Proof.Kvq
end
-- ==== Proof.KvqOperands.lean ====
/-
  What the host lines before the projection kernel leave in its operands: the gain rows, and the table of column
  gains, which holds the key gain under the keys and the scaled query gain under the queries.
-/
module

public import proofs.«01_k».proof.Proof.Gen.Kernel2Ideal.Frame
public import Idealize.ShloMosaic.Lib.Pointwise
public import Idealize.ShloMosaic.Lib.Pipeline.ValueKit
public import Idealize.ShloMosaic.Lib.Pipeline.Value
public import Idealize.ShloMosaic.Lib.Tactic.CleanTypes

@[expose] public section

noncomputable section

namespace Cert.Proof.Kvq

open Cert.Kernel2Ideal Cert.Kernel2Ideal.Gen
open Idealize.ShloMosaic Idealize.ShloMosaic.TcCoe Idealize.ShloMosaic.StableHlo

variable (m : (ℓ : Loc nD τ sig) → Buf (Elt Ideal) ℓ) (c : Dev nD)

/-- A head's gain repeated under sixteen heads. -/
def tiled (k : FVec Ideal S128 .f32) : FVec Ideal S2048 .f32 :=
  shapeCast S2048 (broadcastInDim S16x128 ![0, 1] bcast_S1x128_S16x128_0_1
    (shapeCast S1x128 k shapeCasts_S128_S1x128)) shapeCasts_S16x128_S2048

/-- Three rows side by side, as one row of a matrix. -/
def joined (x y z : FVec Ideal S2048 .f32) : S1x6144.Idx → EReal :=
  shapeCast S1x6144 (concatenate S6144 0 [⟨S2048, x⟩, ⟨S2048, y⟩, ⟨S2048, z⟩]
    concatenates_S2048_S2048_S2048_S6144_d0) shapeCasts_S6144_S1x6144

/-- The table's composed term: the key gain sixteen times, ones, the scaled query gain sixteen times. -/
def table (k q : S128.Idx → EReal) : S1x6144.Idx → EReal :=
  joined (tiled k) (broadcastInDim S2048 ![] bcast_S_S2048 (constant (F := Ideal) S_ .f32 0x3F800000#32))
    (tiled (mulf (q : FVec Ideal S128 .f32) (broadcastInDim S128 ![] bcast_S_S128 (constant (F := Ideal) S_ .f32 0x3E0293EE#32))))

theorem as_row (x : S6144.Idx → EReal) (p : Fin 6144) :
    shapeCast S1x6144 x shapeCasts_S6144_S1x6144 (ix2 0 p) = x (ix1 p) := by
  pointwise

theorem tiled_apply (k : FVec Ideal S128 .f32) (p : Fin 2048) : tiled k (ix1 p) = k (ix1 ⟨p.val % 128, by omega⟩) := by
  unfold tiled
  pointwise

theorem joined_first (x y z : FVec Ideal S2048 .f32) (p : Fin 6144) (h : p.val < 2048) :
    joined x y z (ix2 0 p) = x (ix1 ⟨p.val, h⟩) := by
  unfold joined
  rw [as_row]
  exact concatenate_apply_piece (t := S6144) 0 [⟨S2048, x⟩, ⟨S2048, y⟩, ⟨S2048, z⟩] _ (ix1 p) 0 (by simp) S2048 x rfl rfl 0 rfl (ix1 ⟨p.val, h⟩)
    (fun b hb => absurd (Subsingleton.elim _ _) hb) (Nat.zero_add _)

theorem joined_last (x y z : FVec Ideal S2048 .f32) (p : Fin 6144) (h : 4096 ≤ p.val) :
    joined x y z (ix2 0 p) = z (ix1 ⟨p.val - 4096, by omega⟩) := by
  unfold joined
  rw [as_row]
  exact concatenate_apply_piece (t := S6144) 0 [⟨S2048, x⟩, ⟨S2048, y⟩, ⟨S2048, z⟩] _ (ix1 p) 2 (by simp) S2048 z rfl rfl 4096 rfl (ix1 ⟨p.val - 4096, by omega⟩)
    (fun b hb => absurd (Subsingleton.elim _ _) hb) (Nat.add_sub_of_le h)

theorem table_keys (k q : S128.Idx → EReal) (p : Fin 6144) (h : p.val < 2048) :
    table k q (ix2 0 p) = k (ix1 ⟨p.val % 128, by omega⟩) := by
  unfold table
  rw [joined_first _ _ _ p h, tiled_apply]

theorem table_queries (k q : S128.Idx → EReal) (p : Fin 6144) (h : 4096 ≤ p.val) :
    table k q (ix2 0 p) = q (ix1 ⟨(p.val - 4096) % 128, by omega⟩) * Ideal.ofBits FTy.f32 1040356334#32 := by
  unfold table
  rw [joined_last _ _ _ p h, tiled_apply]
  pointwise

theorem gain_kv (g : S2048.Idx → EReal) (hg : m ((c : Thread nD τ).loc main_arg1) = g) (k : Fin 2048) :
    (V m c main_v10 : S1x2048.Idx → EReal) (ix2 0 k) = g (ix1 k) := by
  unfold_abbrev_sides
  after_results_simp
  rw [show m (c, Proc.tc.devRef main_arg1) = g from hg]
  clean_types
  pointwise

theorem gain_q (g : S2048.Idx → EReal) (hg : m ((c : Thread nD τ).loc main_arg2) = g) (k : Fin 2048) :
    (V m c main_v11 : S1x2048.Idx → EReal) (ix2 0 k) = g (ix1 k) := by
  unfold_abbrev_sides
  after_results_simp
  rw [show m (c, Proc.tc.devRef main_arg2) = g from hg]
  clean_types
  pointwise

theorem gains (k q : S128.Idx → EReal) (hk : m ((c : Thread nD τ).loc main_arg4) = k) (hq : m ((c : Thread nD τ).loc main_arg5) = q) :
    (V m c main_v12 : S1x6144.Idx → EReal) = table k q := by
  rw [← hk, ← hq]
  unfold_abbrev_sides
  after_results_simp
  dsimp only [Matrix.cons_val]
  refine (congr (congr (congrArg joined ?_) ?_) ?_ : joined _ _ _ = joined _ _ _) <;> after_results_simp <;> rfl
end Cert.Proof.Kvq
end
-- ==== Proof.KvqReference.lean ====
/-
  The projections' reference, element by element: normed rows against the weights; under the keys and the queries each
  head normed by its own root mean square and times its gain, the queries also times a constant.
-/
module

public import proofs.«01_k».proof.Proof.Gen.Reference2Ideal.Run
public import proofs.«01_k».proof.Proof.KvqSpec
public import Idealize.ShloMosaic.Lib.Pointwise
public import Idealize.ShloMosaic.Lib.Pipeline.Value
public import Idealize.ShloMosaic.Lib.Tactic.CleanTypes

@[expose] public section

noncomputable section

namespace Cert.Proof.Kvq.Plain

open Cert.Reference2Ideal Cert.Reference2Ideal.Gen
open Idealize.ShloMosaic Idealize.ShloMosaic.TcCoe

/-- Rows over their root mean square, times a gain. -/
def normed (x : FVec Ideal S32768x2048 .f32) (g : FVec Ideal S2048 .f32) : FVec Ideal S32768x2048 .f32 :=
  mulf (mulf x (broadcastInDim S32768x2048 ![0, 1] bcast_S32768x1_S32768x2048_0_1 (Host.rsqrt (addf (Host.divf
    (broadcastInDim S32768x1 ![0] bcast_S32768_S32768x1_0 (Host.reduceAdd (mulf x x) (constant S_ .f32 0x00000000#32) reducesTo_S32768x2048_S32768_d1 h_S_))
    (broadcastInDim S32768x1 ![] bcast_S_S32768x1 (constant S_ .f32 0x45000000#32)))
    (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 g))

/-- Heads over their root mean square, times a gain. -/
def headed (y : FVec Ideal S32768x16x128 .f32) (g : FVec Ideal S128 .f32) : FVec Ideal S32768x16x128 .f32 :=
  mulf (mulf y (broadcastInDim S32768x16x128 ![0, 1, 2] bcast_S32768x16x1_S32768x16x128_0_1_2 (Host.rsqrt (addf (Host.divf
    (broadcastInDim S32768x16x1 ![0, 1] bcast_S32768x16_S32768x16x1_0_1 (Host.reduceAdd (mulf y y) (constant S_ .f32 0x00000000#32) reducesTo_S32768x16x128_S32768x16_d2 h_S_))
    (broadcastInDim S32768x16x1 ![] bcast_S_S32768x16x1 (constant S_ .f32 0x43000000#32)))
    (broadcastInDim S32768x16x1 ![] bcast_S_S32768x16x1 (constant S_ .f32 0x358637BD#32))))))
    (broadcastInDim S32768x16x128 ![0, 1, 2] bcast_S1x1x128_S32768x16x128_0_1_2 (broadcastInDim S1x1x128 ![2] bcast_S128_S1x1x128_2 g))

/-- Columns cut into heads, each normed, and laid side by side again. -/
def perHead (p : FVec Ideal S32768x2048 .f32) (g : FVec Ideal S128 .f32) : FVec Ideal S32768x2048 .f32 :=
  shapeCast S32768x2048 (headed (shapeCast S32768x16x128 p shapeCasts_S32768x2048_S32768x16x128) g) shapeCasts_S32768x16x128_S32768x2048

/-- The key and value products. -/
def keysValues (x : FVec Ideal S32768x2048 .f32) (g : FVec Ideal S2048 .f32) (w : FVec Ideal S2048x6144 .bf16) : FVec Ideal S32768x4096 .f32 :=
  Host.dotGeneral dot_S32768x2048_S2048x4096_S32768x4096_1_0_0_1_n_n none (normed x g)
    (extractStridedSlice S2048x4096 ![0, 0] (extf .f32 w bitsLt_bf16_f32) slices_S2048x6144_S2048x4096_0_0)

/-- The query products. -/
def asked (x : FVec Ideal S32768x2048 .f32) (g : FVec Ideal S2048 .f32) (w : FVec Ideal S2048x6144 .bf16) : FVec Ideal S32768x2048 .f32 :=
  Host.dotGeneral dot_S32768x2048_S2048x2048_S32768x2048_1_0_0_1_n_n none (normed x g)
    (extractStridedSlice S2048x2048 ![0, 4096] (extf .f32 w bitsLt_bf16_f32) slices_S2048x6144_S2048x2048_0_4096)

/-- Three matrices side by side. -/
def joined (x y z : FVec Ideal S32768x2048 .f32) : FVec Ideal S32768x6144 .bf16 :=
  truncf .bf16 (concatenate S32768x6144 1 [⟨S32768x2048, x⟩, ⟨S32768x2048, y⟩, ⟨S32768x2048, z⟩]
    concatenates_S32768x2048_S32768x2048_S32768x2048_S32768x6144_d1 : FVec Ideal S32768x6144 .f32) bitsLt_bf16_f32

/-- The whole result. -/
def whole (x : FVec Ideal S32768x2048 .f32) (g f : FVec Ideal S2048 .f32) (w : FVec Ideal S2048x6144 .bf16) (k q : FVec Ideal S128 .f32) :
    FVec Ideal S32768x6144 .bf16 :=
  joined (perHead (extractStridedSlice S32768x2048 ![0, 0] (keysValues x g w) slices_S32768x4096_S32768x2048_0_0) k)
    (extractStridedSlice S32768x2048 ![0, 2048] (keysValues x g w) slices_S32768x4096_S32768x2048_0_2048)
    (mulf (perHead (asked x f w) q) (broadcastInDim S32768x2048 ![] bcast_S_S32768x2048 (constant S_ .f32 0x3E0293EE#32)))

theorem result_eq (m : (ℓ : Loc nD τ sig) → Buf (Elt Ideal) ℓ) (c : Dev nD) :
    Value.res_main_v66 m c = whole (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

/-- Off the columns two indices of a row agree. -/
theorem off {n l : Nat} (r : Fin 32768) (a : Fin n) (a' : Fin l) (b : Fin 2) (hb : b ≠ 1) :
    ((ix2 r a : (⟨2, ![32768, n]⟩ : Shape).Idx) b).val = ((ix2 r a' : (⟨2, ![32768, l]⟩ : Shape).Idx) b).val :=
  match b, hb with
  | ⟨0, _⟩, _ => rfl
  | ⟨1, _⟩, hb => absurd rfl hb

theorem joined_first (x y z : FVec Ideal S32768x2048 .f32) (r : Fin 32768) (p : Fin 6144) (h : p.val < 2048) :
    joined x y z (ix2 r p) = x (ix2 r ⟨p.val, h⟩) :=
  concatenate_apply_piece (t := S32768x6144) 1 [⟨S32768x2048, x⟩, ⟨S32768x2048, y⟩, ⟨S32768x2048, z⟩]
    concatenates_S32768x2048_S32768x2048_S32768x2048_S32768x6144_d1 (ix2 r p) 0 (by simp)
    S32768x2048 x rfl rfl 0 rfl (ix2 r ⟨p.val, h⟩) (off r _ p) (Nat.zero_add _)

theorem joined_middle (x y z : FVec Ideal S32768x2048 .f32) (r : Fin 32768) (p : Fin 6144) (h : 2048 ≤ p.val) (h' : p.val < 4096) :
    joined x y z (ix2 r p) = y (ix2 r ⟨p.val - 2048, by omega⟩) :=
  concatenate_apply_piece (t := S32768x6144) 1 [⟨S32768x2048, x⟩, ⟨S32768x2048, y⟩, ⟨S32768x2048, z⟩]
    concatenates_S32768x2048_S32768x2048_S32768x2048_S32768x6144_d1 (ix2 r p) 1 (by simp)
    S32768x2048 y rfl rfl 2048 rfl (ix2 r ⟨p.val - 2048, by omega⟩) (off r _ p) (Nat.add_sub_of_le h)

theorem joined_last (x y z : FVec Ideal S32768x2048 .f32) (r : Fin 32768) (p : Fin 6144) (h : 4096 ≤ p.val) :
    joined x y z (ix2 r p) = z (ix2 r ⟨p.val - 4096, by omega⟩) :=
  concatenate_apply_piece (t := S32768x6144) 1 [⟨S32768x2048, x⟩, ⟨S32768x2048, y⟩, ⟨S32768x2048, z⟩]
    concatenates_S32768x2048_S32768x2048_S32768x2048_S32768x6144_d1 (ix2 r p) 2 (by simp)
    S32768x2048 z rfl rfl 4096 rfl (ix2 r ⟨p.val - 4096, by omega⟩) (off r _ p) (Nat.add_sub_of_le h)

theorem normed_apply (x : FVec Ideal S32768x2048 .f32) (g : FVec Ideal S2048 .f32) (r : Fin 32768) (k : Fin 2048) :
    normed x g (ix2 r k) = rowNorm (fun k => x (ix2 r k)) (fun k => g (ix1 k)) k := by
  unfold normed rowNorm invRms
  pointwise

theorem headed_apply (y : FVec Ideal S32768x16x128 .f32) (g : FVec Ideal S128 .f32) (r : Fin 32768) (h : Fin 16) (d : Fin 128) :
    headed y g (ix3 r h d) = headNorm (fun e => y (ix3 r h e)) d * g (ix1 d) := by
  unfold headed headNorm invRms
  pointwise

theorem cut (p : FVec Ideal S32768x2048 .f32) (r : Fin 32768) (h : Fin 16) (d : Fin 128) :
    shapeCast S32768x16x128 p shapeCasts_S32768x2048_S32768x16x128 (ix3 r h d) = p (ix2 r ⟨128 * h.val + d.val, by omega⟩) := by
  pointwise
  exact congrArg (fun q => p (ix2 r q)) (Fin.ext (by show h.val * 128 + d.val = 128 * h.val + d.val; omega))

theorem laid (y : FVec Ideal S32768x16x128 .f32) (r : Fin 32768) (q : Fin 2048) :
    shapeCast S32768x2048 y shapeCasts_S32768x16x128_S32768x2048 (ix2 r q) = y (ix3 r ⟨q.val / 128, by omega⟩ ⟨q.val % 128, by omega⟩) := by
  pointwise

theorem keysValues_apply (x : FVec Ideal S32768x2048 .f32) (g : FVec Ideal S2048 .f32) (w : FVec Ideal S2048x6144 .bf16)
    (r : Fin 32768) (q : Fin 4096) :
    (keysValues x g w (ix2 r q) : EReal) = ∑ k : Fin 2048, rowNorm (fun k => x (ix2 r k)) (fun k => g (ix1 k)) k * w (ix2 k ⟨q.val, by omega⟩) := by
  unfold keysValues
  pointwise
  simp only [normed_apply]

theorem asked_apply (x : FVec Ideal S32768x2048 .f32) (g : FVec Ideal S2048 .f32) (w : FVec Ideal S2048x6144 .bf16)
    (r : Fin 32768) (q : Fin 2048) :
    (asked x g w (ix2 r q) : EReal) = ∑ k : Fin 2048, rowNorm (fun k => x (ix2 r k)) (fun k => g (ix1 k)) k * w (ix2 k ⟨4096 + q.val, by omega⟩) := by
  unfold asked
  pointwise
  simp only [normed_apply]

/-- A head's normed entry, from a matrix's columns. -/
theorem perHead_apply (p : FVec Ideal S32768x2048 .f32) (g : FVec Ideal S128 .f32) (r : Fin 32768) (h : Fin 16) (d : Fin 128) (q : Fin 2048)
    (hq : q.val = 128 * h.val + d.val) :
    perHead p g (ix2 r q) = headNorm (fun e => p (ix2 r ⟨128 * h.val + e.val, by omega⟩)) d * g (ix1 d) := by
  have e1 : (⟨q.val / 128, by omega⟩ : Fin 16) = h := Fin.ext (by show q.val / 128 = h.val; omega)
  have e2 : (⟨q.val % 128, by omega⟩ : Fin 128) = d := Fin.ext (by show q.val % 128 = d.val; omega)
  unfold perHead
  rw [laid, e1, e2, headed_apply]
  simp only [cut]

variable (x : FVec Ideal S32768x2048 .f32) (g f : FVec Ideal S2048 .f32) (w : FVec Ideal S2048x6144 .bf16) (k q : FVec Ideal S128 .f32)

/-- A row's products with a head's columns. -/
def products (g : FVec Ideal S2048 .f32) (r : Fin 32768) (h : Fin 48) (e : Fin 128) : EReal :=
  ∑ k : Fin 2048, rowNorm (fun k => x (ix2 r k)) (fun k => g (ix1 k)) k * w (ix2 k ⟨128 * h.val + e.val, by omega⟩)

theorem whole_keys (r : Fin 32768) (h : Fin 48) (hh : h.val < 16) (d : Fin 128) :
    (whole x g f w k q (ix2 r ⟨128 * h.val + d.val, by omega⟩) : EReal) = headNorm (products x w g r h) d * k (ix1 d) := by
  unfold whole
  rw [joined_first _ _ _ _ _ (by show 128 * h.val + d.val < 2048; omega)]
  refine (perHead_apply _ k r ⟨h.val, hh⟩ d _ rfl).trans ?_
  refine congrArg (fun p => headNorm p d * k (ix1 d)) (funext fun e => ?_)
  refine Eq.trans ?_ (keysValues_apply x g w r ⟨128 * h.val + e.val, by omega⟩)
  pointwise

theorem whole_values (r : Fin 32768) (h : Fin 48) (hl : 16 ≤ h.val) (hh : h.val < 32) (d : Fin 128) :
    (whole x g f w k q (ix2 r ⟨128 * h.val + d.val, by omega⟩) : EReal) = products x w g r h d := by
  unfold whole
  rw [joined_middle _ _ _ _ _ (by show 2048 ≤ 128 * h.val + d.val; omega) (by show 128 * h.val + d.val < 4096; omega)]
  refine Eq.trans ?_ (keysValues_apply x g w r ⟨128 * h.val + d.val, by omega⟩)
  pointwise
  exact congrArg (fun q => keysValues x g w (ix2 r q)) (Fin.ext (by show 2048 + (128 * h.val + d.val - 2048) = 128 * h.val + d.val; omega))

theorem whole_queries (r : Fin 32768) (h : Fin 48) (hh : 32 ≤ h.val) (d : Fin 128) :
    (whole x g f w k q (ix2 r ⟨128 * h.val + d.val, by omega⟩) : EReal)
      = headNorm (products x w f r h) d * q (ix1 d) * Ideal.ofBits FTy.f32 1040356334#32 := by
  unfold whole
  rw [joined_last _ _ _ _ _ (by show 4096 ≤ 128 * h.val + d.val; omega)]
  have e := perHead_apply (asked x f w) q r ⟨h.val - 32, by omega⟩ d ⟨128 * h.val + d.val - 4096, by omega⟩
    (by show 128 * h.val + d.val - 4096 = 128 * (h.val - 32) + d.val; omega)
  have p : (fun e : Fin 128 => (asked x f w (ix2 r ⟨128 * (h.val - 32) + e.val, by omega⟩) : EReal)) = products x w f r h := funext fun e => by
    refine (asked_apply x f w r _).trans (Finset.sum_congr (M := EReal) rfl fun k _ => ?_)
    exact congrArg (fun q => rowNorm (fun k => x (ix2 r k)) (fun k => f (ix1 k)) k * w (ix2 k q))
      (Fin.ext (by show 4096 + (128 * (h.val - 32) + e.val) = 128 * h.val + e.val; omega))
  rw [← p]
  refine Eq.trans ?_ (congrArg (· * Ideal.ofBits FTy.f32 1040356334#32) e)
  pointwise

end Cert.Proof.Kvq.Plain
-- ==== Proof.KvqEquation.lean ====
/-
  The projections' equation: under the keys, the values and the queries the kernel's columns are the reference's.
-/
module

public import proofs.«01_k».proof.Proof.Gen.Kernel2Ideal.Value
public import proofs.«01_k».proof.Proof.KvqRows
public import proofs.«01_k».proof.Proof.KvqOperands
public import proofs.«01_k».proof.Proof.KvqReference
public import proofs.«01_k».proof.Defs

@[expose] public section

noncomputable section

namespace Cert.Proof.Kvq

open Idealize.ShloMosaic Idealize.SL.Sem
open Idealize.ShloMosaic.TcCoe

open Cert.Kernel2Ideal Cert.Kernel2Ideal.Gen

variable (m : (ℓ : Loc nD τ sig) → Buf (Elt Ideal) ℓ) (c : Dev nD)

/-- The arguments, as the reference's operands. -/
def wanted : S32768x6144.Idx → EReal :=
  Plain.whole (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A row's products with a head's columns, in the kernel's operands. -/
theorem products_eq (g : S2048.Idx → EReal) (v : Fin 2048 → EReal) (hv : ∀ k, v k = g (ix1 k)) (r : Fin 32768) (h : Fin 48) (e : Fin 128) :
    (∑ k, normed m c v r k * (V m c main_arg3 : S2048x6144.Idx → EReal) (ix2 k ⟨128 * h.val + e.val, by omega⟩))
      = Plain.products (m ((c : Thread nD τ).loc main_arg0)) (m ((c : Thread nD τ).loc main_arg3)) g r h e := by
  have hv' : v = fun k => g (ix1 k) := funext hv
  subst hv'
  unfold normed Plain.products
  rw [V_main_arg0, V_main_arg3]

/-- Every column of the kernel's result is the reference's. -/
theorem column (r : Fin 32768) (h : Fin 48) (d : Fin 128) :
    (Value.G5 m c : S32768x6144.Idx → EReal) (ix2 r ⟨128 * h.val + d.val, by omega⟩)
      = wanted m c (ix2 r ⟨128 * h.val + d.val, by omega⟩) := by
  unfold wanted
  by_cases h1 : h.val < 16
  · refine (final_keys m c r h h1 d).trans (Eq.trans ?_ (Plain.whole_keys _ _ _ _ _ _ r h h1 d).symm)
    unfold headOf
    rw [gains m c _ _ rfl rfl, table_keys _ _ _ (by show 128 * h.val + d.val < 2048; omega)]
    simp only [products_eq m c _ _ (gain_kv m c _ rfl)]
    have e : (⟨(128 * h.val + d.val) % 128, by omega⟩ : Fin 128) = d := Fin.ext (by show (128 * h.val + d.val) % 128 = d.val; omega)
    rw [e]
  · by_cases h2 : h.val < 32
    · refine (final_values m c r h (by omega) h2 d).trans (Eq.trans ?_ (Plain.whole_values _ _ _ _ _ _ r h (by omega) h2 d).symm)
      exact products_eq m c _ _ (gain_kv m c _ rfl) r h d
    · refine (final_queries m c r h (by omega) d).trans (Eq.trans ?_ (Plain.whole_queries _ _ _ _ _ _ r h (by omega) d).symm)
      unfold headOf
      rw [gains m c _ _ rfl rfl, table_queries _ _ _ (by show 4096 ≤ 128 * h.val + d.val; omega)]
      simp only [products_eq m c _ _ (gain_q m c _ rfl)]
      have e : (⟨(128 * h.val + d.val - 4096) % 128, by omega⟩ : Fin 128) = d :=
        Fin.ext (by show (128 * h.val + d.val - 4096) % 128 = d.val; omega)
      rw [e]
      exact (mul_assoc (G := EReal) _ _ _).symm

/-- The kernel's result is the reference's. -/
theorem result : (Value.G5 m c : S32768x6144.Idx → EReal) = wanted m c := funext fun y => by
  rw [eq_ix2 y]
  have hy : (y 1).val < 6144 := (y 1).isLt
  have := column m c (y 0) ⟨(y 1).val / 128, by omega⟩ ⟨(y 1).val % 128, by omega⟩
  have ey : (⟨128 * ((y 1).val / 128) + (y 1).val % 128, by omega⟩ : Fin 6144) = y 1 := Fin.ext (by
    show 128 * ((y 1).val / 128) + (y 1).val % 128 = (y 1).val; omega)
  simpa only [ey] using this

/-- The projections' reference's frame. -/
theorem frame : Cert.quiescent_Reference2Ideal := fun m ρ _ =>
  (θ_run _ _ _).mono (fun r e => ⟨fun c => (e c).2, sem_eq_zero_of_no_sems (by decide) r.2⟩) (Cert.Reference2Ideal.Value.run m ρ)

/-- THE EQUATION of the projections. -/
theorem equation : Cert.algebraic_Kernel2Ideal_Reference2Ideal := fun m ρ m' ρ' _ hm => by
  refine ⟨fun c => wanted m c, ?_, ?_⟩
  · exact (θ_run _ _ _).mono (fun r e c => ⟨(e c).1.trans (result m c), (e c).2⟩) (Cert.Kernel2Ideal.Value.run m ρ)
  · refine (θ_run _ _ _).mono (fun r e c => ⟨(e c).1.trans ?_, (e c).2⟩) (Cert.Reference2Ideal.Value.run m' ρ')
    obtain ⟨h0, h1, h2, h3, h4, h5⟩ := hm c
    rw [Plain.result_eq, h0, h1, h2, h3, h4, h5]
    rfl

end Cert.Proof.Kvq
-- ==== Proof.PosSpec.lean ====
/-
  The positions' arithmetic: whether a token's class is a row's, whether one number comes before another, and a row's
  count of tokens in tiles.
-/
module

public import Idealize.ShloMosaic.Lib.Pointwise
public import Idealize.ShloMosaic.PureOps.Ideal

@[expose] public section

noncomputable section

namespace Cert.Proof.Pos

open Idealize.ShloMosaic

/-- A row's class number. -/
def key (r : Fin 32) : EReal := FloatOps.sitofp (F := Ideal) FTy.f32 (BitVec.ofNat 32 r.val)

/-- One where a class is the row's, zero elsewhere. -/
def hit (x : EReal) (r : Fin 32) : EReal := if x = key r then 1 else 0

/-- A sum's term where one number comes before another. -/
def under (a b : ℕ) (x : EReal) : EReal := if a < b then x else 0

theorem bit (p : Prop) [Decidable p] :
    FloatOps.sitofp (F := Ideal) FTy.f32 (BitVec.setWidth 32 (BitVec.ofBool (decide p))) = (if p then (1 : EReal) else 0) := by
  by_cases h : p <;> simp [h, FloatOps.sitofp]

theorem bit' (p : Prop) [Decidable p] :
    FloatOps.uitofp (F := Ideal) FTy.f32 (BitVec.ofBool (decide p)) = (if p then (1 : EReal) else 0) := by
  by_cases h : p <;> simp [h, FloatOps.uitofp]

/-- Small words compare as their numbers. -/
theorem slt (a b : ℕ) (ha : a ≤ 32768) (hb : b ≤ 32768) :
    IntOp.cmpi CmpIPredicate.slt (BitVec.ofNat 32 a) (BitVec.ofNat 32 b) = BitVec.ofBool (decide (a < b)) := by
  have e : ∀ n : ℕ, n ≤ 32768 → (BitVec.ofNat 32 n).toInt = (n : ℤ) := fun n h => by
    rw [BitVec.toInt_eq_toNat_of_lt (by rw [BitVec.toNat_ofNat]; omega), BitVec.toNat_ofNat, Nat.mod_eq_of_lt (by omega)]
  unfold IntOp.cmpi
  simp only [BitVec.slt, e a ha, e b hb, Nat.cast_lt]

theorem pick (a b : ℕ) (ha : a ≤ 32768) (hb : b ≤ 32768) (x : EReal) :
    Scalar.select (IntOp.cmpi CmpIPredicate.slt (BitVec.ofNat 32 a) (BitVec.ofNat 32 b)) x (Ideal.ofBits FTy.f32 0#32) = under a b x := by
  rw [slt a b ha hb, Ideal.ofBits_zero_f32]
  unfold under Scalar.select
  by_cases h : a < b <;> simp [h]

theorem weigh (a b : ℕ) (ha : a ≤ 32768) (hb : b ≤ 32768) (x : EReal) :
    FloatOps.sitofp (F := Ideal) FTy.f32 (BitVec.setWidth 32 (IntOp.cmpi CmpIPredicate.slt (BitVec.ofNat 32 a) (BitVec.ofNat 32 b))) * x
      = under a b x := by
  rw [slt a b ha hb, bit]
  unfold under
  by_cases h : a < b <;> simp [h]

theorem hits (n : ℕ) (f : Fin n → EReal) (r : Fin 32) : ∃ k : ℕ, ∑ t, hit (f t) r = (k : EReal) := by
  refine ⟨∑ t, if f t = key r then 1 else 0, ?_⟩
  unfold hit
  push_cast
  rfl

theorem lit_256 : Ideal.ofBits FTy.f32 1132462080#32 = ((256 : ℝ) : EReal) := by
  simp [Ideal.ofBits, Ideal.ieee, -EReal.coe_mul]; norm_num

theorem lit_255 : Ideal.ofBits FTy.f32 1132396544#32 = ((255 : ℝ) : EReal) := by
  simp [Ideal.ofBits, Ideal.ieee, -EReal.coe_mul]; norm_num

theorem lit_tile : Ideal.ofBits FTy.f32 998244352#32 = ((1 / 256 : ℝ) : EReal) := by
  simp [Ideal.ofBits, Ideal.ieee, -EReal.coe_mul]; norm_num

/-- A count rounded up to whole tiles of 256, by a floor or by a ceiling. -/
theorem tiles (n : ℕ) :
    Ideal.liftRound Int.floor (((n : EReal) + Ideal.ofBits FTy.f32 1132396544#32) * Ideal.ofBits FTy.f32 998244352#32)
      = Ideal.liftRound Int.ceil (Ideal.div (n : EReal) (Ideal.ofBits FTy.f32 1132462080#32)) := by
  have hd : Ideal.div (n : EReal) ((256 : ℝ) : EReal) = (((n : ℝ) / 256 : ℝ) : EReal) := by
    unfold Ideal.div
    rw [if_neg (by norm_num), ← EReal.coe_inv, div_eq_mul_inv, EReal.coe_mul]
    rfl
  have hm : ((n : EReal) + ((255 : ℝ) : EReal)) * ((1 / 256 : ℝ) : EReal) = ((((n : ℝ) + 255) / 256 : ℝ) : EReal) := by
    rw [div_eq_mul_inv ((n : ℝ) + 255), EReal.coe_mul, EReal.coe_add, one_div]
    rfl
  rw [lit_256, lit_255, lit_tile, hd, hm]
  show (((⌊((n : ℝ) + 255) / 256⌋ : ℤ) : ℝ) : EReal) = (((⌈(n : ℝ) / 256⌉ : ℤ) : ℝ) : EReal)
  have hf : ⌊((n : ℝ) + 255) / 256⌋ = (((n + 255) / 256 : ℕ) : ℤ) := by
    rw [Int.floor_eq_iff]
    have a : (n + 255) / 256 * 256 ≤ n + 255 := Nat.div_mul_le_self _ _
    have b : n + 255 < ((n + 255) / 256 + 1) * 256 := by omega
    have a' : (((n + 255) / 256 : ℕ) : ℝ) * 256 ≤ n + 255 := by exact_mod_cast a
    have b' : (n : ℝ) + 255 < ((((n + 255) / 256 : ℕ) : ℝ) + 1) * 256 := by exact_mod_cast b
    constructor
    · rw [Int.cast_natCast, le_div_iff₀ (by norm_num)]; exact a'
    · rw [Int.cast_natCast, div_lt_iff₀ (by norm_num)]; exact b'
  have hc : ⌈(n : ℝ) / 256⌉ = (((n + 255) / 256 : ℕ) : ℤ) := by
    rw [Int.ceil_eq_iff]
    have a : (n + 255) / 256 * 256 ≤ n + 255 := Nat.div_mul_le_self _ _
    have b : n ≤ (n + 255) / 256 * 256 := by omega
    have a' : (((n + 255) / 256 : ℕ) : ℝ) * 256 < n + 256 := by
      have : (n + 255) / 256 * 256 < n + 256 := by omega
      exact_mod_cast this
    have b' : (n : ℝ) ≤ (((n + 255) / 256 : ℕ) : ℝ) * 256 := by exact_mod_cast b
    constructor
    · rw [Int.cast_natCast, lt_div_iff₀ (by norm_num)]; linarith
    · rw [Int.cast_natCast, div_le_iff₀ (by norm_num)]; exact b'
  rw [hf, hc]

end Cert.Proof.Pos
end
-- ==== Proof.PosLoop.lean ====
/-
  The positions kernel's two loops in closed form: the first counts each row's tokens lane by lane, the second carries
  each row's first position past the tokens seen so far and stores one row of positions a trip.
-/
module

public import proofs.«01_k».proof.Proof.Gen.Kernel5Ideal.Frame
public import proofs.«01_k».proof.Proof.PosSpec
public import Idealize.ShloMosaic.Lib.WritesUnit

@[expose] public section

noncomputable section

namespace Cert.Proof.Pos

open Cert.Kernel5Ideal Cert.Kernel5Ideal.Gen
open Idealize.ShloMosaic Idealize.ShloMosaic.TcCoe

/-! ## One trip's arithmetic -/

theorem onehot_apply (v : Vec Ideal S1x1x256 .f32) (r : Fin 32) (j : Fin 256) :
    (k0_pay6 v (ix2 r j) : EReal) = hit (v (ix3 0 0 j)) r := by
  unfold hit key
  pointwise [k0_pay6, k0_pay1]
  exact bit _

theorem count_apply (a : FVec Ideal S32x256 .f32) (v : Vec Ideal S1x1x256 .f32) (r : Fin 32) (j : Fin 256) :
    (k0_pay3 a v (ix2 r j) : EReal) = a (ix2 r j) + hit (v (ix3 0 0 j)) r :=
  congrArg (fun z : EReal => (a (ix2 r j) : EReal) + z) (onehot_apply v r j)

theorem tiles_apply (a : FVec Ideal S32x256 .f32) (r : Fin 32) (l : Fin 128) :
    (k0_pay4 a (ix2 r l) : EReal)
      = Ideal.liftRound Int.floor (((∑ j, a (ix2 r j)) + Ideal.ofBits FTy.f32 1132396544#32) * Ideal.ofBits FTy.f32 998244352#32) := by
  pointwise [k0_pay4]

theorem first_apply (a : FVec Ideal S32x256 .f32) (r : Fin 32) :
    (k0_pay5 a (ix2 r 0) : EReal) = (∑ q : Fin 32, under q.val r.val (k0_pay4 a (ix2 q 0))) * Ideal.ofBits FTy.f32 1132462080#32 := by
  unfold k0_pay5
  generalize k0_pay4 a = x
  pointwise []
  exact congrArg (fun z : EReal => z * Ideal.ofBits FTy.f32 1132462080#32)
    (Finset.sum_congr (M := EReal) rfl fun q _ => weigh q.val r.val (by omega) (by omega) _)

theorem store_apply (s : FVec Ideal S32x1 .f32) (v : Vec Ideal S1x1x256 .f32) (j : Fin 256) :
    k0_pay7 s v (ix3 0 0 j)
      = FloatOps.fptosi (F := Ideal) (φ := .f32) 32 (∑ r : Fin 32, hit (v (ix3 0 0 j)) r
          * (s (ix2 r 0) + ∑ l : Fin 256, under l.val j.val (hit (v (ix3 0 0 l)) r))) := by
  unfold k0_pay7
  generalize h : k0_pay6 v = x
  pointwise []
  refine congrArg (FloatOps.fptosi (F := Ideal) (φ := .f32) 32) (Finset.sum_congr (M := EReal) rfl fun r _ => ?_)
  subst h
  rw [onehot_apply]
  refine congrArg (fun z : EReal => hit (v (ix3 0 0 j)) r * ((s (ix2 r 0) : EReal) + z)) (Finset.sum_congr (M := EReal) rfl fun l _ => ?_)
  rw [onehot_apply, mul_comm (G := EReal)]
  exact weigh l.val j.val (by omega) (by omega) _

theorem carry_apply (s : FVec Ideal S32x1 .f32) (v : Vec Ideal S1x1x256 .f32) (r : Fin 32) :
    (k0_pay8 s v (ix2 r 0) : EReal) = s (ix2 r 0) + ∑ j : Fin 256, hit (v (ix3 0 0 j)) r := by
  unfold k0_pay8
  generalize h : k0_pay6 v = x
  pointwise []
  subst h
  exact congrArg (fun z : EReal => (s (ix2 r 0) : EReal) + z) (Finset.sum_congr (M := EReal) rfl fun l _ => onehot_apply v r l)

/-! ## The trips -/

variable (c : Dev nD) (arg0 : Memref sig .tc .vmem S128x8x256 .f32) (harg0 : arg0.IsWhole) (arg1 : Memref sig .tc .vmem S128x1x256 .i32) (harg1 : arg1.IsWhole) (arg2 : Memref sig .tc .vmem S32x128 .f32) (harg2 : arg2.IsWhole)
variable (x : Vec Ideal S128x8x256 .f32)

theorem trips1 : k0_t1_loop.trips = 128 := by decide +kernel
theorem trips2 : k0_t2_loop.trips = 128 := by decide +kernel

/-- The row a trip of the first loop loads, -/
def row1 (k : Fin k0_t1_loop.trips) : Vec Ideal S1x1x256 .f32 :=
  arg0.view.readAt (Elt Ideal) (Rect.unit (s := S128x8x256) (k0_off1 k) S1x1x256.size (k0_off1_inb k)).toLoadRect (harg0.unread x)

/-- … and a trip of the second. -/
def row2 (k : Fin k0_t2_loop.trips) : Vec Ideal S1x1x256 .f32 :=
  arg0.view.readAt (Elt Ideal) (Rect.unit (s := S128x8x256) (k0_off2 k) S1x1x256.size (k0_off2_inb k)).toLoadRect (harg0.unread x)

theorem row1_apply (k : Fin k0_t1_loop.trips) (i : Fin 128) (hi : k.val = i.val) (j : Fin 256) :
    row1 arg0 harg0 x k (ix3 0 0 j) = x (ix3 i 0 j) := by
  unfold row1
  rw [View.readAt_apply, harg0.read_unread]
  refine congrArg x (funext fun a => Fin.ext ?_)
  have h := congrFun (k0_off1_eq k) a
  refine (congrArg (fun n : ℕ => n + 1 * ((ix3 0 0 j : S1x1x256.Idx) a).val) h).trans ?_
  rw [hi]
  fin_cases a <;> simp

theorem row2_apply (k : Fin k0_t2_loop.trips) (i : Fin 128) (hi : k.val = i.val) (j : Fin 256) :
    row2 arg0 harg0 x k (ix3 0 0 j) = x (ix3 i 0 j) := by
  unfold row2
  rw [View.readAt_apply, harg0.read_unread]
  refine congrArg x (funext fun a => Fin.ext ?_)
  have h := congrFun (k0_off2_eq k) a
  refine (congrArg (fun n : ℕ => n + 1 * ((ix3 0 0 j : S1x1x256.Idx) a).val) h).trans ?_
  rw [hi]
  fin_cases a <;> simp

theorem trip1 (k : Fin k0_t1_loop.trips) (a : FVec Ideal S32x256 .f32) :
    tripR_k0_t1 (F := Ideal) Variants.none c none arg0 harg0 arg1 harg1 arg2 harg2 (harg0.unread x) k a = k0_pay3 a (row1 arg0 harg0 x k) := by
  unfold tripR_k0_t1 trip_k0_t1
  rfl

theorem trip2 (k : Fin k0_t2_loop.trips) (s : FVec Ideal S32x1 .f32) :
    tripR_k0_t2 (F := Ideal) Variants.none c none arg0 harg0 arg1 harg1 arg2 harg2 (harg0.unread x) k s = k0_pay8 s (row2 arg0 harg0 x k) := by
  unfold tripR_k0_t2 trip_k0_t2
  rfl

theorem stored2 (k : Fin k0_t2_loop.trips) (s : FVec Ideal S32x1 .f32) :
    tripL_k0_t2 (F := Ideal) Variants.none c none arg0 harg0 arg1 harg1 arg2 harg2 (harg0.unread x) k s
      = [⟨Rect.unit (s := S128x1x256) (k0_off3 k) S1x1x256.size (k0_off3_inb k), k0_pay7 s (row2 arg0 harg0 x k)⟩] := by
  unfold tripL_k0_t2 trip_k0_t2
  rfl

/-! ## Closed forms -/

/-- The rows before the `k`-th. -/
def before (k : ℕ) : Finset (Fin 128) := Finset.univ.filter fun i => i.val < k

theorem before_succ (k : ℕ) (hk : k < 128) (f : Fin 128 → EReal) : ∑ i ∈ before (k + 1), f i = (∑ i ∈ before k, f i) + f ⟨k, hk⟩ := by
  have e : before (k + 1) = insert ⟨k, hk⟩ (before k) := by
    ext i
    simp only [before, Finset.mem_filter, Finset.mem_univ, true_and, Finset.mem_insert, Fin.ext_iff]
    omega
  rw [e, Finset.sum_insert (by simp [before]), add_comm]

/-- The first loop's sums after `k` trips. -/
theorem counted (k : ℕ) (hk : k ≤ 128) (r : Fin 32) (j : Fin 256) :
    (st_k0_t1 (F := Ideal) Variants.none c none arg0 harg0 arg1 harg1 arg2 harg2 (harg0.unread x) k0_pay2 k (ix2 r j) : EReal)
      = ∑ i ∈ before k, hit (x (ix3 i 0 j)) r := by
  induction k with
  | zero =>
    rw [st_k0_t1_zero]
    simp only [before, Nat.not_lt_zero, Finset.filter_false, Finset.sum_empty]
    pointwise [k0_pay2]
  | succ k ih =>
    have e := st_k0_t1_succ (F := Ideal) Variants.none c none arg0 harg0 arg1 harg1 arg2 harg2 (harg0.unread x) k0_pay2 ⟨k, by rw [trips1]; omega⟩
    rw [trip1] at e
    rw [e, count_apply, ih (by omega), before_succ k (by omega)]
    exact congrArg (fun z : EReal => (∑ i ∈ before k, hit (x (ix3 i 0 j)) r) + hit z r)
      (row1_apply arg0 harg0 x ⟨k, by rw [trips1]; omega⟩ ⟨k, by omega⟩ rfl j)

/-- The second loop's carried positions after `k` trips. -/
theorem carried (s : FVec Ideal S32x1 .f32) (k : ℕ) (hk : k ≤ 128) (r : Fin 32) :
    ((st_k0_t2 (F := Ideal) Variants.none c none arg0 harg0 arg1 harg1 arg2 harg2 (harg0.unread x) s k).1 (ix2 r 0) : EReal)
      = s (ix2 r 0) + ∑ i ∈ before k, ∑ j : Fin 256, hit (x (ix3 i 0 j)) r := by
  induction k with
  | zero =>
    rw [st_k0_t2_zero]
    simp only [before, Nat.not_lt_zero, Finset.filter_false, Finset.sum_empty]
    exact (add_zero (M := EReal) _).symm
  | succ k ih =>
    have e := st_k0_t2_succ (F := Ideal) Variants.none c none arg0 harg0 arg1 harg1 arg2 harg2 (harg0.unread x) s ⟨k, by rw [trips2]; omega⟩
    rw [trip2] at e
    rw [e]
    refine (carry_apply _ _ r).trans ?_
    rw [ih (by omega), before_succ k (by omega), add_assoc (G := EReal)]
    simp only [row2_apply arg0 harg0 x ⟨k, by rw [trips2]; omega⟩ ⟨k, by omega⟩ rfl]

/-- A row's positions, once stored, stay. -/
theorem stored (v : View sig .tc .vmem S128x1x256 .i32) (f : v.ty.Contents (Elt Ideal)) (s : FVec Ideal S32x1 .f32) (k : ℕ) (hk : k ≤ 128)
    (i : Fin 128) (hi : i.val < k) (j : Fin 256) :
    v.read (Elt Ideal) (v.writes (Elt Ideal) f (st_k0_t2 (F := Ideal) Variants.none c none arg0 harg0 arg1 harg1 arg2 harg2 (harg0.unread x) s k).2) (ix3 i 0 j)
      = FloatOps.fptosi (F := Ideal) (φ := .f32) 32 (∑ r : Fin 32, hit (x (ix3 i 0 j)) r
          * ((s (ix2 r 0) + ∑ i' ∈ before i.val, ∑ l : Fin 256, hit (x (ix3 i' 0 l)) r)
            + ∑ l : Fin 256, under l.val j.val (hit (x (ix3 i 0 l)) r))) := by
  induction k with
  | zero => omega
  | succ k ih =>
    have e := st_k0_t2_succ (F := Ideal) Variants.none c none arg0 harg0 arg1 harg1 arg2 harg2 (harg0.unread x) s ⟨k, by rw [trips2]; omega⟩
    rw [stored2] at e
    rw [e]
    show v.read (Elt Ideal) (v.writes (Elt Ideal) f (⟨_, _⟩ :: _)) (ix3 i 0 j) = _
    by_cases h : i.val = k
    · refine (View.read_writes_cons_unit_of_mem v f _ _ _ (ix3 i 0 j) (ix3 0 0 j) (k0_off3_eq _) ?_).trans ?_
      · intro a
        fin_cases a <;> simp [h]
      · rw [store_apply]
        subst h
        simp only [row2_apply arg0 harg0 x ⟨i.val, by rw [trips2]; omega⟩ i rfl]
        simp only [carried c arg0 harg0 arg1 harg1 arg2 harg2 x s i.val (by omega)]
    · refine (View.read_writes_cons_unit_of_not_mem v f _ _ _ (ix3 i 0 j) (k0_off3_eq _) 0 (.inl ?_)).trans (ih (by omega) (by omega))
      show i.val < k
      omega

end Cert.Proof.Pos
end
-- ==== Proof.PosArrays.lean ====
/-
  The positions kernel's two arrays after the run, element by element, over its argument.
-/
module

public import proofs.«01_k».proof.Proof.Gen.Kernel5Ideal.Value
public import proofs.«01_k».proof.Proof.PosLoop

@[expose] public section

noncomputable section

namespace Cert.Proof.Pos

open Cert.Kernel5Ideal Cert.Kernel5Ideal.Gen
open Idealize.ShloMosaic Idealize.ShloMosaic.TcCoe

/-- How many tokens a row holds, counted lane by lane. -/
def laneCount (x : S128x8x256.Idx → EReal) (r : Fin 32) : EReal := ∑ j : Fin 256, ∑ i : Fin 128, hit (x (ix3 i 0 j)) r

/-- A row's tiles. -/
def rowTiles (x : S128x8x256.Idx → EReal) (r : Fin 32) : EReal :=
  Ideal.liftRound Int.floor ((laneCount x r + Ideal.ofBits FTy.f32 1132396544#32) * Ideal.ofBits FTy.f32 998244352#32)

/-- A row's first position. -/
def rowStart (x : S128x8x256.Idx → EReal) (r : Fin 32) : EReal :=
  (∑ q : Fin 32, under q.val r.val (rowTiles x q)) * Ideal.ofBits FTy.f32 1132462080#32

/-- A token's position. -/
def position (x : S128x8x256.Idx → EReal) (i : Fin 128) (j : Fin 256) : BitVec 32 :=
  FloatOps.fptosi (F := Ideal) (φ := .f32) 32 (∑ r : Fin 32, hit (x (ix3 i 0 j)) r
    * ((rowStart x r + ∑ i' ∈ before i.val, ∑ l : Fin 256, hit (x (ix3 i' 0 l)) r)
      + ∑ l : Fin 256, under l.val j.val (hit (x (ix3 i 0 l)) r)))

section Run

variable (c : Dev nD) (arg0 : Memref sig .tc .vmem S128x8x256 .f32) (harg0 : arg0.IsWhole) (arg1 : Memref sig .tc .vmem S128x1x256 .i32) (harg1 : arg1.IsWhole) (arg2 : Memref sig .tc .vmem S32x128 .f32) (harg2 : arg2.IsWhole)
variable (x : Vec Ideal S128x8x256 .f32)

/-- The first loop's sums. -/
def total : FVec Ideal S32x256 .f32 :=
  st_k0_t1 (F := Ideal) Variants.none c none arg0 harg0 arg1 harg1 arg2 harg2 (harg0.unread x) k0_pay2 k0_t1_loop.trips

theorem total_tiles (r : Fin 32) (l : Fin 128) :
    (k0_pay4 (total c arg0 harg0 arg1 harg1 arg2 harg2 x) (ix2 r l) : EReal) = rowTiles x r := by
  rw [tiles_apply]
  unfold rowTiles laneCount total
  simp only [trips1, counted c arg0 harg0 arg1 harg1 arg2 harg2 x 128 (Nat.le_refl _)]
  have e : before 128 = Finset.univ := Finset.filter_true_of_mem fun i _ => i.isLt
  rw [e]

theorem total_start (r : Fin 32) :
    (k0_pay5 (total c arg0 harg0 arg1 harg1 arg2 harg2 x) (ix2 r 0) : EReal) = rowStart x r := by
  rw [first_apply]
  unfold rowStart
  simp only [total_tiles]

theorem pieces1 : (kernelRun0_A c arg0 harg0 arg1 harg1 arg2 harg2 x).1
    = (st_k0_t2 (F := Ideal) Variants.none c none arg0 harg0 arg1 harg1 arg2 harg2 (harg0.unread x)
        (k0_pay5 (total c arg0 harg0 arg1 harg1 arg2 harg2 x)) k0_t2_loop.trips).2 := by
  unfold kernelRun0_A
  rfl

theorem pieces2 : (kernelRun0_A c arg0 harg0 arg1 harg1 arg2 harg2 x).2.1
    = [⟨Rect.unit (s := S32x128) ![0, 0] S32x128.size inb_S32x128_S32x128_0_0, k0_pay4 (total c arg0 harg0 arg1 harg1 arg2 harg2 x)⟩] := by
  unfold kernelRun0_A
  rfl

theorem out1_apply (i : Fin 128) (j : Fin 256) :
    out0_A_1 c arg0 harg0 arg1 harg1 arg2 harg2 x (ix3 i 0 j) = position x i j := by
  unfold out0_A_1
  rw [pieces1]
  refine (stored c arg0 harg0 arg1 harg1 arg2 harg2 x _ _ _ _ (by rw [trips2]) i (by rw [trips2]; exact i.isLt) j).trans ?_
  unfold position
  simp only [total_start]

theorem out2_apply (r : Fin 32) (l : Fin 128) :
    (out0_A_2 c arg0 harg0 arg1 harg1 arg2 harg2 x (ix2 r l) : EReal) = rowTiles x r := by
  unfold out0_A_2
  rw [pieces2]
  refine (View.read_writes_cons_unit_of_mem _ _ _ _ _ (ix2 r l) (ix2 r l) rfl ?_).trans (total_tiles c arg0 harg0 arg1 harg1 arg2 harg2 x r l)
  intro a
  fin_cases a <;> simp

end Run

variable (m : (ℓ : Loc nD τ sig) → Buf (Elt Ideal) ℓ) (c : Dev nD)

/-- The one point. -/
def point : Fin cfg0.N := ⟨0, by decide⟩

theorem index0 : ∀ t : Fin cfg0.N, win0_0.index t = ![0, 0, 0] := by decide +kernel
theorem index1 : ∀ t : Fin cfg0.N, win0_1.index t = ![0, 0, 0] := by decide +kernel
theorem index2 : ∀ t : Fin cfg0.N, win0_2.index t = ![0, 0] := by decide +kernel

/-- The point's block is the whole argument. -/
theorem block (t : Fin cfg0.N) : (iblk m c 0 t : S128x8x256.Idx → EReal) = m ((c : Thread nD τ).loc main_arg0) := by
  funext y
  rw [← V_main_arg0 m c]
  refine congrArg (V m c main_arg0 : S128x8x256.Idx → EReal) (funext fun b => Fin.ext ?_)
  refine (win0_0.rect_emb_val t y b).trans ?_
  rw [index0]
  fin_cases b <;> simp

/-- The positions' array. -/
theorem array1 (i : Fin 128) (j : Fin 256) :
    ((dats m 0 c).arrAt 1 cfg0.N : S128x1x256.Idx → BitVec 32) (ix3 i 0 j) = position (m ((c : Thread nD τ).loc main_arg0)) i j := by
  have h := congrFun ((Value.blocks1 m c point (by decide +kernel)).trans (Value.flushed1_A m c point)) (ix3 i 0 j)
  have e : (win0_1.rect point).emb (ix3 i 0 j) = (ix3 i 0 j : S128x1x256.Idx) := funext fun b => Fin.ext (by
    refine (win0_1.rect_emb_val point (ix3 i 0 j) b).trans ?_
    rw [index1]
    fin_cases b <;> simp)
  refine Eq.trans (congrArg ((dats m 0 c).arrAt 1 cfg0.N : S128x1x256.Idx → BitVec 32) e.symm) (h.trans ?_)
  refine (out1_apply c _ _ _ _ _ _ _ i j).trans ?_
  rw [block]

/-- The tiles' array. -/
theorem array2 (r : Fin 32) (l : Fin 128) :
    ((dats m 0 c).arrAt 2 cfg0.N : S32x128.Idx → EReal) (ix2 r l) = rowTiles (m ((c : Thread nD τ).loc main_arg0)) r := by
  have h := congrFun ((Value.blocks2 m c point (by decide +kernel)).trans (Value.flushed2_A m c point)) (ix2 r l)
  have e : (win0_2.rect point).emb (ix2 r l) = (ix2 r l : S32x128.Idx) := funext fun b => Fin.ext (by
    refine (win0_2.rect_emb_val point (ix2 r l) b).trans ?_
    rw [index2]
    fin_cases b <;> simp)
  refine Eq.trans (congrArg ((dats m 0 c).arrAt 2 cfg0.N : S32x128.Idx → EReal) e.symm) (h.trans ?_)
  refine (out2_apply c _ _ _ _ _ _ _ r l).trans ?_
  rw [block]

end Cert.Proof.Pos
end
-- ==== Proof.PosPlain.lean ====
/-
  The positions' reference, element by element.
-/
module

public import proofs.«01_k».proof.Proof.Gen.Reference5Ideal.Run
public import proofs.«01_k».proof.Proof.PosSpec
public import Idealize.ShloMosaic.Lib.Pointwise

@[expose] public section

noncomputable section

namespace Cert.Proof.Pos.Plain

open Cert.Reference5Ideal Cert.Reference5Ideal.Gen
open Idealize.ShloMosaic Idealize.ShloMosaic.TcCoe

/-- Whether a token's class is a row's. -/
def same (x : FVec Ideal S128x8x256 .f32) : FVec Ideal S32768x32 .f32 :=
  uitofp .f32 (cmpf .oeq (broadcastInDim S32768x32 ![0, 1] bcast_S32768x1_S32768x32_0_1 (broadcastInDim S32768x1 ![0] bcast_S32768_S32768x1_0 (shapeCast _ (shapeCast _ (extractStridedSlice S128x1x256 ![0, 0, 0] x slices_S128x8x256_S128x1x256_0_0_0) shapeCasts_S128x1x256_S128x256) shapeCasts_S128x256_S32768))) (broadcastInDim S32768x32 ![0, 1] bcast_S1x32_S32768x32_0_1 (broadcastInDim S1x32 ![1] bcast_S32_S1x32_1 (sitofp .f32 (iotaInDim S32 32 0)))))

/-- A row's tiles. -/
def filled (s : FVec Ideal S32768x32 .f32) : FVec Ideal S32 .f32 :=
  Host.ceil (Host.divf (Host.reduceAdd s (constant S_ .f32 0x00000000#32) reducesTo_S32768x32_S32_d0 h_S_) (broadcastInDim S32 ![] bcast_S_S32 (constant S_ .f32 0x43800000#32)))

/-- A row's first position. -/
def start (u : FVec Ideal S32 .f32) : FVec Ideal S32 .f32 :=
  mulf (broadcastInDim S32 ![] bcast_S_S32 (constant S_ .f32 0x43800000#32)) (Host.reduceAdd (select (cmpi .slt (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0)))) (broadcastInDim S32x32 ![0, 1] bcast_S1x32_S32x32_0_1 (broadcastInDim S1x32 ![1] bcast_S32_S1x32_1 u)) (broadcastInDim S32x32 ![] bcast_S_S32x32 (id (constant S_ .f32 0x00000000#32)))) (constant S_ .f32 0x00000000#32) reducesTo_S32x32_S32_d1 h_S_)

/-- How many earlier tokens have a row's class. -/
def rank (s : FVec Ideal S32768x32 .f32) : FVec Ideal S32768x32 .f32 :=
  Host.reduceAdd (select (broadcastInDim S32768x32768x32 ![0, 1, 2] bcast_S32768x32768x1_S32768x32768x32_0_1_2 (broadcastInDim S32768x32768x1 ![0, 1] bcast_S32768x32768_S32768x32768x1_0_1 (cmpi .slt (broadcastInDim S32768x32768 ![0, 1] bcast_S1x32768_S32768x32768_0_1 (broadcastInDim S1x32768 ![1] bcast_S32768_S1x32768_1 (iotaInDim S32768 32 0))) (broadcastInDim S32768x32768 ![0, 1] bcast_S32768x1_S32768x32768_0_1 (broadcastInDim S32768x1 ![0] bcast_S32768_S32768x1_0 (iotaInDim S32768 32 0)))))) (broadcastInDim S32768x32768x32 ![0, 1, 2] bcast_S1x32768x32_S32768x32768x32_0_1_2 (broadcastInDim S1x32768x32 ![1, 2] bcast_S32768x32_S1x32768x32_1_2 s)) (broadcastInDim S32768x32768x32 ![] bcast_S_S32768x32768x32 (id (constant S_ .f32 0x00000000#32)))) (constant S_ .f32 0x00000000#32) reducesTo_S32768x32768x32_S32768x32_d1 h_S_

/-- The tokens' positions. -/
def placed (s : FVec Ideal S32768x32 .f32) (st : FVec Ideal S32 .f32) (rk : FVec Ideal S32768x32 .f32) : IVec S128x1x256 32 :=
  shapeCast _ (fptosi 32 (Host.reduceAdd (mulf s (addf (broadcastInDim S32768x32 ![0, 1] bcast_S1x32_S32768x32_0_1 (broadcastInDim S1x32 ![1] bcast_S32_S1x32_1 st)) rk)) (constant S_ .f32 0x00000000#32) reducesTo_S32768x32_S32768_d1 h_S_ : FVec Ideal S32768 .f32)) shapeCasts_S32768_S128x1x256

/-- The rows' tiles, over the lanes. -/
def spread (u : FVec Ideal S32 .f32) : FVec Ideal S32x128 .f32 :=
  broadcastInDim S32x128 ![0, 1] bcast_S32x1_S32x128_0_1 (broadcastInDim S32x1 ![0] bcast_S32_S32x1_0 u)

/-- Token `j` of row `i`. -/
def token (i : Fin 128) (j : Fin 256) : Fin 32768 := ⟨i.val * 256 + j.val, by omega⟩

theorem same_apply (x : FVec Ideal S128x8x256 .f32) (t : Fin 32768) (r : Fin 32) :
    (same x (ix2 t r) : EReal) = hit (x (ix3 ⟨t.val / 256, by omega⟩ 0 ⟨t.val % 256, by omega⟩)) r := by
  unfold same hit key
  pointwise
  exact bit' _

theorem filled_apply (s : FVec Ideal S32768x32 .f32) (r : Fin 32) :
    (filled s (ix1 r) : EReal) = Ideal.liftRound Int.ceil (Ideal.div (∑ t, s (ix2 t r)) (Ideal.ofBits FTy.f32 1132462080#32)) := by
  unfold filled
  pointwise

theorem start_apply (u : FVec Ideal S32 .f32) (r : Fin 32) :
    (start u (ix1 r) : EReal) = Ideal.ofBits FTy.f32 1132462080#32 * ∑ q : Fin 32, under q.val r.val (u (ix1 q)) := by
  unfold start
  pointwise
  exact congrArg _ (Finset.sum_congr (M := EReal) rfl fun q _ => pick q.val r.val (by omega) (by omega) _)

theorem rank_apply (s : FVec Ideal S32768x32 .f32) (t : Fin 32768) (r : Fin 32) :
    (rank s (ix2 t r) : EReal) = ∑ t' : Fin 32768, under t'.val t.val (s (ix2 t' r)) := by
  unfold rank
  pointwise
  exact Finset.sum_congr (M := EReal) rfl fun q _ => pick q.val t.val (by omega) (by omega) _

theorem placed_apply (s : FVec Ideal S32768x32 .f32) (st : FVec Ideal S32 .f32) (rk : FVec Ideal S32768x32 .f32) (i : Fin 128) (j : Fin 256) :
    placed s st rk (ix3 i 0 j)
      = FloatOps.fptosi (F := Ideal) (φ := .f32) 32 (∑ r, s (ix2 (token i j) r) * (st (ix1 r) + rk (ix2 (token i j) r))) := by
  unfold placed token
  pointwise

theorem spread_apply (u : FVec Ideal S32 .f32) (r : Fin 32) (l : Fin 128) : spread u (ix2 r l) = u (ix1 r) := by
  unfold spread
  pointwise

end Cert.Proof.Pos.Plain
end
-- ==== Proof.PosEquation.lean ====
/-
  The positions' equation: the kernel's positions and tiles are the reference's.
-/
module

public import proofs.«01_k».proof.Proof.PosArrays
public import proofs.«01_k».proof.Proof.PosPlain
public import proofs.«01_k».proof.Defs

@[expose] public section

noncomputable section

namespace Cert.Proof.Pos

open Idealize.ShloMosaic Idealize.SL.Sem
open Idealize.ShloMosaic.TcCoe

open Plain (token)

/-- Rows and lanes, as tokens. -/
def tokens : Fin 128 × Fin 256 ≃ Fin 32768 where
  toFun p := token p.1 p.2
  invFun t := (⟨t.val / 256, by omega⟩, ⟨t.val % 256, by omega⟩)
  left_inv p := Prod.ext (Fin.ext (by show (p.1.val * 256 + p.2.val) / 256 = p.1.val; omega))
    (Fin.ext (by show (p.1.val * 256 + p.2.val) % 256 = p.2.val; omega))
  right_inv t := Fin.ext (by show t.val / 256 * 256 + t.val % 256 = t.val; omega)

/-- A sum over tokens, row by row. -/
theorem sum_tokens (f : Fin 32768 → EReal) : ∑ t, f t = ∑ i : Fin 128, ∑ j : Fin 256, f (token i j) := by
  rw [← Fintype.sum_prod_type']
  exact (Equiv.sum_comp tokens f).symm

variable (x : (⟨3, ![128, 8, 256]⟩ : Shape).Idx → EReal)

theorem same_token (i : Fin 128) (j : Fin 256) (r : Fin 32) : (Plain.same x (ix2 (token i j) r) : EReal) = hit (x (ix3 i 0 j)) r := by
  have e1 : (⟨(token i j).val / 256, by omega⟩ : Fin 128) = i := Fin.ext (by show (i.val * 256 + j.val) / 256 = i.val; omega)
  have e2 : (⟨(token i j).val % 256, by omega⟩ : Fin 256) = j := Fin.ext (by show (i.val * 256 + j.val) % 256 = j.val; omega)
  rw [Plain.same_apply, e1, e2]

/-- A row's tokens, counted over the tokens or lane by lane. -/
theorem counts (r : Fin 32) : (∑ t, (Plain.same x (ix2 t r) : EReal)) = laneCount x r := by
  rw [sum_tokens, Finset.sum_comm]
  simp only [same_token]
  rfl

theorem tiles_eq (r : Fin 32) : (Plain.filled (Plain.same x) (ix1 r) : EReal) = rowTiles x r := by
  rw [Plain.filled_apply]
  unfold rowTiles
  rw [← counts]
  obtain ⟨n, hn⟩ := hits 32768 (fun t => x (ix3 ⟨t.val / 256, by omega⟩ 0 ⟨t.val % 256, by omega⟩)) r
  simp only [Plain.same_apply]
  rw [hn]
  exact (tiles n).symm

theorem start_eq (r : Fin 32) : (Plain.start (Plain.filled (Plain.same x)) (ix1 r) : EReal) = rowStart x r := by
  rw [Plain.start_apply, mul_comm (G := EReal)]
  unfold rowStart
  simp only [tiles_eq]

/-- The earlier tokens of a row's class: those of earlier rows, and those of the token's own row before it. -/
theorem rank_eq (i : Fin 128) (j : Fin 256) (r : Fin 32) :
    (Plain.rank (Plain.same x) (ix2 (token i j) r) : EReal)
      = (∑ i' ∈ before i.val, ∑ l : Fin 256, hit (x (ix3 i' 0 l)) r) + ∑ l : Fin 256, under l.val j.val (hit (x (ix3 i 0 l)) r) := by
  rw [Plain.rank_apply, sum_tokens]
  simp only [same_token]
  rw [← Finset.sum_filter_add_sum_filter_not (M := EReal) Finset.univ (fun i' : Fin 128 => i'.val < i.val)]
  refine congrArg₂ (fun a b : EReal => a + b) (Finset.sum_congr rfl fun i' hi' => Finset.sum_congr rfl fun l _ => ?_) ?_
  · have h : i'.val < i.val := (Finset.mem_filter.mp hi').2
    exact if_pos (show i'.val * 256 + l.val < i.val * 256 + j.val by omega)
  · rw [Finset.sum_eq_single i]
    · refine Finset.sum_congr rfl fun l _ => ?_
      have h : (i.val * 256 + l.val < i.val * 256 + j.val) = (l.val < j.val) := propext (by omega)
      show (if i.val * 256 + l.val < i.val * 256 + j.val then _ else _) = if l.val < j.val then _ else _
      simp only [h]
    · intro i' hi' ne
      have h : ¬ i'.val < i.val := (Finset.mem_filter.mp hi').2
      have ne' : i'.val ≠ i.val := fun e => ne (Fin.ext e)
      refine Finset.sum_eq_zero fun l _ => if_neg (show ¬ (i'.val * 256 + l.val < i.val * 256 + j.val) by omega)
    · intro h
      exact (h (Finset.mem_filter.mpr ⟨Finset.mem_univ i, Nat.lt_irrefl i.val⟩)).elim

theorem placed_eq (i : Fin 128) (j : Fin 256) :
    Plain.placed (Plain.same x) (Plain.start (Plain.filled (Plain.same x))) (Plain.rank (Plain.same x)) (ix3 i 0 j) = position x i j := by
  rw [Plain.placed_apply]
  unfold position
  refine congrArg (FloatOps.fptosi (F := Ideal) (φ := .f32) 32) (Finset.sum_congr (M := EReal) rfl fun r _ => ?_)
  rw [same_token, start_eq, rank_eq, add_assoc (G := EReal)]

/-- Each token's position, and each row's tiles over the lanes. -/
def wantedPositions : (⟨3, ![128, 1, 256]⟩ : Shape).Idx → BitVec 32 :=
  Plain.placed (Plain.same x) (Plain.start (Plain.filled (Plain.same x))) (Plain.rank (Plain.same x))

def wantedTiles : (⟨2, ![32, 128]⟩ : Shape).Idx → EReal := Plain.spread (Plain.filled (Plain.same x))

open Cert.Kernel5Ideal Cert.Kernel5Ideal.Gen in
theorem result1 (m : (ℓ : Loc nD τ sig) → Buf (Elt Ideal) ℓ) (c : Dev nD) :
    ((dats m 0 c).arrAt 1 cfg0.N : S128x1x256.Idx → BitVec 32) = wantedPositions (m ((c : Thread nD τ).loc main_arg0)) := by
  funext y
  rw [eq_ix3 y]
  have e : y 1 = (0 : Fin 1) := Fin.ext (by have : (y 1).val < 1 := (y 1).isLt; show (y 1).val = 0; omega)
  rw [e]
  exact (array1 m c (y 0) (y 2)).trans (placed_eq _ _ _).symm

open Cert.Kernel5Ideal Cert.Kernel5Ideal.Gen in
theorem result2 (m : (ℓ : Loc nD τ sig) → Buf (Elt Ideal) ℓ) (c : Dev nD) :
    ((dats m 0 c).arrAt 2 cfg0.N : S32x128.Idx → EReal) = wantedTiles (m ((c : Thread nD τ).loc main_arg0)) := by
  funext y
  rw [eq_ix2 y]
  exact (array2 m c (y 0) (y 1)).trans ((Plain.spread_apply _ _ _).trans (tiles_eq _ _)).symm

/-- The positions' reference's frame. -/
theorem frame : Cert.quiescent_Reference5Ideal := fun m ρ _ =>
  (θ_run _ _ _).mono (fun r e => ⟨fun c => (e c).2.2, sem_eq_zero_of_no_sems (by decide) r.2⟩) (Cert.Reference5Ideal.Value.run m ρ)

/-- THE EQUATION of the positions. -/
theorem equation : Cert.algebraic_Kernel5Ideal_Reference5Ideal := fun m ρ m' ρ' _ hm => by
  refine ⟨fun c => wantedPositions (m ((c : Thread Cert.Kernel5Ideal.nD Cert.Kernel5Ideal.τ).loc Cert.Kernel5Ideal.main_arg0)),
    fun c => wantedTiles (m ((c : Thread Cert.Kernel5Ideal.nD Cert.Kernel5Ideal.τ).loc Cert.Kernel5Ideal.main_arg0)), ?_, ?_⟩
  · exact (θ_run _ _ _).mono (fun r e c => ⟨(e c).1.trans (result1 m c), (e c).2.1.trans (result2 m c), (e c).2.2⟩) (Cert.Kernel5Ideal.Value.run_blocks m ρ)
  · refine (θ_run _ _ _).mono (fun r e c => ⟨(e c).1.trans ?_, (e c).2.1.trans ?_, (e c).2.2⟩) (Cert.Reference5Ideal.Value.run m' ρ')
    · rw [hm c]; rfl
    · rw [hm c]; rfl

end Cert.Proof.Pos
end
-- ==== Proof.OprojEquation.lean ====
/-
  The output projection: the residual stream that the call returns is the reference's sum of the stream and the product.
-/
module

public import proofs.«01_k».proof.Proof.Gen.Kernel6Ideal.Value
public import proofs.«01_k».proof.Proof.Gen.Reference6Ideal.Run
public import proofs.«01_k».proof.Proof.Frames
public import Idealize.ShloMosaic.Lib.Pointwise
public import Idealize.ShloMosaic.Lib.Pipeline.ValueKit
public import Idealize.ShloMosaic.Lib.Pipeline.ReadBack
public import Idealize.ShloMosaic.Lib.Tactic.CleanTypes

@[expose] public section

noncomputable section

namespace Cert.Proof.Oproj

open Cert.Kernel6Ideal Cert.Kernel6Ideal.Gen
open Idealize.ShloMosaic Idealize.ShloMosaic.TcCoe Idealize.SL.Sem

/-- A row of a block: the row of the stream plus the product. -/
theorem out_apply (x0 : Vec Ideal S512x2048 .bf16) (x1 : Vec Ideal S2048x2048 .bf16) (x2 : Vec Ideal S512x2048 .f32) (x3 : Vec Ideal S1x2048 .f32)
    (x4 : Vec Ideal S2048x128 .bf16) (x5 : Vec Ideal S1x128 .f32) (y : S512x2048.Idx) :
    (out0_6 x0 x1 x2 x3 x4 x5 y : EReal)
      = (x2 : S512x2048.Idx → EReal) y + ∑ k : Fin 2048, (x0 : S512x2048.Idx → EReal) (ix2 (y 0) k) * (x1 : S2048x2048.Idx → EReal) (ix2 k (y 1)) := by
  unfold out0_6
  canon_tiles x h
  all_goals
    pointwise [k0_pay4, k0_pay52]
  all_goals
    have e0 : ∀ z, z = y 0 → (x2 : S512x2048.Idx → EReal) (ix2 z (x 1)) + ∑ k : Fin 2048, (x0 : S512x2048.Idx → EReal) (ix2 z k) * (x1 : S2048x2048.Idx → EReal) (ix2 k (x 1))
        = (x2 : S512x2048.Idx → EReal) y + ∑ k : Fin 2048, (x0 : S512x2048.Idx → EReal) (ix2 (y 0) k) * (x1 : S2048x2048.Idx → EReal) (ix2 k (y 1)) := by
      rintro z rfl
      rw [show x 1 = y 1 from Fin.ext h1.symm, ← eq_ix2 y]
    exact e0 _ (Fin.ext h0.symm)

variable (m : (ℓ : Loc nD τ sig) → Buf (Elt Ideal) ℓ) (c : Dev nD)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index6 : ∀ t : Fin cfg0.N, win0_6.index t = ![t.val, 0] := by decide +kernel

/-- The attention rows of a point's block. -/
theorem block0 (t : Fin cfg0.N) (p : Fin 512) (k : Fin 2048) (r : Fin 32768) (hr : r.val = 512 * t.val + p.val) :
    (iblk m c 0 t : S512x2048.Idx → EReal) (ix2 p k) = (m ((c : Thread nD τ).loc main_arg0) : S32768x2048.Idx → EReal) (ix2 r k) := by
  rw [← V_main_arg0 m c]
  refine congrArg (V m c main_arg0 : S32768x2048.Idx → EReal) (funext fun b => Fin.ext ?_)
  refine (win0_0.rect_emb_val t (ix2 p k) b).trans ?_
  rw [index0]
  fin_cases b <;> simp [hr] <;> omega

/-- The weights, whole at each point. -/
theorem block1 (t : Fin cfg0.N) (k q : Fin 2048) :
    (iblk m c 1 t : S2048x2048.Idx → EReal) (ix2 k q) = (m ((c : Thread nD τ).loc main_arg1) : S2048x2048.Idx → EReal) (ix2 k q) := by
  rw [← V_main_arg1 m c]
  refine congrArg (V m c main_arg1 : S2048x2048.Idx → EReal) (funext fun b => Fin.ext ?_)
  refine (win0_1.rect_emb_val t (ix2 k q) b).trans ?_
  rw [index1]
  fin_cases b <;> simp

/-- The stream's rows of a point's block. -/
theorem block2 (t : Fin cfg0.N) (p : Fin 512) (q : Fin 2048) (r : Fin 32768) (hr : r.val = 512 * t.val + p.val) :
    (iblk m c 2 t : S512x2048.Idx → EReal) (ix2 p q) = (m ((c : Thread nD τ).loc main_arg2) : S32768x2048.Idx → EReal) (ix2 r q) := by
  rw [← V_main_arg2 m c]
  refine congrArg (V m c main_arg2 : S32768x2048.Idx → EReal) (funext fun b => Fin.ext ?_)
  refine (win0_2.rect_emb_val t (ix2 p q) b).trans ?_
  rw [index2]
  fin_cases b <;> simp [hr] <;> omega

theorem points : cfg0.N = 64 := by decide

theorem flushes : ∀ t : Fin cfg0.N, (cfg0.win 6).flush t = true := by decide +kernel

/-- The stream plus the product. -/
def summed (o : S32768x2048.Idx → EReal) (w : S2048x2048.Idx → EReal) (h : S32768x2048.Idx → EReal) (y : S32768x2048.Idx) : EReal :=
  h y + ∑ k : Fin 2048, o (ix2 (y 0) k) * w (ix2 k (y 1))

/-- The returned stream, element by element. -/
theorem array : ((dats m 0 c).arrAt 6 cfg0.N : S32768x2048.Idx → EReal)
    = summed (m ((c : Thread nD τ).loc main_arg0)) (m ((c : Thread nD τ).loc main_arg1)) (m ((c : Thread nD τ).loc main_arg2)) := by
  funext y
  rw [eq_ix2 y]
  have hy : (y 0).val < 32768 := (y 0).isLt
  let t : Fin cfg0.N := ⟨(y 0).val / 512, by rw [points]; omega⟩
  let p : Fin 512 := ⟨(y 0).val % 512, by omega⟩
  have hr : (y 0).val = 512 * t.val + p.val := by show (y 0).val = 512 * ((y 0).val / 512) + (y 0).val % 512; omega
  have h := congrFun ((Value.blocks6 m c t (flushes t)).trans (Value.flushed6 m c t)) (ix2 p (y 1))
  have e : (win0_6.rect t).emb (ix2 p (y 1)) = (ix2 (y 0) (y 1) : S32768x2048.Idx) := funext fun b => Fin.ext (by
    refine (win0_6.rect_emb_val t (ix2 p (y 1)) b).trans ?_
    rw [index6]
    fin_cases b <;> simp [hr] <;> omega)
  refine Eq.trans (congrArg ((dats m 0 c).arrAt 6 cfg0.N : S32768x2048.Idx → EReal) e.symm) (h.trans ?_)
  refine (out_apply _ _ _ _ _ _ (ix2 p (y 1))).trans ?_
  unfold summed
  refine congrArg₂ (fun a b : EReal => a + b) (block2 m c t p (y 1) (y 0) hr) (Finset.sum_congr (M := EReal) rfl fun k _ => ?_)
  exact congrArg₂ (fun a b : EReal => a * b) (block0 m c t p k (y 0) hr) (block1 m c t k (y 1))

/-- The reference's sum, element by element. -/
theorem reference_eq (o : FVec Ideal S32768x2048 .bf16) (w : FVec Ideal S2048x2048 .bf16) (h : FVec Ideal S32768x2048 .f32) :
    (addf h (Host.dotGeneral Cert.Reference6Ideal.dot_S32768x2048_S2048x2048_S32768x2048_1_0_0_1_n_n none
      (extf .f32 o Cert.Reference6Ideal.Facts₀.bitsLt_bf16_f32) (extf .f32 w Cert.Reference6Ideal.Facts₀.bitsLt_bf16_f32)) : S32768x2048.Idx → EReal) = summed o w h := by
  funext y
  rw [eq_ix2 y]
  unfold summed
  pointwise

/-- The reference's frame. -/
theorem frame : Cert.quiescent_Reference6Ideal := fun m ρ _ =>
  (θ_run _ _ _).mono (fun r e => ⟨fun c => (e c).2, sem_eq_zero_of_no_sems (by decide) r.2⟩) (Cert.Reference6Ideal.Value.run m ρ)

/-- The packed rows' rewrites. -/
theorem ledger : Cert.preserves_Kernel6_Kernel6Ideal :=
  ⟨IdealRules.bf16_pair.bufferStatement _ _, IdealRules.bf16_pair.bufferStatement _ _, IdealRules.bf16_pair.packStatement _,
    IdealRules.bf16_pair.statement _ _⟩

/-- THE EQUATION of the output projection. -/
theorem equation : Cert.algebraic_Kernel6Ideal_Reference6Ideal := fun m ρ m' ρ' _ hm => by
  refine ⟨fun c => summed (m ((c : Thread nD τ).loc main_arg0)) (m ((c : Thread nD τ).loc main_arg1)) (m ((c : Thread nD τ).loc main_arg2)), ?_, ?_⟩
  · exact (θ_run _ _ _).mono (fun r e c => ⟨(e c).1.trans (array m c), (e c).2.2.2.2⟩) (Cert.Kernel6Ideal.Value.run_blocks m ρ)
  · refine (θ_run _ _ _).mono (fun r e c => ⟨(e c).1.trans ?_, (e c).2⟩) (Cert.Reference6Ideal.Value.run m' ρ')
    obtain ⟨h0, h1, h2, h3, h4, h5⟩ := hm c
    rw [h0, h1, h2]
    exact reference_eq _ _ _

end Cert.Proof.Oproj

end
-- ==== Proof.PoolSpec.lean ====
/-
  The pooling mixer's arithmetic: a trailing sum over a window of positions, written with a band of ones or term by
  term, and the number of positions in a window.
-/
module

public import Idealize.ShloMosaic.Lib.Pointwise
public import Idealize.ShloMosaic.PureOps.Ideal

@[expose] public section

noncomputable section

namespace Cert.Proof.Pool

open Idealize.ShloMosaic

/-- The entry `j` positions before position `s`, zero before the first. -/
def back (f : Fin 2048 → EReal) (s j : ℕ) : EReal := if h : j ≤ s ∧ s < 2048 then f ⟨s - j, by omega⟩ else 0

/-- The sum over the last `w` positions up to `s`. -/
def trail (f : Fin 2048 → EReal) (s w : ℕ) : EReal := ∑ j ∈ Finset.range w, back f s j

/-- The trailing sum, with a band of ones. -/
theorem trail_band (f : Fin 2048 → EReal) (s : Fin 2048) (w : ℕ) :
    (∑ t : Fin 2048, (if t.val ≤ s.val ∧ s.val < t.val + w then (1 : EReal) else 0) * f t) = trail f s.val w := by
  induction w with
  | zero =>
    unfold trail
    rw [Finset.range_zero, Finset.sum_empty]
    refine Finset.sum_eq_zero fun t _ => ?_
    rw [if_neg (by omega), zero_mul]
  | succ w ih =>
    have e : ∀ t : Fin 2048, (if t.val ≤ s.val ∧ s.val < t.val + (w + 1) then (1 : EReal) else 0) * f t
        = (if t.val ≤ s.val ∧ s.val < t.val + w then (1 : EReal) else 0) * f t + (if t.val + w = s.val then f t else 0) := fun t => by
      by_cases a : t.val + w = s.val
      · rw [if_pos (by omega), if_neg (by omega), if_pos a, one_mul, zero_mul, zero_add]
      · by_cases b : t.val ≤ s.val ∧ s.val < t.val + w
        · rw [if_pos (by omega), if_pos b, if_neg a, add_zero]
        · rw [if_neg (by omega), if_neg b, if_neg a, add_zero]
    unfold trail at ih ⊢
    rw [Finset.sum_congr rfl fun t _ => e t, Finset.sum_add_distrib, ih, Finset.sum_range_succ]
    refine congrArg _ ?_
    unfold back
    by_cases h : w ≤ s.val
    · rw [dif_pos ⟨h, s.isLt⟩, Finset.sum_eq_single (⟨s.val - w, by omega⟩ : Fin 2048)]
      · exact if_pos (by show s.val - w + w = s.val; omega)
      · intro t _ ne
        exact if_neg fun a => ne (Fin.ext (by show t.val = s.val - w; omega))
      · intro a
        exact (a (Finset.mem_univ _)).elim
    · rw [dif_neg (by omega)]
      exact Finset.sum_eq_zero fun t _ => if_neg (by omega)

/-! A kernel adds a window's rows pair by pair. `e` is the extended block's column, whose row `a` is `T j` where
    `a + j` is the position's row. -/

variable {ι : Type} (e : ι → EReal) (at' : ι → ℕ) (n : ℕ) (T : ℕ → EReal) (h : ∀ a j, at' a + j = n → j < 16 → e a = T j)
include h

theorem two (a0 a1 : ι) (h0 : at' a0 = n) (h1 : at' a1 + 1 = n) : e a0 + e a1 = ∑ j ∈ Finset.range 2, T j := by
  rw [h a0 0 h0 (by omega), h a1 1 h1 (by omega)]
  simp only [Finset.sum_range_succ, Finset.sum_range_zero, zero_add]

theorem four (a0 a1 a2 a3 : ι) (h0 : at' a0 = n) (h1 : at' a1 + 1 = n) (h2 : at' a2 + 2 = n) (h3 : at' a3 + 3 = n) :
    (e a0 + e a1) + (e a2 + e a3) = ∑ j ∈ Finset.range 4, T j := by
  rw [h a0 0 h0 (by omega), h a1 1 h1 (by omega), h a2 2 h2 (by omega), h a3 3 h3 (by omega)]
  simp only [Finset.sum_range_succ, Finset.sum_range_zero, zero_add, add_assoc]

theorem eight (a0 a1 a2 a3 a4 a5 a6 a7 : ι) (h0 : at' a0 = n) (h1 : at' a1 + 1 = n) (h2 : at' a2 + 2 = n) (h3 : at' a3 + 3 = n)
    (h4 : at' a4 + 4 = n) (h5 : at' a5 + 5 = n) (h6 : at' a6 + 6 = n) (h7 : at' a7 + 7 = n) :
    ((e a0 + e a1) + (e a2 + e a3)) + ((e a4 + e a5) + (e a6 + e a7)) = ∑ j ∈ Finset.range 8, T j := by
  rw [h a0 0 h0 (by omega), h a1 1 h1 (by omega), h a2 2 h2 (by omega), h a3 3 h3 (by omega),
    h a4 4 h4 (by omega), h a5 5 h5 (by omega), h a6 6 h6 (by omega), h a7 7 h7 (by omega)]
  simp only [Finset.sum_range_succ, Finset.sum_range_zero, zero_add, add_assoc]

theorem sixteen (a0 a1 a2 a3 a4 a5 a6 a7 a8 a9 a10 a11 a12 a13 a14 a15 : ι)
    (h0 : at' a0 = n) (h1 : at' a1 + 1 = n) (h2 : at' a2 + 2 = n) (h3 : at' a3 + 3 = n)
    (h4 : at' a4 + 4 = n) (h5 : at' a5 + 5 = n) (h6 : at' a6 + 6 = n) (h7 : at' a7 + 7 = n)
    (h8 : at' a8 + 8 = n) (h9 : at' a9 + 9 = n) (h10 : at' a10 + 10 = n) (h11 : at' a11 + 11 = n)
    (h12 : at' a12 + 12 = n) (h13 : at' a13 + 13 = n) (h14 : at' a14 + 14 = n) (h15 : at' a15 + 15 = n) :
    (((e a0 + e a1) + (e a2 + e a3)) + ((e a4 + e a5) + (e a6 + e a7)))
      + (((e a8 + e a9) + (e a10 + e a11)) + ((e a12 + e a13) + (e a14 + e a15))) = ∑ j ∈ Finset.range 16, T j := by
  rw [h a0 0 h0 (by omega), h a1 1 h1 (by omega), h a2 2 h2 (by omega), h a3 3 h3 (by omega),
    h a4 4 h4 (by omega), h a5 5 h5 (by omega), h a6 6 h6 (by omega), h a7 7 h7 (by omega),
    h a8 8 h8 (by omega), h a9 9 h9 (by omega), h a10 10 h10 (by omega), h a11 11 h11 (by omega),
    h a12 12 h12 (by omega), h a13 13 h13 (by omega), h a14 14 h14 (by omega), h a15 15 h15 (by omega)]
  simp only [Finset.sum_range_succ, Finset.sum_range_zero, zero_add, add_assoc]

omit h

/-! The number of positions in a window. -/

/-- How many positions a window of `w` holds at position `s`, as a number. -/
def held (s w : ℕ) : EReal := ((min (s + 1) w : ℕ) : ℝ)

theorem count (b : BitVec 32) (s w : ℕ) (hb : b.toNat = s) (hs : s < 2048) (hw : w ≤ 16) :
    FloatOps.sitofp (F := Ideal) FTy.f32 (IntOp.minsi (b + 1#32) (BitVec.ofNat 32 w)) = held s w := by
  have e : ∀ (v : BitVec 32) (n : ℕ), v.toNat = n → n ≤ 4096 → v.toInt = (n : ℤ) := fun v n hv h => by
    rw [BitVec.toInt_eq_toNat_of_lt (by omega), hv]
  have e1 : (b + 1#32).toInt = ((s + 1 : ℕ) : ℤ) := e _ _ (by rw [BitVec.toNat_add, hb]; simp; omega) (by omega)
  have e2 : (BitVec.ofNat 32 w).toInt = (w : ℤ) := e _ _ (by rw [BitVec.toNat_ofNat]; omega) (by omega)
  have e3 : (IntOp.minsi (b + 1#32) (BitVec.ofNat 32 w)).toInt = ((min (s + 1) w : ℕ) : ℤ) := by
    unfold IntOp.minsi
    simp only [BitVec.slt, BitVec.sle, e1, e2]
    split_ifs with h
    · rw [e1]; simp at h; omega
    · rw [e2]; simp at h; omega
  unfold held
  simp [FloatOps.sitofp, e3]

theorem lit_one : Ideal.ofBits FTy.f32 1065353216#32 = 1 := by
  have h : Ideal.ofBits FTy.f32 1065353216#32 = ((1 : ℝ) : EReal) := by
    simp [Ideal.ofBits, Ideal.ieee, -EReal.coe_mul]; norm_num
  exact h.trans EReal.coe_one

theorem held_pos (s w : ℕ) (hw : 0 < w) : (0 : ℝ) < ((min (s + 1) w : ℕ) : ℝ) := by
  have : 0 < min (s + 1) w := by omega
  exact_mod_cast this

/-- A product with the count's inverse is the quotient by the count. -/
theorem mean (x : EReal) (s w : ℕ) (hw : 0 < w) : x * Ideal.div 1 (held s w) = Ideal.div x (held s w) := by
  have h := held_pos s w hw
  unfold held Ideal.div
  rw [if_neg (by exact_mod_cast h.ne'), if_neg (by exact_mod_cast h.ne'), one_mul]

end Cert.Proof.Pool
end
-- ==== Proof.PoolGroups.lean ====
/-
  The pooling mixer's products, group by group: what each of a grid point's eight stores into its output block holds, over
  the extended rows `E` whose trailing entries are `T`, the normalised rows `N` and the count `n` of a row's window.
-/
module

public import proofs.«01_k».proof.Proof.Gen.Kernel7Ideal.Skeleton
public import proofs.«01_k».proof.Proof.KvqSpec
public import proofs.«01_k».proof.Proof.PoolSpec
public import Idealize.ShloMosaic.Lib.Pointwise

@[expose] public section

set_option maxHeartbeats 2000000

noncomputable section

namespace Cert.Proof.Pool

open Cert.Kernel7Ideal Cert.Kernel7Ideal.Gen
open Idealize.ShloMosaic Idealize.ShloMosaic.TcCoe

/-- A group's entry: the stream, plus the product of the pooled columns with the group's weights, scaled. -/
def mixed (x s n : Fin 512 → EReal) (c : EReal) (w : S1x512x512.Idx → EReal) (g : S1x512.Idx → EReal) (q : Fin 512) : EReal :=
  x q + (∑ k, (s k * Ideal.div 1 c - n k) * w (ix3 0 k q)) * g (ix2 0 q)

/-- The extended rows' entries up to a row are its trailing entries. -/
def Trails (E : S272x2048.Idx → EReal) (T : Fin 2048 → ℕ → EReal) (p : Fin 256) : Prop :=
  ∀ (a : Fin 272) (j : ℕ) (k : Fin 2048), a.val + j = 16 + p.val → j < 16 → E (ix2 a k) = T k j

/-- A row's position counts `n` of a window of `w`. -/
def Counts (P : IVec S256x128 32) (w : BitVec 32) (n : EReal) (p : Fin 256) : Prop :=
  ∀ l : Fin 128, FloatOps.sitofp (F := Ideal) FTy.f32 (IntOp.minsi (IntOp.addi (P (ix2 p l)) 1#32) w) = n

variable (X N : Vec Ideal S256x2048 .f32) (W : Vec Ideal S1x512x512 .bf16) (S : Vec Ideal S1x512 .f32) (p : Fin 256) (q : Fin 512)
  (T : Fin 2048 → ℕ → EReal) (n : EReal)

/-- The last group's first sums, -/
theorem pair16 (E : Vec Ideal S272x2048 .f32) (a : Fin 272) (k : Fin 512) :
    (k0_pay16 (F := Ideal) E (ix2 a k) : EReal) = E (ix2 a ⟨1536 + k.val, by omega⟩) + E (ix2 ⟨(a.val + 272 - 1) % 272, Nat.mod_lt _ (by decide)⟩ ⟨1536 + k.val, by omega⟩) := by
  pointwise [k0_pay16]

/-- … and the same two rows before. -/
theorem pair17 (E : Vec Ideal S272x2048 .f32) (a : Fin 272) (k : Fin 512) :
    (k0_pay17 (F := Ideal) E (ix2 a k) : EReal) = k0_pay16 (F := Ideal) E (ix2 ⟨(a.val + 272 - 2) % 272, Nat.mod_lt _ (by decide)⟩ k) := by
  pointwise [k0_pay17]

/-- The first half's first group. -/
theorem first0 (G : Vec Ideal S1x2048 .f32) (H : Vec Ideal S16x2048 .f32) (i : grid0.Coords) (hE : Trails (k0_pay6 X G H) T p) (hP : Counts (k0_pay8 i) 2#32 n p) :
    (k0_pay11 X N (k0_pay9 X G H) (k0_pay10 i) (FloatOps.ofBits FTy.f32 1065353216#32) W S (ix2 p q) : EReal)
      = mixed (fun k => X (ix2 p ⟨0 + k.val, by omega⟩)) (fun k => ∑ j ∈ Finset.range 2, T ⟨0 + k.val, by omega⟩ j)
          (fun k => N (ix2 p ⟨0 + k.val, by omega⟩)) n W S q := by
  unfold mixed
  pointwise [k0_pay11, k0_pay9, k0_pay10]
  try simp only [Nat.zero_add]
  simp only [show ∀ l, FloatOps.sitofp (F := Ideal) FTy.f32 (IntOp.minsi (IntOp.addi ((k0_pay8 i) (ix2 p l)) 1#32) 2#32) = n from hP, dite_eq_ite, ite_self]
  refine congrArg (fun z : EReal => _ + z * _) (Finset.sum_congr (M := EReal) rfl fun k _ => congrArg (fun z : EReal => (z * _ - _) * _) ?_)
  refine two (fun a : Fin 272 => ((k0_pay6 X G H) (ix2 a ⟨k.val, by omega⟩) : EReal)) (fun a => a.val) (16 + p.val) _ (fun a j h hj => hE a j _ h hj) _ _ ?_ ?_
  all_goals (dsimp only; try omega)

/-- Its second group. -/
theorem first1 (E : Vec Ideal S272x2048 .f32) (P : IVec S256x128 32) (hE : Trails E T p) (hP : Counts P 4#32 n p) :
    (k0_pay14 (k0_pay12 N E P W) (k0_pay13 X) S (ix2 p q) : EReal)
      = mixed (fun k => X (ix2 p ⟨512 + k.val, by omega⟩)) (fun k => ∑ j ∈ Finset.range 4, T ⟨512 + k.val, by omega⟩ j)
          (fun k => N (ix2 p ⟨512 + k.val, by omega⟩)) n W S q := by
  unfold mixed
  pointwise [k0_pay12, k0_pay13, k0_pay14]
  try simp only [Nat.zero_add]
  simp only [show ∀ l, FloatOps.sitofp (F := Ideal) FTy.f32 (IntOp.minsi (IntOp.addi (P (ix2 p l)) 1#32) 4#32) = n from hP, dite_eq_ite, ite_self]
  refine congrArg (fun z : EReal => _ + z * _) (Finset.sum_congr (M := EReal) rfl fun k _ => congrArg (fun z : EReal => (z * _ - _) * _) ?_)
  refine four (fun a : Fin 272 => (E (ix2 a ⟨512 + k.val, by omega⟩) : EReal)) (fun a => a.val) (16 + p.val) _ (fun a j h hj => hE a j _ h hj) _ _ _ _ ?_ ?_ ?_ ?_
  all_goals (dsimp only; try omega)

/-- Its third group. -/
theorem first2 (E : Vec Ideal S272x2048 .f32) (P : IVec S256x128 32) (hE : Trails E T p) (hP : Counts P 8#32 n p) :
    (k0_pay15 X N E P W S (ix2 p q) : EReal)
      = mixed (fun k => X (ix2 p ⟨1024 + k.val, by omega⟩)) (fun k => ∑ j ∈ Finset.range 8, T ⟨1024 + k.val, by omega⟩ j)
          (fun k => N (ix2 p ⟨1024 + k.val, by omega⟩)) n W S q := by
  unfold mixed
  pointwise [k0_pay15]
  try simp only [Nat.zero_add]
  simp only [show ∀ l, FloatOps.sitofp (F := Ideal) FTy.f32 (IntOp.minsi (IntOp.addi (P (ix2 p l)) 1#32) 8#32) = n from hP, dite_eq_ite, ite_self]
  refine congrArg (fun z : EReal => _ + z * _) (Finset.sum_congr (M := EReal) rfl fun k _ => congrArg (fun z : EReal => (z * _ - _) * _) ?_)
  refine eight (fun a : Fin 272 => (E (ix2 a ⟨1024 + k.val, by omega⟩) : EReal)) (fun a => a.val) (16 + p.val) _ (fun a j h hj => hE a j _ h hj) _ _ _ _ _ _ _ _ ?_ ?_ ?_ ?_ ?_ ?_ ?_ ?_
  all_goals (dsimp only; try omega)

/-- Its last group. -/
theorem first3 (E : Vec Ideal S272x2048 .f32) (P : IVec S256x128 32) (hE : Trails E T p) (hP : Counts P 16#32 n p) :
    (k0_pay18 X N P (k0_pay16 E) (k0_pay17 E) W S (ix2 p q) : EReal)
      = mixed (fun k => X (ix2 p ⟨1536 + k.val, by omega⟩)) (fun k => ∑ j ∈ Finset.range 16, T ⟨1536 + k.val, by omega⟩ j)
          (fun k => N (ix2 p ⟨1536 + k.val, by omega⟩)) n W S q := by
  unfold mixed
  pointwise [k0_pay18]
  simp only [pair17, pair16]
  try simp only [Nat.zero_add]
  simp only [show ∀ l, FloatOps.sitofp (F := Ideal) FTy.f32 (IntOp.minsi (IntOp.addi (P (ix2 p l)) 1#32) 16#32) = n from hP, dite_eq_ite, ite_self]
  refine congrArg (fun z : EReal => _ + z * _) (Finset.sum_congr (M := EReal) rfl fun k _ => congrArg (fun z : EReal => (z * _ - _) * _) ?_)
  refine sixteen (fun a : Fin 272 => (E (ix2 a ⟨1536 + k.val, by omega⟩) : EReal)) (fun a => a.val) (16 + p.val) _ (fun a j h hj => hE a j _ h hj) _ _ _ _ _ _ _ _ _ _ _ _ _ _ _ _ ?_ ?_ ?_ ?_ ?_ ?_ ?_ ?_ ?_ ?_ ?_ ?_ ?_ ?_ ?_ ?_
  all_goals (dsimp only; try omega)

/-- The second half's first group. -/
theorem second0 (G : Vec Ideal S1x2048 .f32) (H : Vec Ideal S16x2048 .f32) (b : BitVec 32) (hE : Trails (k0_pay63 X G H) T p) (hP : Counts (k0_pay65 b) 2#32 n p) :
    (k0_pay68 X N (k0_pay66 X G H) (k0_pay67 b) 2#32 W S (ix2 p q) : EReal)
      = mixed (fun k => X (ix2 p ⟨0 + k.val, by omega⟩)) (fun k => ∑ j ∈ Finset.range 2, T ⟨0 + k.val, by omega⟩ j)
          (fun k => N (ix2 p ⟨0 + k.val, by omega⟩)) n W S q := by
  unfold mixed
  pointwise [k0_pay68, k0_pay66, k0_pay67]
  try simp only [Nat.zero_add]
  simp only [show ∀ l, FloatOps.sitofp (F := Ideal) FTy.f32 (IntOp.minsi (IntOp.addi ((k0_pay65 b) (ix2 p l)) 1#32) 2#32) = n from hP, dite_eq_ite, ite_self]
  refine congrArg (fun z : EReal => _ + z * _) (Finset.sum_congr (M := EReal) rfl fun k _ => congrArg (fun z : EReal => (z * _ - _) * _) ?_)
  refine two (fun a : Fin 272 => ((k0_pay63 X G H) (ix2 a ⟨k.val, by omega⟩) : EReal)) (fun a => a.val) (16 + p.val) _ (fun a j h hj => hE a j _ h hj) _ _ ?_ ?_
  all_goals (dsimp only; try omega)

/-- Its second group. -/
theorem second1 (E : Vec Ideal S272x2048 .f32) (P : IVec S256x128 32) (hE : Trails E T p) (hP : Counts P 4#32 n p) :
    (k0_pay71 X (k0_pay69 N E P) (k0_pay70 W) (constant S256x512 FTy.f32 0#32) S (ix2 p q) : EReal)
      = mixed (fun k => X (ix2 p ⟨512 + k.val, by omega⟩)) (fun k => ∑ j ∈ Finset.range 4, T ⟨512 + k.val, by omega⟩ j)
          (fun k => N (ix2 p ⟨512 + k.val, by omega⟩)) n W S q :=
  (congrFun (show k0_pay71 X (k0_pay69 N E P) (k0_pay70 W) (constant S256x512 FTy.f32 0#32) S = k0_pay14 (k0_pay12 N E P W) (k0_pay13 X) S from rfl) (ix2 p q)).trans (first1 X N W S p q T n E P hE hP)

/-- Its third group. -/
theorem second2 (E : Vec Ideal S272x2048 .f32) (P : IVec S256x128 32) (hE : Trails E T p) (hP : Counts P 8#32 n p) :
    (k0_pay72 X N E P W S (ix2 p q) : EReal)
      = mixed (fun k => X (ix2 p ⟨1024 + k.val, by omega⟩)) (fun k => ∑ j ∈ Finset.range 8, T ⟨1024 + k.val, by omega⟩ j)
          (fun k => N (ix2 p ⟨1024 + k.val, by omega⟩)) n W S q :=
  (congrFun (show k0_pay72 X N E P W S = k0_pay15 X N E P W S from rfl) (ix2 p q)).trans (first2 X N W S p q T n E P hE hP)

/-- Its last group. -/
theorem second3 (E : Vec Ideal S272x2048 .f32) (P : IVec S256x128 32) (hE : Trails E T p) (hP : Counts P 16#32 n p) :
    (k0_pay74 X N P (k0_pay73 E) 1#32 W S (ix2 p q) : EReal)
      = mixed (fun k => X (ix2 p ⟨1536 + k.val, by omega⟩)) (fun k => ∑ j ∈ Finset.range 16, T ⟨1536 + k.val, by omega⟩ j)
          (fun k => N (ix2 p ⟨1536 + k.val, by omega⟩)) n W S q :=
  (congrFun (show k0_pay74 X N P (k0_pay73 E) 1#32 W S = k0_pay18 X N P (k0_pay16 E) (k0_pay17 E) W S from rfl) (ix2 p q)).trans (first3 X N W S p q T n E P hE hP)

end Cert.Proof.Pool
end
-- ==== Proof.PoolBlock.lean ====
/-
  What one grid point of the pooling mixer leaves in its output block and in its scratch, over the normalised rows: the
  scratch holds the last rows of the point before, or zeros at a sequence's start.
-/
module

public import proofs.«01_k».proof.Proof.Gen.Kernel7Ideal.Frame
public import proofs.«01_k».proof.Proof.PoolGroups
public import Idealize.ShloMosaic.Lib.Pipeline.ValueKit
public import Idealize.ShloMosaic.Lib.Pipeline.ReadBack

@[expose] public section

noncomputable section

namespace Cert.Proof.Pool

open Cert.Kernel7Ideal Cert.Kernel7Ideal.Gen Cert.Proof.Kvq
open Idealize.ShloMosaic Idealize.ShloMosaic.TcCoe

/-- A block's row, normalised. -/
theorem row_norm (X : Vec Ideal S256x2048 .f32) (G : Vec Ideal S1x2048 .f32) (p : Fin 256) (k : Fin 2048) :
    (k0_pay5 X G (ix2 p k) : EReal) = rowNorm (fun k => (X : S256x2048.Idx → EReal) (ix2 p k)) (fun k => (G : S1x2048.Idx → EReal) (ix2 0 k)) k := by
  unfold rowNorm invRms
  pointwise [k0_pay5]

/-- The rows that a half hands on are its last. -/
theorem handed (X : Vec Ideal S256x2048 .f32) (G : Vec Ideal S1x2048 .f32) (f : Fin 2048 → Fin 2048 → EReal) (s : ℕ) (hs : s + 256 < 2048)
    (hN : ∀ (a : Fin 256) k, (k0_pay5 X G (ix2 a k) : EReal) = f k ⟨s + a.val, by omega⟩) (a : Fin 16) (k : Fin 2048) :
    (k0_pay7 X G (ix2 a k) : EReal) = back (f k) (s + 256) (16 - a.val) := by
  have e : (k0_pay7 X G (ix2 a k) : EReal) = k0_pay5 X G (ix2 ⟨240 + a.val, by omega⟩ k) := by pointwise [k0_pay7]
  rw [e, hN]
  unfold back
  rw [dif_pos (by omega)]
  exact congrArg (f k) (Fin.ext (by dsimp only; omega))

/-- The extended rows hold the trailing entries. -/
theorem trails (X : Vec Ideal S256x2048 .f32) (G : Vec Ideal S1x2048 .f32) (H : Vec Ideal S16x2048 .f32) (f : Fin 2048 → Fin 2048 → EReal)
    (s : ℕ) (hs : s + 256 ≤ 2048) (hN : ∀ (a : Fin 256) k, (k0_pay5 X G (ix2 a k) : EReal) = f k ⟨s + a.val, by omega⟩)
    (hH : ∀ (a : Fin 16) k, (H (ix2 a k) : EReal) = back (f k) s (16 - a.val)) (p : Fin 256) :
    Trails (k0_pay6 X G H) (fun k j => back (f k) (s + p.val) j) p := by
  intro a j k ha hj
  have e : (k0_pay6 X G H (ix2 a k) : EReal) = if h : a.val < 16 then H (ix2 ⟨a.val, h⟩ k) else k0_pay5 X G (ix2 ⟨a.val - 16, by omega⟩ k) := by
    pointwise [k0_pay6]
  rw [e]
  show _ = back (f k) (s + p.val) j
  by_cases h : a.val < 16
  · rw [dif_pos h, hH]
    show back (f k) s (16 - a.val) = _
    unfold back
    by_cases b : j ≤ s + p.val
    · rw [dif_pos (by omega), dif_pos (by omega)]
      exact congrArg (f k) (Fin.ext (by dsimp only; omega))
    · rw [dif_neg (by omega), dif_neg (by omega)]
  · rw [dif_neg h, hN]
    unfold back
    rw [dif_pos (by omega)]
    exact congrArg (f k) (Fin.ext (by dsimp only; omega))

/-- The first half's positions, -/
theorem counts_first (i : grid0.Coords) (s w : ℕ) (e : (i 1).val * 512 = s) (hs : s + 512 ≤ 2048) (hw : w ≤ 16) (p : Fin 256) :
    Counts (k0_pay8 i) (BitVec.ofNat 32 w) (held (s + p.val) w) p := fun l => by
  have h : k0_pay8 i (ix2 p l) = IntOp.addi (Scalar.addi (Scalar.muli (BitVec.ofNat 32 (i 1).val) 512#32) 0#32) (BitVec.ofNat 32 p.val) := by
    pointwise [k0_pay8]
  refine count _ (s + p.val) w ?_ (by omega) hw
  rw [h]
  simp [IntOp.addi, Scalar.addi, Scalar.muli, IntOp.muli, BitVec.toNat_add, BitVec.toNat_mul]
  omega

/-- … and the second half's. -/
theorem counts_second (b : BitVec 32) (n s w : ℕ) (hb : b = BitVec.ofNat 32 n) (e : n * 512 = s) (hs : s + 512 ≤ 2048) (hw : w ≤ 16) (p : Fin 256) :
    Counts (k0_pay65 b) (BitVec.ofNat 32 w) (held (s + 256 + p.val) w) p := fun l => by
  have h : k0_pay65 b (ix2 p l) = IntOp.addi (Scalar.addi (Scalar.muli b 512#32) 256#32) (BitVec.ofNat 32 p.val) := by
    pointwise [k0_pay65]
  refine count _ (s + 256 + p.val) w ?_ (by omega) hw
  rw [h, hb]
  simp [IntOp.addi, Scalar.addi, Scalar.muli, IntOp.muli, BitVec.toNat_add, BitVec.toNat_mul]
  omega

/-- An entry of a block that starts at position `s`: the stream, plus the product of the pooled columns with the group's
    weights, scaled. -/
def entry (x : S512x2048.Idx → EReal) (f : Fin 2048 → Fin 2048 → EReal) (s : ℕ) (hs : s + 512 ≤ 2048) (pw : S4x512x512.Idx → EReal)
    (ps : S1x2048.Idx → EReal) (a : Fin 512) (g : Fin 4) (q : Fin 512) : EReal :=
  x (ix2 a ⟨512 * g.val + q.val, by omega⟩)
    + (∑ k : Fin 512, (trail (f ⟨512 * g.val + k.val, by omega⟩) (s + a.val) (2 ^ (g.val + 1)) * Ideal.div 1 (held (s + a.val) (2 ^ (g.val + 1)))
        - f ⟨512 * g.val + k.val, by omega⟩ ⟨s + a.val, by omega⟩) * pw (ix3 g k q)) * ps (ix2 0 ⟨512 * g.val + q.val, by omega⟩)

theorem mixed_entry (x : S512x2048.Idx → EReal) (f : Fin 2048 → Fin 2048 → EReal) (s : ℕ) (hs : s + 512 ≤ 2048) (pw : S4x512x512.Idx → EReal)
    (ps : S1x2048.Idx → EReal) (a : Fin 512) (g : Fin 4) (q : Fin 512) (o w r : ℕ) (ho : o = 512 * g.val) (hw : w = 2 ^ (g.val + 1)) (hr : r = s + a.val)
    (X N : S256x2048.Idx → EReal) (W : S1x512x512.Idx → EReal) (S : S1x512.Idx → EReal) (p : Fin 256)
    (hX : ∀ k, X (ix2 p k) = x (ix2 a k)) (hN : ∀ k, N (ix2 p k) = f k ⟨s + a.val, by omega⟩) (hW : ∀ k, W (ix3 0 k q) = pw (ix3 g k q))
    (hS : S (ix2 0 q) = ps (ix2 0 ⟨512 * g.val + q.val, by omega⟩)) :
    mixed (fun k => X (ix2 p ⟨o + k.val, by omega⟩)) (fun k => ∑ j ∈ Finset.range w, back (f ⟨o + k.val, by omega⟩) r j)
      (fun k => N (ix2 p ⟨o + k.val, by omega⟩)) (held r w) W S q = entry x f s hs pw ps a g q := by
  subst ho hw hr
  unfold mixed entry trail
  simp only [hX, hN, hW, hS]

section

variable (x : S512x2048.Idx → EReal) (f : Fin 2048 → Fin 2048 → EReal) (s : ℕ) (hs : s + 512 ≤ 2048) (pw : S4x512x512.Idx → EReal)
  (ps : S1x2048.Idx → EReal) (G : Vec Ideal S1x2048 .f32) (X0 X1 : Vec Ideal S256x2048 .f32) (H : Vec Ideal S16x2048 .f32)
  (hX0 : ∀ (p : Fin 256) k, (X0 (ix2 p k) : EReal) = x (ix2 ⟨p.val, by omega⟩ k))
  (hX1 : ∀ (p : Fin 256) k, (X1 (ix2 p k) : EReal) = x (ix2 ⟨256 + p.val, by omega⟩ k))
  (hN0 : ∀ (a : Fin 256) k, (k0_pay5 X0 G (ix2 a k) : EReal) = f k ⟨s + a.val, by omega⟩)
  (hN1 : ∀ (a : Fin 256) k, (k0_pay5 X1 G (ix2 a k) : EReal) = f k ⟨s + 256 + a.val, by omega⟩)
  (hH : ∀ (a : Fin 16) k, (H (ix2 a k) : EReal) = back (f k) s (16 - a.val))
  (W : Vec Ideal S1x512x512 .bf16) (S : Vec Ideal S1x512 .f32) (i : grid0.Coords) (hi : (i 1).val * 512 = s) (p : Fin 256) (q : Fin 512)

include hX0 hN0 hH hi in
theorem first0_entry (hW : ∀ k, (W (ix3 0 k q) : EReal) = pw (ix3 0 k q)) (hS : (S (ix2 0 q) : EReal) = ps (ix2 0 ⟨512 * (0 : Fin 4).val + q.val, by omega⟩)) :
    (k0_pay11 X0 (k0_pay5 X0 G) (k0_pay9 X0 G H) (k0_pay10 i) (FloatOps.ofBits FTy.f32 1065353216#32) W S (ix2 p q) : EReal) = entry x f s hs pw ps ⟨p.val, by omega⟩ 0 q :=
  (first0 X0 (k0_pay5 X0 G) W S p q (fun k j => back (f k) (s + p.val) j) (held (s + p.val) 2) G H i (trails X0 G H f s (by omega) hN0 hH p) (counts_first i s 2 hi hs (by omega) p)).trans
    (mixed_entry x f s hs pw ps ⟨p.val, by omega⟩ 0 q 0 2 (s + p.val) rfl rfl rfl X0 (k0_pay5 X0 G) W S p (fun k => hX0 p k) (fun k => hN0 p k) hW hS)

include hX0 hN0 hH hi in
theorem first1_entry (hW : ∀ k, (W (ix3 0 k q) : EReal) = pw (ix3 1 k q)) (hS : (S (ix2 0 q) : EReal) = ps (ix2 0 ⟨512 * (1 : Fin 4).val + q.val, by omega⟩)) :
    (k0_pay14 (k0_pay12 (k0_pay5 X0 G) (k0_pay6 X0 G H) (k0_pay8 i) W) (k0_pay13 X0) S (ix2 p q) : EReal) = entry x f s hs pw ps ⟨p.val, by omega⟩ 1 q :=
  (first1 X0 (k0_pay5 X0 G) W S p q (fun k j => back (f k) (s + p.val) j) (held (s + p.val) 4) (k0_pay6 X0 G H) (k0_pay8 i) (trails X0 G H f s (by omega) hN0 hH p) (counts_first i s 4 hi hs (by omega) p)).trans
    (mixed_entry x f s hs pw ps ⟨p.val, by omega⟩ 1 q 512 4 (s + p.val) rfl rfl rfl X0 (k0_pay5 X0 G) W S p (fun k => hX0 p k) (fun k => hN0 p k) hW hS)

include hX0 hN0 hH hi in
theorem first2_entry (hW : ∀ k, (W (ix3 0 k q) : EReal) = pw (ix3 2 k q)) (hS : (S (ix2 0 q) : EReal) = ps (ix2 0 ⟨512 * (2 : Fin 4).val + q.val, by omega⟩)) :
    (k0_pay15 X0 (k0_pay5 X0 G) (k0_pay6 X0 G H) (k0_pay8 i) W S (ix2 p q) : EReal) = entry x f s hs pw ps ⟨p.val, by omega⟩ 2 q :=
  (first2 X0 (k0_pay5 X0 G) W S p q (fun k j => back (f k) (s + p.val) j) (held (s + p.val) 8) (k0_pay6 X0 G H) (k0_pay8 i) (trails X0 G H f s (by omega) hN0 hH p) (counts_first i s 8 hi hs (by omega) p)).trans
    (mixed_entry x f s hs pw ps ⟨p.val, by omega⟩ 2 q 1024 8 (s + p.val) rfl rfl rfl X0 (k0_pay5 X0 G) W S p (fun k => hX0 p k) (fun k => hN0 p k) hW hS)

include hX0 hN0 hH hi in
theorem first3_entry (hW : ∀ k, (W (ix3 0 k q) : EReal) = pw (ix3 3 k q)) (hS : (S (ix2 0 q) : EReal) = ps (ix2 0 ⟨512 * (3 : Fin 4).val + q.val, by omega⟩)) :
    (k0_pay18 X0 (k0_pay5 X0 G) (k0_pay8 i) (k0_pay16 (k0_pay6 X0 G H)) (k0_pay17 (k0_pay6 X0 G H)) W S (ix2 p q) : EReal) = entry x f s hs pw ps ⟨p.val, by omega⟩ 3 q :=
  (first3 X0 (k0_pay5 X0 G) W S p q (fun k j => back (f k) (s + p.val) j) (held (s + p.val) 16) (k0_pay6 X0 G H) (k0_pay8 i) (trails X0 G H f s (by omega) hN0 hH p) (counts_first i s 16 hi hs (by omega) p)).trans
    (mixed_entry x f s hs pw ps ⟨p.val, by omega⟩ 3 q 1536 16 (s + p.val) rfl rfl rfl X0 (k0_pay5 X0 G) W S p (fun k => hX0 p k) (fun k => hN0 p k) hW hS)

include hX1 hN0 hN1 hi in
theorem second0_entry (hW : ∀ k, (W (ix3 0 k q) : EReal) = pw (ix3 0 k q)) (hS : (S (ix2 0 q) : EReal) = ps (ix2 0 ⟨512 * (0 : Fin 4).val + q.val, by omega⟩)) :
    (k0_pay68 X1 (k0_pay62 X1 G) (k0_pay66 X1 G (k0_pay7 X0 G)) (k0_pay67 (BitVec.ofNat 32 ↑(i 1))) 2#32 W S (ix2 p q) : EReal) = entry x f s hs pw ps ⟨256 + p.val, by omega⟩ 0 q :=
  (second0 X1 (k0_pay62 X1 G) W S p q (fun k j => back (f k) (s + 256 + p.val) j) (held (s + 256 + p.val) 2) G (k0_pay7 X0 G) (BitVec.ofNat 32 ↑(i 1)) (trails X1 G (k0_pay7 X0 G) f (s + 256) (by omega) hN1 (handed X0 G f s (by omega) hN0) p) (counts_second (BitVec.ofNat 32 ↑(i 1)) (i 1).val s 2 rfl hi hs (by omega) p)).trans
    (mixed_entry x f s hs pw ps ⟨256 + p.val, by omega⟩ 0 q 0 2 (s + 256 + p.val) rfl rfl (by show s + 256 + p.val = s + (256 + p.val); omega) X1 (k0_pay62 X1 G) W S p (fun k => hX1 p k) (fun k => (hN1 p k).trans (congrArg (f k) (Fin.ext (by show s + 256 + p.val = s + (256 + p.val); omega)))) hW hS)

include hX1 hN0 hN1 hi in
theorem second1_entry (hW : ∀ k, (W (ix3 0 k q) : EReal) = pw (ix3 1 k q)) (hS : (S (ix2 0 q) : EReal) = ps (ix2 0 ⟨512 * (1 : Fin 4).val + q.val, by omega⟩)) :
    (k0_pay71 X1 (k0_pay69 (k0_pay62 X1 G) (k0_pay63 X1 G (k0_pay7 X0 G)) (k0_pay65 (BitVec.ofNat 32 ↑(i 1)))) (k0_pay70 W) (constant S256x512 FTy.f32 0#32) S (ix2 p q) : EReal) = entry x f s hs pw ps ⟨256 + p.val, by omega⟩ 1 q :=
  (second1 X1 (k0_pay62 X1 G) W S p q (fun k j => back (f k) (s + 256 + p.val) j) (held (s + 256 + p.val) 4) (k0_pay63 X1 G (k0_pay7 X0 G)) (k0_pay65 (BitVec.ofNat 32 ↑(i 1))) (trails X1 G (k0_pay7 X0 G) f (s + 256) (by omega) hN1 (handed X0 G f s (by omega) hN0) p) (counts_second (BitVec.ofNat 32 ↑(i 1)) (i 1).val s 4 rfl hi hs (by omega) p)).trans
    (mixed_entry x f s hs pw ps ⟨256 + p.val, by omega⟩ 1 q 512 4 (s + 256 + p.val) rfl rfl (by show s + 256 + p.val = s + (256 + p.val); omega) X1 (k0_pay62 X1 G) W S p (fun k => hX1 p k) (fun k => (hN1 p k).trans (congrArg (f k) (Fin.ext (by show s + 256 + p.val = s + (256 + p.val); omega)))) hW hS)

include hX1 hN0 hN1 hi in
theorem second2_entry (hW : ∀ k, (W (ix3 0 k q) : EReal) = pw (ix3 2 k q)) (hS : (S (ix2 0 q) : EReal) = ps (ix2 0 ⟨512 * (2 : Fin 4).val + q.val, by omega⟩)) :
    (k0_pay72 X1 (k0_pay62 X1 G) (k0_pay63 X1 G (k0_pay7 X0 G)) (k0_pay65 (BitVec.ofNat 32 ↑(i 1))) W S (ix2 p q) : EReal) = entry x f s hs pw ps ⟨256 + p.val, by omega⟩ 2 q :=
  (second2 X1 (k0_pay62 X1 G) W S p q (fun k j => back (f k) (s + 256 + p.val) j) (held (s + 256 + p.val) 8) (k0_pay63 X1 G (k0_pay7 X0 G)) (k0_pay65 (BitVec.ofNat 32 ↑(i 1))) (trails X1 G (k0_pay7 X0 G) f (s + 256) (by omega) hN1 (handed X0 G f s (by omega) hN0) p) (counts_second (BitVec.ofNat 32 ↑(i 1)) (i 1).val s 8 rfl hi hs (by omega) p)).trans
    (mixed_entry x f s hs pw ps ⟨256 + p.val, by omega⟩ 2 q 1024 8 (s + 256 + p.val) rfl rfl (by show s + 256 + p.val = s + (256 + p.val); omega) X1 (k0_pay62 X1 G) W S p (fun k => hX1 p k) (fun k => (hN1 p k).trans (congrArg (f k) (Fin.ext (by show s + 256 + p.val = s + (256 + p.val); omega)))) hW hS)

include hX1 hN0 hN1 hi in
theorem second3_entry (hW : ∀ k, (W (ix3 0 k q) : EReal) = pw (ix3 3 k q)) (hS : (S (ix2 0 q) : EReal) = ps (ix2 0 ⟨512 * (3 : Fin 4).val + q.val, by omega⟩)) :
    (k0_pay74 X1 (k0_pay62 X1 G) (k0_pay65 (BitVec.ofNat 32 ↑(i 1))) (k0_pay73 (k0_pay63 X1 G (k0_pay7 X0 G))) 1#32 W S (ix2 p q) : EReal) = entry x f s hs pw ps ⟨256 + p.val, by omega⟩ 3 q :=
  (second3 X1 (k0_pay62 X1 G) W S p q (fun k j => back (f k) (s + 256 + p.val) j) (held (s + 256 + p.val) 16) (k0_pay63 X1 G (k0_pay7 X0 G)) (k0_pay65 (BitVec.ofNat 32 ↑(i 1))) (trails X1 G (k0_pay7 X0 G) f (s + 256) (by omega) hN1 (handed X0 G f s (by omega) hN0) p) (counts_second (BitVec.ofNat 32 ↑(i 1)) (i 1).val s 16 rfl hi hs (by omega) p)).trans
    (mixed_entry x f s hs pw ps ⟨256 + p.val, by omega⟩ 3 q 1536 16 (s + 256 + p.val) rfl rfl (by show s + 256 + p.val = s + (256 + p.val); omega) X1 (k0_pay62 X1 G) W S p (fun k => hX1 p k) (fun k => (hN1 p k).trans (congrArg (f k) (Fin.ext (by show s + 256 + p.val = s + (256 + p.val); omega)))) hW hS)

theorem entry_congr (a a' : Fin 512) (g g' : Fin 4) (q q' : Fin 512) (ha : a = a') (hg : g = g') (hq : q = q') :
    entry x f s hs pw ps a g q = entry x f s hs pw ps a' g' q' := by
  subst ha hg hq
  rfl

end

theorem half_first (x : Vec Ideal S512x2048 .f32) (h) (p : Fin 256) (k : Fin 2048) :
    (View.ld x (Rect.unit (s := S512x2048) ![0, 0] ![256, 2048] h) (ix2 p k) : EReal) = x (ix2 ⟨p.val, by omega⟩ k) :=
  View.ld_unit_apply_of x ![0, 0] ![256, 2048] h (ix2 p k) (ix2 ⟨p.val, by omega⟩ k) fun a => by
    fin_cases a <;> exact (Nat.zero_add _).symm

theorem half_second (x : Vec Ideal S512x2048 .f32) (h) (p : Fin 256) (k : Fin 2048) :
    (View.ld x (Rect.unit (s := S512x2048) ![256, 0] ![256, 2048] h) (ix2 p k) : EReal) = x (ix2 ⟨256 + p.val, by omega⟩ k) :=
  View.ld_unit_apply_of x ![256, 0] ![256, 2048] h (ix2 p k) (ix2 ⟨256 + p.val, by omega⟩ k) fun a => by
    fin_cases a <;> first | rfl | exact (Nat.zero_add _).symm

theorem weights (w : Vec Ideal S4x512x512 .bf16) (g : Fin 4) (n : ℕ) (hn : n = g.val) (h) (k q : Fin 512) :
    (View.ld w (Rect.unit (s := S4x512x512) ![n, 0, 0] ![1, 512, 512] h) (ix3 0 k q) : EReal) = w (ix3 g k q) :=
  View.ld_unit_apply_of w ![n, 0, 0] ![1, 512, 512] h (ix3 0 k q) (ix3 g k q) fun a => by
    subst hn
    fin_cases a <;> first | rfl | exact (Nat.zero_add _).symm

theorem scales (w : Vec Ideal S1x2048 .f32) (g : Fin 4) (n : ℕ) (hn : n = 512 * g.val) (h) (q : Fin 512) :
    (View.ld w (Rect.unit (s := S1x2048) ![0, n] ![1, 512] h) (ix2 0 q) : EReal) = w (ix2 0 ⟨512 * g.val + q.val, by omega⟩) :=
  View.ld_unit_apply_of w ![0, n] ![1, 512] h (ix2 0 q) (ix2 0 ⟨512 * g.val + q.val, by omega⟩) fun a => by
    subst hn
    fin_cases a <;> first | rfl | exact (Nat.zero_add _).symm

section

variable (x : Vec Ideal S512x2048 .f32) (G : Vec Ideal S1x2048 .f32) (f : Fin 2048 → Fin 2048 → EReal) (s : ℕ) (hs : s + 512 ≤ 2048)
  (hN : ∀ (a : Fin 512) k, rowNorm (fun k => (x : S512x2048.Idx → EReal) (ix2 a k)) (fun k => (G : S1x2048.Idx → EReal) (ix2 0 k)) k
    = f k ⟨s + a.val, by omega⟩)
include hN

theorem norm_first (h) (a : Fin 256) (k : Fin 2048) :
    (k0_pay5 (View.ld x (Rect.unit (s := S512x2048) ![0, 0] ![256, 2048] h)) G (ix2 a k) : EReal) = f k ⟨s + a.val, by omega⟩ := by
  refine (row_norm _ _ a k).trans (Eq.trans ?_ (hN ⟨a.val, by omega⟩ k))
  exact congrArg (fun z => rowNorm z _ k) (funext fun k => half_first x h a k)

theorem norm_second (h) (a : Fin 256) (k : Fin 2048) :
    (k0_pay5 (View.ld x (Rect.unit (s := S512x2048) ![256, 0] ![256, 2048] h)) G (ix2 a k) : EReal) = f k ⟨s + 256 + a.val, by omega⟩ := by
  refine (row_norm _ _ a k).trans (Eq.trans ?_ ((hN ⟨256 + a.val, by omega⟩ k).trans
    (congrArg (f k) (Fin.ext (by show s + (256 + a.val) = s + 256 + a.val; omega)))))
  exact congrArg (fun z => rowNorm z _ k) (funext fun k => half_second x h a k)

end

variable (m : (ℓ : Loc nD τ sig) → Buf (Elt Ideal) ℓ) (c : Dev nD) (t : Fin cfg0.N)

variable (f : Fin 2048 → Fin 2048 → EReal) (s : ℕ) (hs : s + 512 ≤ 2048)
  (hN : ∀ (a : Fin 512) k, rowNorm (fun k => (iblk m c 0 t : S512x2048.Idx → EReal) (ix2 a k)) (fun k => (iblk m c 1 t : S1x2048.Idx → EReal) (ix2 0 k)) k
    = f k ⟨s + a.val, by omega⟩)

variable (hi : (grid0.coords t 1).val * 512 = s)

/-- Before a sequence's start there are zeros. -/
theorem start_zero (f : Fin 2048 → Fin 2048 → EReal) (s : ℕ) (hz : s = 0) (a : Fin 16) (k : Fin 2048) :
    (k0_pay4 (F := Ideal) (ix2 a k) : EReal) = back (f k) s (16 - a.val) := by
  unfold back
  rw [dif_neg (by omega)]
  pointwise [k0_pay4]

include hi hN in
/-- A sequence's first block. -/
theorem out_A (h0 : t.val % 4 = 0) (hz : s = 0) (y : S512x2048.Idx) (g : Fin 4) (q : Fin 512) (hy : (y 1).val = 512 * g.val + q.val) :
    ((outsAt0 m c t.val t.isLt).1 y : EReal) = entry (iblk m c 0 t) f s hs (iblk m c 2 t) (iblk m c 3 t) (y 0) g q := by
  rw [outsAt0_A m c t h0]
  frame_out
  canon_tiles x h
  all_goals rw [eq_ix2 x]
  case' piece0 =>
    refine (second3_entry (iblk m c 0 t) f s hs (iblk m c 2 t) (iblk m c 3 t) _ _ _ (half_second _ _) (norm_first (iblk m c 0 t) (iblk m c 1 t) f s hs hN _) (norm_second (iblk m c 0 t) (iblk m c 1 t) f s hs hN _) _ _ (grid0.coords t) hi (x 0) (x 1)
      (fun k => weights _ 3 3 rfl _ k _) (scales _ 3 1536 rfl _ _)).trans (entry_congr _ _ _ _ _ _ _ _ _ _ _ _ (Fin.ext (by show _ = (y 0).val; simp only []; omega)) (Fin.ext (by show 3 = g.val; omega)) (Fin.ext (by omega)))
  case' piece1 =>
    refine (second2_entry (iblk m c 0 t) f s hs (iblk m c 2 t) (iblk m c 3 t) _ _ _ (half_second _ _) (norm_first (iblk m c 0 t) (iblk m c 1 t) f s hs hN _) (norm_second (iblk m c 0 t) (iblk m c 1 t) f s hs hN _) _ _ (grid0.coords t) hi (x 0) (x 1)
      (fun k => weights _ 2 2 rfl _ k _) (scales _ 2 1024 rfl _ _)).trans (entry_congr _ _ _ _ _ _ _ _ _ _ _ _ (Fin.ext (by show _ = (y 0).val; simp only []; omega)) (Fin.ext (by show 2 = g.val; omega)) (Fin.ext (by omega)))
  case' piece2 =>
    refine (second1_entry (iblk m c 0 t) f s hs (iblk m c 2 t) (iblk m c 3 t) _ _ _ (half_second _ _) (norm_first (iblk m c 0 t) (iblk m c 1 t) f s hs hN _) (norm_second (iblk m c 0 t) (iblk m c 1 t) f s hs hN _) _ _ (grid0.coords t) hi (x 0) (x 1)
      (fun k => weights _ 1 1 rfl _ k _) (scales _ 1 512 rfl _ _)).trans (entry_congr _ _ _ _ _ _ _ _ _ _ _ _ (Fin.ext (by show _ = (y 0).val; simp only []; omega)) (Fin.ext (by show 1 = g.val; omega)) (Fin.ext (by omega)))
  case' piece3 =>
    refine (second0_entry (iblk m c 0 t) f s hs (iblk m c 2 t) (iblk m c 3 t) _ _ _ (half_second _ _) (norm_first (iblk m c 0 t) (iblk m c 1 t) f s hs hN _) (norm_second (iblk m c 0 t) (iblk m c 1 t) f s hs hN _) _ _ (grid0.coords t) hi (x 0) (x 1)
      (fun k => weights _ 0 0 rfl _ k _) (scales _ 0 0 rfl _ _)).trans (entry_congr _ _ _ _ _ _ _ _ _ _ _ _ (Fin.ext (by show _ = (y 0).val; simp only []; omega)) (Fin.ext (by show 0 = g.val; omega)) (Fin.ext (by omega)))
  case' piece4 =>
    refine (first3_entry (iblk m c 0 t) f s hs (iblk m c 2 t) (iblk m c 3 t) _ _ _ (half_first _ _) (norm_first (iblk m c 0 t) (iblk m c 1 t) f s hs hN _) (start_zero f s hz) _ _ (grid0.coords t) hi (x 0) (x 1)
      (fun k => weights _ 3 3 rfl _ k _) (scales _ 3 1536 rfl _ _)).trans (entry_congr _ _ _ _ _ _ _ _ _ _ _ _ (Fin.ext (by show _ = (y 0).val; simp only []; omega)) (Fin.ext (by show 3 = g.val; omega)) (Fin.ext (by omega)))
  case' piece5 =>
    refine (first2_entry (iblk m c 0 t) f s hs (iblk m c 2 t) (iblk m c 3 t) _ _ _ (half_first _ _) (norm_first (iblk m c 0 t) (iblk m c 1 t) f s hs hN _) (start_zero f s hz) _ _ (grid0.coords t) hi (x 0) (x 1)
      (fun k => weights _ 2 2 rfl _ k _) (scales _ 2 1024 rfl _ _)).trans (entry_congr _ _ _ _ _ _ _ _ _ _ _ _ (Fin.ext (by show _ = (y 0).val; simp only []; omega)) (Fin.ext (by show 2 = g.val; omega)) (Fin.ext (by omega)))
  case' piece6 =>
    refine (first1_entry (iblk m c 0 t) f s hs (iblk m c 2 t) (iblk m c 3 t) _ _ _ (half_first _ _) (norm_first (iblk m c 0 t) (iblk m c 1 t) f s hs hN _) (start_zero f s hz) _ _ (grid0.coords t) hi (x 0) (x 1)
      (fun k => weights _ 1 1 rfl _ k _) (scales _ 1 512 rfl _ _)).trans (entry_congr _ _ _ _ _ _ _ _ _ _ _ _ (Fin.ext (by show _ = (y 0).val; simp only []; omega)) (Fin.ext (by show 1 = g.val; omega)) (Fin.ext (by omega)))
  case' piece7 =>
    refine (first0_entry (iblk m c 0 t) f s hs (iblk m c 2 t) (iblk m c 3 t) _ _ _ (half_first _ _) (norm_first (iblk m c 0 t) (iblk m c 1 t) f s hs hN _) (start_zero f s hz) _ _ (grid0.coords t) hi (x 0) (x 1)
      (fun k => weights _ 0 0 rfl _ k _) (scales _ 0 0 rfl _ _)).trans (entry_congr _ _ _ _ _ _ _ _ _ _ _ _ (Fin.ext (by show _ = (y 0).val; simp only []; omega)) (Fin.ext (by show 0 = g.val; omega)) (Fin.ext (by omega)))

include hi hN in
/-- The other blocks. -/
theorem out_B (h0 : ¬t.val % 4 = 0) (hH : ∀ (a : Fin 16) k, ((outsAt0 m c (t.val - 1) (Nat.lt_of_le_of_lt (Nat.sub_le _ _) t.isLt)).2.2.2.2 (ix2 a k) : EReal) = back (f k) s (16 - a.val))
    (y : S512x2048.Idx) (g : Fin 4) (q : Fin 512) (hy : (y 1).val = 512 * g.val + q.val) :
    ((outsAt0 m c t.val t.isLt).1 y : EReal) = entry (iblk m c 0 t) f s hs (iblk m c 2 t) (iblk m c 3 t) (y 0) g q := by
  rw [outsAt0_B m c t h0]
  frame_out
  simp only [read_unread_whole]
  canon_tiles x h
  all_goals rw [eq_ix2 x]
  case' piece0 =>
    refine (second3_entry (iblk m c 0 t) f s hs (iblk m c 2 t) (iblk m c 3 t) _ _ _ (half_second _ _) (norm_first (iblk m c 0 t) (iblk m c 1 t) f s hs hN _) (norm_second (iblk m c 0 t) (iblk m c 1 t) f s hs hN _) _ _ (grid0.coords t) hi (x 0) (x 1)
      (fun k => weights _ 3 3 rfl _ k _) (scales _ 3 1536 rfl _ _)).trans (entry_congr _ _ _ _ _ _ _ _ _ _ _ _ (Fin.ext (by show _ = (y 0).val; simp only []; omega)) (Fin.ext (by show 3 = g.val; omega)) (Fin.ext (by omega)))
  case' piece1 =>
    refine (second2_entry (iblk m c 0 t) f s hs (iblk m c 2 t) (iblk m c 3 t) _ _ _ (half_second _ _) (norm_first (iblk m c 0 t) (iblk m c 1 t) f s hs hN _) (norm_second (iblk m c 0 t) (iblk m c 1 t) f s hs hN _) _ _ (grid0.coords t) hi (x 0) (x 1)
      (fun k => weights _ 2 2 rfl _ k _) (scales _ 2 1024 rfl _ _)).trans (entry_congr _ _ _ _ _ _ _ _ _ _ _ _ (Fin.ext (by show _ = (y 0).val; simp only []; omega)) (Fin.ext (by show 2 = g.val; omega)) (Fin.ext (by omega)))
  case' piece2 =>
    refine (second1_entry (iblk m c 0 t) f s hs (iblk m c 2 t) (iblk m c 3 t) _ _ _ (half_second _ _) (norm_first (iblk m c 0 t) (iblk m c 1 t) f s hs hN _) (norm_second (iblk m c 0 t) (iblk m c 1 t) f s hs hN _) _ _ (grid0.coords t) hi (x 0) (x 1)
      (fun k => weights _ 1 1 rfl _ k _) (scales _ 1 512 rfl _ _)).trans (entry_congr _ _ _ _ _ _ _ _ _ _ _ _ (Fin.ext (by show _ = (y 0).val; simp only []; omega)) (Fin.ext (by show 1 = g.val; omega)) (Fin.ext (by omega)))
  case' piece3 =>
    refine (second0_entry (iblk m c 0 t) f s hs (iblk m c 2 t) (iblk m c 3 t) _ _ _ (half_second _ _) (norm_first (iblk m c 0 t) (iblk m c 1 t) f s hs hN _) (norm_second (iblk m c 0 t) (iblk m c 1 t) f s hs hN _) _ _ (grid0.coords t) hi (x 0) (x 1)
      (fun k => weights _ 0 0 rfl _ k _) (scales _ 0 0 rfl _ _)).trans (entry_congr _ _ _ _ _ _ _ _ _ _ _ _ (Fin.ext (by show _ = (y 0).val; simp only []; omega)) (Fin.ext (by show 0 = g.val; omega)) (Fin.ext (by omega)))
  case' piece4 =>
    refine (first3_entry (iblk m c 0 t) f s hs (iblk m c 2 t) (iblk m c 3 t) _ _ _ (half_first _ _) (norm_first (iblk m c 0 t) (iblk m c 1 t) f s hs hN _) hH _ _ (grid0.coords t) hi (x 0) (x 1)
      (fun k => weights _ 3 3 rfl _ k _) (scales _ 3 1536 rfl _ _)).trans (entry_congr _ _ _ _ _ _ _ _ _ _ _ _ (Fin.ext (by show _ = (y 0).val; simp only []; omega)) (Fin.ext (by show 3 = g.val; omega)) (Fin.ext (by omega)))
  case' piece5 =>
    refine (first2_entry (iblk m c 0 t) f s hs (iblk m c 2 t) (iblk m c 3 t) _ _ _ (half_first _ _) (norm_first (iblk m c 0 t) (iblk m c 1 t) f s hs hN _) hH _ _ (grid0.coords t) hi (x 0) (x 1)
      (fun k => weights _ 2 2 rfl _ k _) (scales _ 2 1024 rfl _ _)).trans (entry_congr _ _ _ _ _ _ _ _ _ _ _ _ (Fin.ext (by show _ = (y 0).val; simp only []; omega)) (Fin.ext (by show 2 = g.val; omega)) (Fin.ext (by omega)))
  case' piece6 =>
    refine (first1_entry (iblk m c 0 t) f s hs (iblk m c 2 t) (iblk m c 3 t) _ _ _ (half_first _ _) (norm_first (iblk m c 0 t) (iblk m c 1 t) f s hs hN _) hH _ _ (grid0.coords t) hi (x 0) (x 1)
      (fun k => weights _ 1 1 rfl _ k _) (scales _ 1 512 rfl _ _)).trans (entry_congr _ _ _ _ _ _ _ _ _ _ _ _ (Fin.ext (by show _ = (y 0).val; simp only []; omega)) (Fin.ext (by show 1 = g.val; omega)) (Fin.ext (by omega)))
  case' piece7 =>
    refine (first0_entry (iblk m c 0 t) f s hs (iblk m c 2 t) (iblk m c 3 t) _ _ _ (half_first _ _) (norm_first (iblk m c 0 t) (iblk m c 1 t) f s hs hN _) hH _ _ (grid0.coords t) hi (x 0) (x 1)
      (fun k => weights _ 0 0 rfl _ k _) (scales _ 0 0 rfl _ _)).trans (entry_congr _ _ _ _ _ _ _ _ _ _ _ _ (Fin.ext (by show _ = (y 0).val; simp only []; omega)) (Fin.ext (by show 0 = g.val; omega)) (Fin.ext (by omega)))

include hN in
/-- The scratch afterwards: the block's last rows. -/
theorem scratch_after (hl : s + 512 < 2048) (a : Fin 16) (k : Fin 2048) :
    ((outsAt0 m c t.val t.isLt).2.2.2.2 (ix2 a k) : EReal) = back (f k) (s + 512) (16 - a.val) := by
  by_cases h0 : t.val % 4 = 0
  · rw [outsAt0_A m c t h0]
    frame_out
    exact handed _ _ f (s + 256) (by omega) (norm_second (iblk m c 0 t) (iblk m c 1 t) f s hs hN _) a k
  · rw [outsAt0_B m c t h0]
    frame_out
    exact handed _ _ f (s + 256) (by omega) (norm_second (iblk m c 0 t) (iblk m c 1 t) f s hs hN _) a k

end Cert.Proof.Pool
end
-- ==== Proof.PoolWhole.lean ====
/-
  The pooling mixer, entry by entry: the stream plus the product of the pooled columns with their group's weights.
-/
module

public import proofs.«01_k».proof.Proof.PoolSpec
public import proofs.«01_k».proof.Proof.KvqSpec

@[expose] public section

noncomputable section

namespace Cert.Proof.Pool

open Idealize.ShloMosaic Cert.Proof.Kvq

/-- Column `k` of sequence `b`, normalised, over its positions. -/
def column (h : Fin 32768 → Fin 2048 → EReal) (g : Fin 2048 → EReal) (b : Fin 16) (k s : Fin 2048) : EReal :=
  rowNorm (h ⟨2048 * b.val + s.val, by omega⟩) g k

/-- The entry of sequence `b`, position `s`, column `q` of group `i`, whose window is twice the one before. -/
def pooled (h : Fin 32768 → Fin 2048 → EReal) (g : Fin 2048 → EReal) (pw : Fin 4 → Fin 512 → Fin 512 → EReal) (ps : Fin 2048 → EReal)
    (b : Fin 16) (s : Fin 2048) (i : Fin 4) (q : Fin 512) : EReal :=
  h ⟨2048 * b.val + s.val, by omega⟩ ⟨512 * i.val + q.val, by omega⟩
    + (∑ k : Fin 512, (Ideal.div (trail (column h g b ⟨512 * i.val + k.val, by omega⟩) s.val (2 ^ (i.val + 1))) (held s.val (2 ^ (i.val + 1)))
        - column h g b ⟨512 * i.val + k.val, by omega⟩ s) * pw i k q) * ps ⟨512 * i.val + q.val, by omega⟩

end Cert.Proof.Pool
end
-- ==== Proof.PoolReference.lean ====
/-
  The pooling mixer's reference, entry by entry.
-/
module

public import proofs.«01_k».proof.Proof.Gen.Reference7Ideal.Run
public import proofs.«01_k».proof.Proof.PoolWhole
public import Idealize.ShloMosaic.Lib.Pointwise
public import Idealize.ShloMosaic.Lib.Pipeline.Value
public import Idealize.ShloMosaic.Lib.Tactic.CleanTypes

@[expose] public section

noncomputable section

namespace Cert.Proof.Pool.Plain

open Cert.Reference7Ideal Cert.Reference7Ideal.Gen Cert.Proof.Kvq
open Idealize.ShloMosaic Idealize.ShloMosaic.TcCoe

/-- Rows over their root mean square, times a gain. -/
def normed (x : FVec Ideal S32768x2048 .f32) (g : FVec Ideal S2048 .f32) : FVec Ideal S32768x2048 .f32 :=
  mulf (mulf x (broadcastInDim S32768x2048 ![0, 1] bcast_S32768x1_S32768x2048_0_1 (Host.rsqrt (addf (Host.divf
    (broadcastInDim S32768x1 ![0] bcast_S32768_S32768x1_0 (Host.reduceAdd (mulf x x) (constant S_ .f32 0x00000000#32) reducesTo_S32768x2048_S32768_d1 h_S_))
    (broadcastInDim S32768x1 ![] bcast_S_S32768x1 (constant S_ .f32 0x45000000#32)))
    (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 g))

/-- Ones where a position is within a window before another. -/
def band (w : BitVec 32) : FVec Ideal S2048x2048 .f32 :=
  select (andi (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))
    (cmpi .slt (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (addi (broadcastInDim S1x2048 ![1] bcast_S2048_S1x2048_1 (iotaInDim S2048 32 0)) (broadcastInDim S1x2048 ![] bcast_S_S1x2048 (constantI S_ 32 w))))))
    (broadcastInDim S2048x2048 ![] bcast_S_S2048x2048 (constant S_ .f32 0x3F800000#32)) (broadcastInDim S2048x2048 ![] bcast_S_S2048x2048 (constant S_ .f32 0x00000000#32))

/-- Each position's sum over its window. -/
def sums (y : FVec Ideal S16x2048x512 .f32) (w : BitVec 32) : FVec Ideal S16x2048x512 .f32 :=
  transpose S16x2048x512 [0, 2, 1] (Host.dotGeneral dot_S16x2048x512_S2048x2048_S16x512x2048_1_1_02_0_n_n none y (band w) : FVec Ideal S16x512x2048 .f32) transposes_S16x512x2048_S16x2048x512_0_2_1

/-- Each position's count. -/
def sizes (w : BitVec 32) : FVec Ideal S16x2048x512 .f32 :=
  broadcastInDim S16x2048x512 ![0, 1, 2] bcast_S1x2048x1_S16x2048x512_0_1_2 (broadcastInDim S1x2048x1 ![1] bcast_S2048_S1x2048x1_1 (sitofp .f32 (minsi (addi (iotaInDim S2048 32 0) (broadcastInDim S2048 ![] bcast_S_S2048 (constantI S_ 32 1#32))) (broadcastInDim S2048 ![] bcast_S_S2048 (constantI S_ 32 w)))))

/-- A group's product. -/
def group (y : FVec Ideal S16x2048x512 .f32) (w : BitVec 32) (p : FVec Ideal S512x512 .bf16) : FVec Ideal S16x2048x512 .f32 :=
  Host.dotGeneral dot_S16x2048x512_S512x512_S16x2048x512_2_0_01_1_n_n none (subf (Host.divf (sums y w) (sizes w)) y) (extf .f32 p bitsLt_bf16_f32)

/-- The groups side by side. -/
def joined (a b c d : FVec Ideal S16x2048x512 .f32) : FVec Ideal S16x2048x2048 .f32 :=
  concatenate S16x2048x2048 2 [⟨S16x2048x512, a⟩, ⟨S16x2048x512, b⟩, ⟨S16x2048x512, c⟩, ⟨S16x2048x512, d⟩] concatenates_S16x2048x512_S16x2048x512_S16x2048x512_S16x2048x512_S16x2048x2048_d2

def cut0 (n : FVec Ideal S32768x2048 .f32) : FVec Ideal S16x2048x512 .f32 :=
  shapeCast S16x2048x512 (extractStridedSlice S16x2048x1x512 ![0, 0, 0, 0] (shapeCast S16x2048x4x512 n shapeCasts_S32768x2048_S16x2048x4x512) slices_S16x2048x4x512_S16x2048x1x512_0_0_0_0) shapeCasts_S16x2048x1x512_S16x2048x512
def cut1 (n : FVec Ideal S32768x2048 .f32) : FVec Ideal S16x2048x512 .f32 :=
  shapeCast S16x2048x512 (extractStridedSlice S16x2048x1x512 ![0, 0, 1, 0] (shapeCast S16x2048x4x512 n shapeCasts_S32768x2048_S16x2048x4x512) slices_S16x2048x4x512_S16x2048x1x512_0_0_1_0) shapeCasts_S16x2048x1x512_S16x2048x512
def cut2 (n : FVec Ideal S32768x2048 .f32) : FVec Ideal S16x2048x512 .f32 :=
  shapeCast S16x2048x512 (extractStridedSlice S16x2048x1x512 ![0, 0, 2, 0] (shapeCast S16x2048x4x512 n shapeCasts_S32768x2048_S16x2048x4x512) slices_S16x2048x4x512_S16x2048x1x512_0_0_2_0) shapeCasts_S16x2048x1x512_S16x2048x512
def cut3 (n : FVec Ideal S32768x2048 .f32) : FVec Ideal S16x2048x512 .f32 :=
  shapeCast S16x2048x512 (extractStridedSlice S16x2048x1x512 ![0, 0, 3, 0] (shapeCast S16x2048x4x512 n shapeCasts_S32768x2048_S16x2048x4x512) slices_S16x2048x4x512_S16x2048x1x512_0_0_3_0) shapeCasts_S16x2048x1x512_S16x2048x512

/-- The whole result. -/
def whole (x : FVec Ideal S32768x2048 .f32) (g : FVec Ideal S2048 .f32) (p : FVec Ideal S4x512x512 .bf16) (s : FVec Ideal S2048 .f32) : FVec Ideal S32768x2048 .f32 :=
  addf x (mulf (shapeCast S32768x2048 (joined
      (group (cut0 (normed x g)) 2#32 (shapeCast S512x512 (extractStridedSlice S1x512x512 ![0, 0, 0] p slices_S4x512x512_S1x512x512_0_0_0) shapeCasts_S1x512x512_S512x512))
      (group (cut1 (normed x g)) 4#32 (shapeCast S512x512 (extractStridedSlice S1x512x512 ![1, 0, 0] p slices_S4x512x512_S1x512x512_1_0_0) shapeCasts_S1x512x512_S512x512))
      (group (cut2 (normed x g)) 8#32 (shapeCast S512x512 (extractStridedSlice S1x512x512 ![2, 0, 0] p slices_S4x512x512_S1x512x512_2_0_0) shapeCasts_S1x512x512_S512x512))
      (group (cut3 (normed x g)) 16#32 (shapeCast S512x512 (extractStridedSlice S1x512x512 ![3, 0, 0] p slices_S4x512x512_S1x512x512_3_0_0) shapeCasts_S1x512x512_S512x512)))
      shapeCasts_S16x2048x2048_S32768x2048)
    (broadcastInDim S32768x2048 ![0, 1] bcast_S1x2048_S32768x2048_0_1 (broadcastInDim S1x2048 ![1] bcast_S2048_S1x2048_1 s)))

theorem result_eq (m : (ℓ : Loc nD τ sig) → Buf (Elt Ideal) ℓ) (c : Dev nD) :
    Value.res_main_v144 m c = whole (m ((c.tc : Thread nD τ).loc main_arg0)) (m ((c.tc : Thread nD τ).loc main_arg1))
      (m ((c.tc : Thread nD τ).loc main_arg2)) (m ((c.tc : Thread nD τ).loc main_arg3)) := rfl

theorem normed_apply (x : FVec Ideal S32768x2048 .f32) (g : FVec Ideal S2048 .f32) (r : Fin 32768) (k : Fin 2048) :
    normed x g (ix2 r k) = rowNorm (fun k => x (ix2 r k)) (fun k => g (ix1 k)) k := by
  unfold normed rowNorm invRms
  pointwise

/-- Small words compare as their numbers. -/
theorem slt (a b : ℕ) (ha : a ≤ 4096) (hb : b ≤ 4096) :
    IntOp.cmpi CmpIPredicate.slt (BitVec.ofNat 32 a) (BitVec.ofNat 32 b) = BitVec.ofBool (decide (a < b)) := by
  have e : ∀ n : ℕ, n ≤ 4096 → (BitVec.ofNat 32 n).toInt = (n : ℤ) := fun n h => by
    rw [BitVec.toInt_eq_toNat_of_lt (by rw [BitVec.toNat_ofNat]; omega), BitVec.toNat_ofNat, Nat.mod_eq_of_lt (by omega)]
  unfold IntOp.cmpi
  simp only [BitVec.slt, e a ha, e b hb, Nat.cast_lt]

theorem sle (a b : ℕ) (ha : a ≤ 4096) (hb : b ≤ 4096) :
    IntOp.cmpi CmpIPredicate.sle (BitVec.ofNat 32 a) (BitVec.ofNat 32 b) = BitVec.ofBool (decide (a ≤ b)) := by
  have e : ∀ n : ℕ, n ≤ 4096 → (BitVec.ofNat 32 n).toInt = (n : ℤ) := fun n h => by
    rw [BitVec.toInt_eq_toNat_of_lt (by rw [BitVec.toNat_ofNat]; omega), BitVec.toNat_ofNat, Nat.mod_eq_of_lt (by omega)]
  unfold IntOp.cmpi
  simp only [BitVec.sle, e a ha, e b hb, Nat.cast_le]

theorem band_apply (w : ℕ) (hw : w ≤ 16) (s t : Fin 2048) :
    (band (BitVec.ofNat 32 w) (ix2 s t) : EReal) = if t.val ≤ s.val ∧ s.val < t.val + w then (1 : EReal) else 0 := by
  unfold band
  pointwise
  have e : IntOp.addi (BitVec.ofNat 32 t.val) (BitVec.ofNat 32 w) = BitVec.ofNat 32 (t.val + w) := (BitVec.ofNat_add t.val w).symm
  rw [e, sle _ _ (by omega) (by omega), slt _ _ (by omega) (by omega)]
  unfold Scalar.select IntOp.andi
  by_cases a : t.val ≤ s.val <;> by_cases b : s.val < t.val + w <;> simp [a, b]

theorem sums_apply (y : FVec Ideal S16x2048x512 .f32) (w : ℕ) (hw : w ≤ 16) (b : Fin 16) (s : Fin 2048) (k : Fin 512) :
    (sums y (BitVec.ofNat 32 w) (ix3 b s k) : EReal) = trail (fun t => y (ix3 b t k)) s.val w := by
  unfold sums
  refine Eq.trans ?_ (trail_band _ s w)
  pointwise
  exact Finset.sum_congr (M := EReal) rfl fun t _ => (congrArg (fun z : EReal => _ * z) (band_apply w hw s t)).trans (mul_comm (G := EReal) _ _)

theorem sizes_apply (w : ℕ) (hw : w ≤ 16) (b : Fin 16) (s : Fin 2048) (k : Fin 512) :
    (sizes (BitVec.ofNat 32 w) (ix3 b s k) : EReal) = held s.val w := by
  refine Eq.trans ?_ (count (BitVec.ofNat 32 s.val) s.val w (by rw [BitVec.toNat_ofNat]; omega) s.isLt hw)
  unfold sizes
  pointwise
  rfl

theorem group_apply (y : FVec Ideal S16x2048x512 .f32) (w : ℕ) (hw : w ≤ 16) (p : FVec Ideal S512x512 .bf16) (b : Fin 16) (s : Fin 2048) (q : Fin 512) :
    (group y (BitVec.ofNat 32 w) p (ix3 b s q) : EReal)
      = ∑ k : Fin 512, (Ideal.div (trail (fun t => y (ix3 b t k)) s.val w) (held s.val w) - y (ix3 b s k)) * p (ix2 k q) := by
  unfold group
  pointwise
  simp only [sums_apply y w hw, sizes_apply w hw]

theorem cut0_apply (n : FVec Ideal S32768x2048 .f32) (b : Fin 16) (s : Fin 2048) (k : Fin 512) :
    cut0 n (ix3 b s k) = n (ix2 ⟨2048 * b.val + s.val, by omega⟩ ⟨512 * (0 : Fin 4).val + k.val, by omega⟩) := by
  unfold cut0
  pointwise
  exact congrArg (fun r => n (ix2 r _)) (Fin.ext (by show b.val * 2048 + s.val = 2048 * b.val + s.val; omega))

theorem cut1_apply (n : FVec Ideal S32768x2048 .f32) (b : Fin 16) (s : Fin 2048) (k : Fin 512) :
    cut1 n (ix3 b s k) = n (ix2 ⟨2048 * b.val + s.val, by omega⟩ ⟨512 * (1 : Fin 4).val + k.val, by omega⟩) := by
  unfold cut1
  pointwise
  exact congrArg (fun r => n (ix2 r _)) (Fin.ext (by show b.val * 2048 + s.val = 2048 * b.val + s.val; omega))

theorem cut2_apply (n : FVec Ideal S32768x2048 .f32) (b : Fin 16) (s : Fin 2048) (k : Fin 512) :
    cut2 n (ix3 b s k) = n (ix2 ⟨2048 * b.val + s.val, by omega⟩ ⟨512 * (2 : Fin 4).val + k.val, by omega⟩) := by
  unfold cut2
  pointwise
  exact congrArg (fun r => n (ix2 r _)) (Fin.ext (by show b.val * 2048 + s.val = 2048 * b.val + s.val; omega))

theorem cut3_apply (n : FVec Ideal S32768x2048 .f32) (b : Fin 16) (s : Fin 2048) (k : Fin 512) :
    cut3 n (ix3 b s k) = n (ix2 ⟨2048 * b.val + s.val, by omega⟩ ⟨512 * (3 : Fin 4).val + k.val, by omega⟩) := by
  unfold cut3
  pointwise
  exact congrArg (fun r => n (ix2 r _)) (Fin.ext (by show b.val * 2048 + s.val = 2048 * b.val + s.val; omega))

/-- Off the columns two indices of a position agree. -/
theorem off (b : Fin 16) (s : Fin 2048) (q : Fin 512) (q' : Fin 2048) (a : Fin 3) (h : a ≠ 2) :
    ((ix3 b s q : S16x2048x512.Idx) a).val = ((ix3 b s q' : S16x2048x2048.Idx) a).val :=
  match a, h with
  | ⟨0, _⟩, _ => rfl
  | ⟨1, _⟩, _ => rfl
  | ⟨2, _⟩, h => absurd rfl h

theorem joined0 (a b c d : FVec Ideal S16x2048x512 .f32) (i : Fin 16) (s : Fin 2048) (q : Fin 512) :
    joined a b c d (ix3 i s ⟨512 * (0 : Fin 4).val + q.val, by omega⟩) = a (ix3 i s q) :=
  concatenate_apply_piece (t := S16x2048x2048) 2 [⟨S16x2048x512, a⟩, ⟨S16x2048x512, b⟩, ⟨S16x2048x512, c⟩, ⟨S16x2048x512, d⟩]
    concatenates_S16x2048x512_S16x2048x512_S16x2048x512_S16x2048x512_S16x2048x2048_d2 (ix3 i s ⟨512 * (0 : Fin 4).val + q.val, by omega⟩) 0 (by simp)
    S16x2048x512 a rfl rfl 0 rfl (ix3 i s q) (off i s q _) rfl

theorem joined1 (a b c d : FVec Ideal S16x2048x512 .f32) (i : Fin 16) (s : Fin 2048) (q : Fin 512) :
    joined a b c d (ix3 i s ⟨512 * (1 : Fin 4).val + q.val, by omega⟩) = b (ix3 i s q) :=
  concatenate_apply_piece (t := S16x2048x2048) 2 [⟨S16x2048x512, a⟩, ⟨S16x2048x512, b⟩, ⟨S16x2048x512, c⟩, ⟨S16x2048x512, d⟩]
    concatenates_S16x2048x512_S16x2048x512_S16x2048x512_S16x2048x512_S16x2048x2048_d2 (ix3 i s ⟨512 * (1 : Fin 4).val + q.val, by omega⟩) 1 (by simp)
    S16x2048x512 b rfl rfl 512 rfl (ix3 i s q) (off i s q _) rfl

theorem joined2 (a b c d : FVec Ideal S16x2048x512 .f32) (i : Fin 16) (s : Fin 2048) (q : Fin 512) :
    joined a b c d (ix3 i s ⟨512 * (2 : Fin 4).val + q.val, by omega⟩) = c (ix3 i s q) :=
  concatenate_apply_piece (t := S16x2048x2048) 2 [⟨S16x2048x512, a⟩, ⟨S16x2048x512, b⟩, ⟨S16x2048x512, c⟩, ⟨S16x2048x512, d⟩]
    concatenates_S16x2048x512_S16x2048x512_S16x2048x512_S16x2048x512_S16x2048x2048_d2 (ix3 i s ⟨512 * (2 : Fin 4).val + q.val, by omega⟩) 2 (by simp)
    S16x2048x512 c rfl rfl 1024 rfl (ix3 i s q) (off i s q _) rfl

theorem joined3 (a b c d : FVec Ideal S16x2048x512 .f32) (i : Fin 16) (s : Fin 2048) (q : Fin 512) :
    joined a b c d (ix3 i s ⟨512 * (3 : Fin 4).val + q.val, by omega⟩) = d (ix3 i s q) :=
  concatenate_apply_piece (t := S16x2048x2048) 2 [⟨S16x2048x512, a⟩, ⟨S16x2048x512, b⟩, ⟨S16x2048x512, c⟩, ⟨S16x2048x512, d⟩]
    concatenates_S16x2048x512_S16x2048x512_S16x2048x512_S16x2048x512_S16x2048x2048_d2 (ix3 i s ⟨512 * (3 : Fin 4).val + q.val, by omega⟩) 3 (by simp)
    S16x2048x512 d rfl rfl 1536 rfl (ix3 i s q) (off i s q _) rfl

/-- The whole result's entries, from the joined groups. -/
theorem whole_at (x : FVec Ideal S32768x2048 .f32) (y : FVec Ideal S16x2048x2048 .f32) (s : FVec Ideal S2048 .f32) (b : Fin 16) (a q : Fin 2048) :
    (addf x (mulf (shapeCast S32768x2048 y shapeCasts_S16x2048x2048_S32768x2048)
      (broadcastInDim S32768x2048 ![0, 1] bcast_S1x2048_S32768x2048_0_1 (broadcastInDim S1x2048 ![1] bcast_S2048_S1x2048_1 s))) (ix2 ⟨2048 * b.val + a.val, by omega⟩ q) : EReal)
      = x (ix2 ⟨2048 * b.val + a.val, by omega⟩ q) + y (ix3 b a q) * s (ix1 q) := by
  pointwise

theorem slab0 (p : FVec Ideal S4x512x512 .bf16) (k q : Fin 512) :
    shapeCast S512x512 (extractStridedSlice S1x512x512 ![0, 0, 0] p slices_S4x512x512_S1x512x512_0_0_0) shapeCasts_S1x512x512_S512x512 (ix2 k q) = p (ix3 0 k q) := by
  pointwise

theorem slab1 (p : FVec Ideal S4x512x512 .bf16) (k q : Fin 512) :
    shapeCast S512x512 (extractStridedSlice S1x512x512 ![1, 0, 0] p slices_S4x512x512_S1x512x512_1_0_0) shapeCasts_S1x512x512_S512x512 (ix2 k q) = p (ix3 1 k q) := by
  pointwise

theorem slab2 (p : FVec Ideal S4x512x512 .bf16) (k q : Fin 512) :
    shapeCast S512x512 (extractStridedSlice S1x512x512 ![2, 0, 0] p slices_S4x512x512_S1x512x512_2_0_0) shapeCasts_S1x512x512_S512x512 (ix2 k q) = p (ix3 2 k q) := by
  pointwise

theorem slab3 (p : FVec Ideal S4x512x512 .bf16) (k q : Fin 512) :
    shapeCast S512x512 (extractStridedSlice S1x512x512 ![3, 0, 0] p slices_S4x512x512_S1x512x512_3_0_0) shapeCasts_S1x512x512_S512x512 (ix2 k q) = p (ix3 3 k q) := by
  pointwise

/-- The reference is the pooling mixer, entry by entry. -/
theorem whole_apply (x : FVec Ideal S32768x2048 .f32) (g : FVec Ideal S2048 .f32) (p : FVec Ideal S4x512x512 .bf16) (s : FVec Ideal S2048 .f32)
    (b : Fin 16) (a : Fin 2048) (i : Fin 4) (q : Fin 512) :
    (whole x g p s (ix2 ⟨2048 * b.val + a.val, by omega⟩ ⟨512 * i.val + q.val, by omega⟩) : EReal)
      = pooled (fun r k => x (ix2 r k)) (fun k => g (ix1 k)) (fun i k q => p (ix3 i k q)) (fun k => s (ix1 k)) b a i q := by
  unfold whole
  refine (whole_at x _ s b a _).trans ?_
  unfold pooled column
  refine congrArg (fun z : EReal => _ + z * _) ?_
  fin_cases i
  · refine (joined0 _ _ _ _ b a q).trans ((group_apply _ 2 (by omega) _ b a q).trans (Finset.sum_congr (M := EReal) rfl fun k _ => ?_))
    simp only [cut0_apply, normed_apply, slab0]
    rfl
  · refine (joined1 _ _ _ _ b a q).trans ((group_apply _ 4 (by omega) _ b a q).trans (Finset.sum_congr (M := EReal) rfl fun k _ => ?_))
    simp only [cut1_apply, normed_apply, slab1]
    rfl
  · refine (joined2 _ _ _ _ b a q).trans ((group_apply _ 8 (by omega) _ b a q).trans (Finset.sum_congr (M := EReal) rfl fun k _ => ?_))
    simp only [cut2_apply, normed_apply, slab2]
    rfl
  · refine (joined3 _ _ _ _ b a q).trans ((group_apply _ 16 (by omega) _ b a q).trans (Finset.sum_congr (M := EReal) rfl fun k _ => ?_))
    simp only [cut3_apply, normed_apply, slab3]
    rfl

end Cert.Proof.Pool.Plain
end
-- ==== Proof.PoolEquation.lean ====
/-
  The pooling mixer: the residual stream that the call returns is the reference's.
-/
module

public import proofs.«01_k».proof.Proof.Gen.Kernel7Ideal.Value
public import proofs.«01_k».proof.Proof.PoolBlock
public import proofs.«01_k».proof.Proof.PoolReference
public import proofs.«01_k».proof.Proof.Frames
public import Idealize.ShloMosaic.Lib.Pointwise
public import Idealize.ShloMosaic.Lib.Tactic.CleanTypes

@[expose] public section

noncomputable section

namespace Cert.Proof.Pool

open Cert.Kernel7Ideal Cert.Kernel7Ideal.Gen Cert.Proof.Kvq
open Idealize.ShloMosaic Idealize.ShloMosaic.TcCoe Idealize.SL.Sem

variable (m : (ℓ : Loc nD τ sig) → Buf (Elt Ideal) ℓ) (c : Dev nD)

theorem points : cfg0.N = 64 := by decide
theorem flushes : ∀ t : Fin cfg0.N, (cfg0.win 7).flush t = true := by decide +kernel
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0, 0] := by decide +kernel
theorem index3 : ∀ t : Fin cfg0.N, win0_3.index t = ![0, 0] := by decide +kernel
theorem index7 : ∀ t : Fin cfg0.N, win0_7.index t = ![t.val, 0] := by decide +kernel
theorem within : ∀ t : Fin cfg0.N, (grid0.coords t 1).val = t.val % 4 := by decide +kernel

/-- The stream's rows of a point's block. -/
theorem block0 (t : Fin cfg0.N) (p : Fin 512) (q : Fin 2048) (r : Fin 32768) (hr : r.val = 512 * t.val + p.val) :
    (iblk m c 0 t : S512x2048.Idx → EReal) (ix2 p q) = (m ((c : Thread nD τ).loc main_arg0) : S32768x2048.Idx → EReal) (ix2 r q) := by
  rw [← V_main_arg0 m c]
  refine congrArg (V m c main_arg0 : S32768x2048.Idx → EReal) (funext fun b => Fin.ext ?_)
  refine (win0_0.rect_emb_val t (ix2 p q) b).trans ?_
  rw [index0]
  fin_cases b <;> simp [hr] <;> omega

/-- The gain and the scale are laid out as rows. -/
theorem laid_gain (g : S2048.Idx → EReal) (hg : m ((c : Thread nD τ).loc main_arg1) = g) (k : Fin 2048) :
    (V m c main_v0 : S1x2048.Idx → EReal) (ix2 0 k) = g (ix1 k) := by
  unfold_abbrev_sides
  after_results_simp
  rw [show m (c, Proc.tc.devRef main_arg1) = g from hg]
  clean_types
  pointwise

theorem laid_scale (g : S2048.Idx → EReal) (hg : m ((c : Thread nD τ).loc main_arg3) = g) (k : Fin 2048) :
    (V m c main_v1 : S1x2048.Idx → EReal) (ix2 0 k) = g (ix1 k) := by
  unfold_abbrev_sides
  after_results_simp
  rw [show m (c, Proc.tc.devRef main_arg3) = g from hg]
  clean_types
  pointwise

theorem block1 (t : Fin cfg0.N) (k : Fin 2048) :
    (iblk m c 1 t : S1x2048.Idx → EReal) (ix2 0 k) = (m ((c : Thread nD τ).loc main_arg1) : S2048.Idx → EReal) (ix1 k) := by
  rw [← laid_gain m c _ rfl k]
  refine congrArg (V m c main_v0 : S1x2048.Idx → EReal) (funext fun b => Fin.ext ?_)
  refine (win0_1.rect_emb_val t (ix2 0 k) b).trans ?_
  rw [index1]
  fin_cases b <;> simp

theorem block2 (t : Fin cfg0.N) (i : Fin 4) (k q : Fin 512) :
    (iblk m c 2 t : S4x512x512.Idx → EReal) (ix3 i k q) = (m ((c : Thread nD τ).loc main_arg2) : S4x512x512.Idx → EReal) (ix3 i k q) := by
  rw [← V_main_arg2 m c]
  refine congrArg (V m c main_arg2 : S4x512x512.Idx → EReal) (funext fun b => Fin.ext ?_)
  refine (win0_2.rect_emb_val t (ix3 i k q) b).trans ?_
  rw [index2]
  fin_cases b <;> simp

theorem block3 (t : Fin cfg0.N) (k : Fin 2048) :
    (iblk m c 3 t : S1x2048.Idx → EReal) (ix2 0 k) = (m ((c : Thread nD τ).loc main_arg3) : S2048.Idx → EReal) (ix1 k) := by
  rw [← laid_scale m c _ rfl k]
  refine congrArg (V m c main_v1 : S1x2048.Idx → EReal) (funext fun b => Fin.ext ?_)
  refine (win0_3.rect_emb_val t (ix2 0 k) b).trans ?_
  rw [index3]
  fin_cases b <;> simp

/-- The normalised columns of sequence `b`. -/
def cols (b : Fin 16) : Fin 2048 → Fin 2048 → EReal :=
  column (fun r k => (m ((c : Thread nD τ).loc main_arg0) : S32768x2048.Idx → EReal) (ix2 r k))
    (fun k => (m ((c : Thread nD τ).loc main_arg1) : S2048.Idx → EReal) (ix1 k)) b

/-- A block's rows are its sequence's. -/
theorem normed_block (t : Fin cfg0.N) (b : Fin 16) (hb : b.val = t.val / 4) (a : Fin 512) (k : Fin 2048) :
    rowNorm (fun k => (iblk m c 0 t : S512x2048.Idx → EReal) (ix2 a k)) (fun k => (iblk m c 1 t : S1x2048.Idx → EReal) (ix2 0 k)) k
      = cols m c b k ⟨t.val % 4 * 512 + a.val, by omega⟩ := by
  unfold cols column
  simp only [block1]
  refine congrArg (fun z => rowNorm z _ k) (funext fun k => ?_)
  exact block0 m c t a k _ (by show 2048 * b.val + (t.val % 4 * 512 + a.val) = 512 * t.val + a.val; omega)

/-- What a point finds in the scratch, within a sequence. -/
theorem found (t : Fin cfg0.N) (h0 : ¬t.val % 4 = 0) (b : Fin 16) (hb : b.val = t.val / 4) (a : Fin 16) (k : Fin 2048) :
    ((outsAt0 m c (t.val - 1) (Nat.lt_of_le_of_lt (Nat.sub_le _ _) t.isLt)).2.2.2.2 (ix2 a k) : EReal)
      = back (cols m c b k) (t.val % 4 * 512) (16 - a.val) := by
  have h := scratch_after m c ⟨t.val - 1, Nat.lt_of_le_of_lt (Nat.sub_le _ _) t.isLt⟩ (cols m c b) ((t.val - 1) % 4 * 512) (by omega)
    (normed_block m c _ b (by show b.val = (t.val - 1) / 4; omega)) (by omega) a k
  rw [show (t.val - 1) % 4 * 512 + 512 = t.val % 4 * 512 by omega] at h
  exact h

/-- A point's block, entry by entry. -/
theorem block_entry (t : Fin cfg0.N) (b : Fin 16) (hb : b.val = t.val / 4) (p : Fin 512) (i : Fin 4) (q : Fin 512) :
    ((outsAt0 m c t.val t.isLt).1 (ix2 p ⟨512 * i.val + q.val, by omega⟩) : EReal)
      = entry (iblk m c 0 t) (cols m c b) (t.val % 4 * 512) (by omega) (iblk m c 2 t) (iblk m c 3 t) p i q := by
  by_cases h0 : t.val % 4 = 0
  · exact out_A m c t (cols m c b) (t.val % 4 * 512) (by omega) (normed_block m c t b hb) (by rw [within]) h0 (by omega)
      (ix2 p ⟨512 * i.val + q.val, by omega⟩) i q rfl
  · exact out_B m c t (cols m c b) (t.val % 4 * 512) (by omega) (normed_block m c t b hb) (by rw [within]) h0 (found m c t h0 b hb)
      (ix2 p ⟨512 * i.val + q.val, by omega⟩) i q rfl

/-- The arguments, as the mixer's operands. -/
def mixedAt (b : Fin 16) (s : Fin 2048) (i : Fin 4) (q : Fin 512) : EReal :=
  pooled (fun r k => (m ((c : Thread nD τ).loc main_arg0) : S32768x2048.Idx → EReal) (ix2 r k))
    (fun k => (m ((c : Thread nD τ).loc main_arg1) : S2048.Idx → EReal) (ix1 k))
    (fun i k q => (m ((c : Thread nD τ).loc main_arg2) : S4x512x512.Idx → EReal) (ix3 i k q))
    (fun k => (m ((c : Thread nD τ).loc main_arg3) : S2048.Idx → EReal) (ix1 k)) b s i q

theorem entry_pooled (t : Fin cfg0.N) (b : Fin 16) (hb : b.val = t.val / 4) (p : Fin 512) (i : Fin 4) (q : Fin 512) :
    entry (iblk m c 0 t) (cols m c b) (t.val % 4 * 512) (by omega) (iblk m c 2 t) (iblk m c 3 t) p i q
      = mixedAt m c b ⟨t.val % 4 * 512 + p.val, by omega⟩ i q := by
  unfold entry mixedAt pooled
  rw [block0 m c t p _ ⟨2048 * b.val + (t.val % 4 * 512 + p.val), by omega⟩
    (by show 2048 * b.val + (t.val % 4 * 512 + p.val) = 512 * t.val + p.val; omega), block3]
  refine congrArg (fun z : EReal => _ + z * _) (Finset.sum_congr (M := EReal) rfl fun k _ => ?_)
  rw [block2, mean _ _ _ (Nat.pos_of_ne_zero (by positivity))]
  rfl

/-- The arguments, as the reference's operands. -/
def wanted : S32768x2048.Idx → EReal :=
  Plain.whole (m ((c : Thread nD τ).loc main_arg0)) (m ((c : Thread nD τ).loc main_arg1)) (m ((c : Thread nD τ).loc main_arg2))
    (m ((c : Thread nD τ).loc main_arg3))

/-- The returned stream, element by element. -/
theorem array_at (t : Fin cfg0.N) (p : Fin 512) (i : Fin 4) (q : Fin 512) (r : Fin 32768) (hr : r.val = 512 * t.val + p.val) :
    ((dats m 0 c).arrAt 7 cfg0.N : S32768x2048.Idx → EReal) (ix2 r ⟨512 * i.val + q.val, by omega⟩)
      = wanted m c (ix2 r ⟨512 * i.val + q.val, by omega⟩) := by
  have ht : t.val < 64 := t.isLt.trans_eq points
  have h := congrFun ((Value.blocks7 m c t (flushes t)).trans (Value.flushed7 m c t)) (ix2 p ⟨512 * i.val + q.val, by omega⟩)
  have e : (win0_7.rect t).emb (ix2 p ⟨512 * i.val + q.val, by omega⟩) = (ix2 r ⟨512 * i.val + q.val, by omega⟩ : S32768x2048.Idx) :=
    funext fun b => Fin.ext (by
      refine (win0_7.rect_emb_val t (ix2 p ⟨512 * i.val + q.val, by omega⟩) b).trans ?_
      rw [index7]
      fin_cases b <;> simp [hr] <;> omega)
  refine Eq.trans (congrArg ((dats m 0 c).arrAt 7 cfg0.N : S32768x2048.Idx → EReal) e.symm) (h.trans ?_)
  let b : Fin 16 := ⟨t.val / 4, by omega⟩
  refine (block_entry m c t b rfl p i q).trans ((entry_pooled m c t b rfl p i q).trans ?_)
  have e2 : r = ⟨2048 * b.val + (t.val % 4 * 512 + p.val), by show 2048 * (t.val / 4) + (t.val % 4 * 512 + p.val) < 32768; omega⟩ :=
    Fin.ext (by show r.val = 2048 * (t.val / 4) + (t.val % 4 * 512 + p.val); omega)
  rw [e2]
  exact (Plain.whole_apply _ _ _ _ b ⟨t.val % 4 * 512 + p.val, by omega⟩ i q).symm

theorem array : ((dats m 0 c).arrAt 7 cfg0.N : S32768x2048.Idx → EReal) = wanted m c := by
  funext y
  rw [eq_ix2 y]
  have hy : (y 0).val < 32768 := (y 0).isLt
  have hz : (y 1).val < 2048 := (y 1).isLt
  have h := array_at m c ⟨(y 0).val / 512, by rw [points]; omega⟩ ⟨(y 0).val % 512, by omega⟩ ⟨(y 1).val / 512, by omega⟩
    ⟨(y 1).val % 512, by omega⟩ (y 0) (by show (y 0).val = 512 * ((y 0).val / 512) + (y 0).val % 512; omega)
  have e : (⟨512 * ((y 1).val / 512) + (y 1).val % 512, by omega⟩ : Fin 2048) = y 1 := Fin.ext (by
    show 512 * ((y 1).val / 512) + (y 1).val % 512 = (y 1).val; omega)
  simpa only [e] using h

/-- The reference's frame. -/
theorem frame : Cert.quiescent_Reference7Ideal := fun m ρ _ =>
  (θ_run _ _ _).mono (fun r e => ⟨fun c => (e c).2, sem_eq_zero_of_no_sems (by decide) r.2⟩) (Cert.Reference7Ideal.Value.run m ρ)

/-- The packed rows' rewrites. -/
theorem ledger : Cert.preserves_Kernel7_Kernel7Ideal :=
  ⟨IdealRules.bf16_pair.bufferStatement _ _, IdealRules.bf16_pair.bufferStatement _ _, IdealRules.bf16_pair.packStatement _,
    IdealRules.bf16_pair.statement _ _⟩

/-- THE EQUATION of the pooling mixer. -/
theorem equation : Cert.algebraic_Kernel7Ideal_Reference7Ideal := fun m ρ m' ρ' _ hm => by
  refine ⟨fun c => wanted m c, ?_, ?_⟩
  · exact (θ_run _ _ _).mono (fun r e c => ⟨(e c).1.trans (array m c), (e c).2.2.2.2⟩) (Cert.Kernel7Ideal.Value.run_blocks m ρ)
  · refine (θ_run _ _ _).mono (fun r e c => ⟨(e c).1.trans ?_, (e c).2⟩) (Cert.Reference7Ideal.Value.run m' ρ')
    obtain ⟨h0, h1, h2, h3, h4, h5, h6⟩ := hm c
    rw [Plain.result_eq, h0, h1, h2, h3]
    rfl

end Cert.Proof.Pool

end
-- ==== Proof.lean ====
/-
  The assembly of the claim.
-/
module

public import proofs.«01_k».proof.Defs
public import proofs.«01_k».proof.Proof.Frames
public import proofs.«01_k».proof.Proof.Equation
public import proofs.«01_k».proof.Proof.KvqEquation
public import proofs.«01_k».proof.Proof.PosEquation
public import proofs.«01_k».proof.Proof.OprojEquation
public import proofs.«01_k».proof.Proof.PoolEquation
public import proofs.«01_k».proof.Proof.Gen.Kernel2
public import proofs.«01_k».proof.Proof.Gen.Kernel3
public import proofs.«01_k».proof.Proof.Gen.Kernel3.Frame
public import proofs.«01_k».proof.Proof.Gen.Kernel4
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel5.Frame
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel4.Frame
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run

@[expose] public section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel4.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts, Cert.Reference7Ideal.Gen.facts, launchedFacts,
    frame_p, frame_pi, frame_ri,
    fun m ρ _ => Cert.Kernel2.Gen.frame m ρ, fun m ρ _ => Cert.Kernel2Ideal.Gen.frame m ρ, Kvq.frame,
    fun m ρ _ => Cert.Kernel3.Gen.frame m ρ, fun m ρ _ => Cert.Kernel4.Gen.frame m ρ,
    fun m ρ _ => Cert.Kernel5.Gen.frame m ρ, fun m ρ _ => Cert.Kernel5Ideal.Gen.frame m ρ, Pos.frame,
    fun m ρ _ => Cert.Kernel6.Gen.frame m ρ, fun m ρ _ => Cert.Kernel6Ideal.Gen.frame m ρ, Oproj.frame,
   fun m ρ _ => Cert.Kernel7.Gen.frame m ρ, fun m ρ _ => Cert.Kernel7Ideal.Gen.frame m ρ, Pool.frame,
    ledger, equation, trivial, Kvq.equation, trivial, Pos.equation,
    Oproj.ledger, Oproj.equation, Pool.ledger, Pool.equation⟩

end Cert.Proof

end
